-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 384]⟩ ⟨2, ![768, 6144]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 384]⟩ ⟨2, ![768, 6144]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 384]⟩ ⟨2, ![768, 6144]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![384, 768]⟩ ⟨2, ![6144, 768]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![768, 192]⟩ ⟨2, ![768, 3072]⟩ 1 16 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![192, 768]⟩ ⟨2, ![3072, 768]⟩ 0 16 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x384 : Shape := ⟨2, ![768, 384]⟩
abbrev S384x768 : Shape := ⟨2, ![384, 768]⟩
abbrev S2x128 : Shape := ⟨2, ![2, 128]⟩
abbrev S128x4608 : Shape := ⟨2, ![128, 4608]⟩
abbrev S768x192 : Shape := ⟨2, ![768, 192]⟩
abbrev S192x768 : Shape := ⟨2, ![192, 768]⟩
abbrev S2x4608 : Shape := ⟨2, ![2, 4608]⟩
abbrev S2x768 : Shape := ⟨2, ![2, 768]⟩
abbrev S_ : Shape := ⟨0, ![]⟩
abbrev S2x512 : Shape := ⟨2, ![2, 512]⟩
abbrev S2x512x1 : Shape := ⟨3, ![2, 512, 1]⟩
abbrev S2x1x768 : Shape := ⟨3, ![2, 1, 768]⟩
abbrev S2x512x384 : Shape := ⟨3, ![2, 512, 384]⟩
abbrev S2x512x4x96 : Shape := ⟨4, ![2, 512, 4, 96]⟩
abbrev S2x4x512x512 : Shape := ⟨4, ![2, 4, 512, 512]⟩
abbrev S2x4x512 : Shape := ⟨3, ![2, 4, 512]⟩
abbrev S2x4x512x1 : Shape := ⟨4, ![2, 4, 512, 1]⟩
abbrev S2x4x96x512 : Shape := ⟨4, ![2, 4, 96, 512]⟩
abbrev S1024x768 : Shape := ⟨2, ![1024, 768]⟩
abbrev S12x32x768 : Shape := ⟨3, ![12, 32, 768]⟩
abbrev S3x2x32x768 : Shape := ⟨4, ![3, 2, 32, 768]⟩
abbrev S8x32x768 : Shape := ⟨3, ![8, 32, 768]⟩
abbrev S4 : Shape := ⟨1, ![4]⟩
abbrev S1 : Shape := ⟨1, ![1]⟩
abbrev S3x4 : Shape := ⟨2, ![3, 4]⟩
abbrev S3x2 : Shape := ⟨2, ![3, 2]⟩
abbrev S1x1 : Shape := ⟨2, ![1, 1]⟩
abbrev S1x32x768 : Shape := ⟨3, ![1, 32, 768]⟩
abbrev S32x768 : Shape := ⟨2, ![32, 768]⟩
abbrev S1x1x32x768 : Shape := ⟨4, ![1, 1, 32, 768]⟩
abbrev S1x768 : Shape := ⟨2, ![1, 768]⟩
abbrev S2x512x192 : Shape := ⟨3, ![2, 512, 192]⟩

abbrev nBuf : Space → Nat
  | .hbm => 156
  | .vmem => 20
  | .smem => 0
  | _ => 0

abbrev hbmTy0_0 (i : Nat) : BufTy := match i % 128 with
  | 0 => ⟨S2x512x768, .f32⟩
  | 1 => ⟨S768x384, .f32⟩
  | 2 => ⟨S768x384, .f32⟩
  | 3 => ⟨S768x384, .f32⟩
  | 4 => ⟨S384x768, .f32⟩
  | 5 => ⟨S2x128, .f32⟩
  | 6 => ⟨S128x4608, .f32⟩
  | 7 => ⟨S768x192, .f32⟩
  | 8 => ⟨S192x768, .f32⟩
  | 9 => ⟨S2x4608, .f32⟩
  | 10 => ⟨S2x768, .f32⟩
  | 11 => ⟨S2x768, .f32⟩
  | 12 => ⟨S2x768, .f32⟩
  | 13 => ⟨S2x768, .f32⟩
  | 14 => ⟨S2x768, .f32⟩
  | 15 => ⟨S2x768, .f32⟩
  | 16 => ⟨S_, .f32⟩
  | 17 => ⟨S2x512, .f32⟩
  | 18 => ⟨S2x512x1, .f32⟩
  | 19 => ⟨S_, .f32⟩
  | 20 => ⟨S2x512x1, .f32⟩
  | 21 => ⟨S2x512x1, .f32⟩
  | 22 => ⟨S_, .i32⟩
  | 23 => ⟨S_, .f32⟩
  | 24 => ⟨S2x512, .f32⟩
  | 25 => ⟨S2x512x1, .f32⟩
  | 26 => ⟨S_, .f32⟩
  | 27 => ⟨S2x512x1, .f32⟩
  | 28 => ⟨S2x512x1, .f32⟩
  | 29 => ⟨S2x512x768, .f32⟩
  | 30 => ⟨S2x512x768, .f32⟩
  | 31 => ⟨S2x512x768, .f32⟩
  | 32 => ⟨S_, .f32⟩
  | 33 => ⟨S_, .f32⟩
  | 34 => ⟨S_, .f32⟩
  | 35 => ⟨S_, .f32⟩
  | 36 => ⟨S2x512, .f32⟩
  | 37 => ⟨S2x512x1, .f32⟩
  | 38 => ⟨S2x512x1, .f32⟩
  | 39 => ⟨S2x512x1, .f32⟩
  | 40 => ⟨S_, .f32⟩
  | 41 => ⟨S_, .i1⟩
  | 42 => ⟨S_, .f32⟩
  | 43 => ⟨S_, .f32⟩
  | 44 => ⟨S2x512x1, .f32⟩
  | 45 => ⟨S2x512x1, .f32⟩
  | 46 => ⟨S2x512x768, .f32⟩
  | 47 => ⟨S2x512x768, .f32⟩
  | 48 => ⟨S_, .f32⟩
  | 49 => ⟨S2x512x1, .f32⟩
  | 50 => ⟨S2x512x1, .f32⟩
  | 51 => ⟨S2x512x1, .f32⟩
  | 52 => ⟨S2x512x768, .f32⟩
  | 53 => ⟨S2x512x768, .f32⟩
  | 54 => ⟨S2x1x768, .f32⟩
  | 55 => ⟨S_, .f32⟩
  | 56 => ⟨S2x1x768, .f32⟩
  | 57 => ⟨S2x1x768, .f32⟩
  | 58 => ⟨S2x512x768, .f32⟩
  | 59 => ⟨S2x512x768, .f32⟩
  | 60 => ⟨S2x1x768, .f32⟩
  | 61 => ⟨S2x512x768, .f32⟩
  | 62 => ⟨S2x512x768, .f32⟩
  | 63 => ⟨S2x512x384, .f32⟩
  | 64 => ⟨S2x512x4x96, .f32⟩
  | 65 => ⟨S2x512x384, .f32⟩
  | 66 => ⟨S2x512x4x96, .f32⟩
  | 67 => ⟨S2x512x384, .f32⟩
  | 68 => ⟨S2x512x4x96, .f32⟩
  | 69 => ⟨S2x4x512x512, .f32⟩
  | 70 => ⟨S_, .f32⟩
  | 71 => ⟨S2x4x512x512, .f32⟩
  | 72 => ⟨S2x4x512x512, .f32⟩
  | 73 => ⟨S_, .f32⟩
  | 74 => ⟨S2x4x512, .f32⟩
  | 75 => ⟨S_, .f32⟩
  | 76 => ⟨S2x4x512, .f32⟩
  | 77 => ⟨S2x4x512, .f32⟩
  | 78 => ⟨S2x4x512x1, .f32⟩
  | 79 => ⟨S2x4x512x512, .f32⟩
  | 80 => ⟨S2x4x512x512, .f32⟩
  | 81 => ⟨S2x4x512x512, .f32⟩
  | 82 => ⟨S_, .f32⟩
  | 83 => ⟨S2x4x512, .f32⟩
  | 84 => ⟨S2x4x512x1, .f32⟩
  | 85 => ⟨S2x4x512x512, .f32⟩
  | 86 => ⟨S2x4x512x512, .f32⟩
  | 87 => ⟨S2x4x96x512, .f32⟩
  | 88 => ⟨S2x512x4x96, .f32⟩
  | 89 => ⟨S2x512x384, .f32⟩
  | 90 => ⟨S2x512x768, .f32⟩
  | 91 => ⟨S1024x768, .f32⟩
  | 92 => ⟨S1024x768, .f32⟩
  | 93 => ⟨S1024x768, .f32⟩
  | 94 => ⟨S2x512x768, .f32⟩
  | 95 => ⟨S_, .f32⟩
  | 96 => ⟨S2x512, .f32⟩
  | 97 => ⟨S2x512x1, .f32⟩
  | 98 => ⟨S_, .f32⟩
  | 99 => ⟨S2x512x1, .f32⟩
  | 100 => ⟨S2x512x1, .f32⟩
  | 101 => ⟨S_, .i32⟩
  | 102 => ⟨S_, .f32⟩
  | 103 => ⟨S2x512, .f32⟩
  | 104 => ⟨S2x512x1, .f32⟩
  | 105 => ⟨S_, .f32⟩
  | 106 => ⟨S2x512x1, .f32⟩
  | 107 => ⟨S2x512x1, .f32⟩
  | 108 => ⟨S2x512x768, .f32⟩
  | 109 => ⟨S2x512x768, .f32⟩
  | 110 => ⟨S2x512x768, .f32⟩
  | 111 => ⟨S_, .f32⟩
  | 112 => ⟨S_, .f32⟩
  | 113 => ⟨S_, .f32⟩
  | 114 => ⟨S_, .f32⟩
  | 115 => ⟨S2x512, .f32⟩
  | 116 => ⟨S2x512x1, .f32⟩
  | 117 => ⟨S2x512x1, .f32⟩
  | 118 => ⟨S2x512x1, .f32⟩
  | 119 => ⟨S_, .f32⟩
  | 120 => ⟨S_, .i1⟩
  | 121 => ⟨S_, .f32⟩
  | 122 => ⟨S_, .f32⟩
  | 123 => ⟨S2x512x1, .f32⟩
  | 124 => ⟨S2x512x1, .f32⟩
  | 125 => ⟨S2x512x768, .f32⟩
  | 126 => ⟨S2x512x768, .f32⟩
  | 127 => ⟨S_, .f32⟩
  | _ => ⟨S2x512x768, .f32⟩

abbrev hbmTy0_1 (i : Nat) : BufTy := match i % 128 with
  | 0 => ⟨S2x512x1, .f32⟩
  | 1 => ⟨S2x512x1, .f32⟩
  | 2 => ⟨S2x512x1, .f32⟩
  | 3 => ⟨S2x512x768, .f32⟩
  | 4 => ⟨S2x512x768, .f32⟩
  | 5 => ⟨S2x1x768, .f32⟩
  | 6 => ⟨S_, .f32⟩
  | 7 => ⟨S2x1x768, .f32⟩
  | 8 => ⟨S2x1x768, .f32⟩
  | 9 => ⟨S2x512x768, .f32⟩
  | 10 => ⟨S2x512x768, .f32⟩
  | 11 => ⟨S2x1x768, .f32⟩
  | 12 => ⟨S2x512x768, .f32⟩
  | 13 => ⟨S2x512x768, .f32⟩
  | 14 => ⟨S2x512x192, .f32⟩
  | 15 => ⟨S2x512x192, .f32⟩
  | 16 => ⟨S2x512x192, .f32⟩
  | 17 => ⟨S_, .f32⟩
  | 18 => ⟨S2x512x192, .f32⟩
  | 19 => ⟨S2x512x192, .f32⟩
  | 20 => ⟨S_, .f32⟩
  | 21 => ⟨S2x512x192, .f32⟩
  | 22 => ⟨S2x512x192, .f32⟩
  | 23 => ⟨S2x512x192, .f32⟩
  | 24 => ⟨S2x512x768, .f32⟩
  | 25 => ⟨S1024x768, .f32⟩
  | 26 => ⟨S1024x768, .f32⟩
  | 27 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | .local _ .vmem, ⟨0, _⟩ => ⟨S1024x768, .f32⟩
  | .local _ .vmem, ⟨1, _⟩ => ⟨S1024x768, .f32⟩
  | .local _ .vmem, ⟨2, _⟩ => ⟨S2x768, .f32⟩
  | .local _ .vmem, ⟨3, _⟩ => ⟨S1024x768, .f32⟩
  | .local _ .vmem, ⟨4, _⟩ => ⟨S12x32x768, .f32⟩
  | .local _ .vmem, ⟨5, _⟩ => ⟨S12x32x768, .f32⟩
  | .local _ .vmem, ⟨6, _⟩ => ⟨S3x2x32x768, .f32⟩
  | .local _ .vmem, ⟨7, _⟩ => ⟨S8x32x768, .f32⟩
  | .local _ .vmem, ⟨8, _⟩ => ⟨S8x32x768, .f32⟩
  | .local _ .vmem, ⟨9, _⟩ => ⟨S3x2x32x768, .f32⟩
  | .local _ .vmem, ⟨10, _⟩ => ⟨S1024x768, .f32⟩
  | .local _ .vmem, ⟨11, _⟩ => ⟨S1024x768, .f32⟩
  | .local _ .vmem, ⟨12, _⟩ => ⟨S2x768, .f32⟩
  | .local _ .vmem, ⟨13, _⟩ => ⟨S1024x768, .f32⟩
  | .local _ .vmem, ⟨14, _⟩ => ⟨S12x32x768, .f32⟩
  | .local _ .vmem, ⟨15, _⟩ => ⟨S12x32x768, .f32⟩
  | .local _ .vmem, ⟨16, _⟩ => ⟨S3x2x32x768, .f32⟩
  | .local _ .vmem, ⟨17, _⟩ => ⟨S8x32x768, .f32⟩
  | .local _ .vmem, ⟨18, _⟩ => ⟨S8x32x768, .f32⟩
  | .local _ .vmem, ⟨19, _⟩ => ⟨S3x2x32x768, .f32⟩
  | _, _ => ⟨S2x512x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 2 → Bool
  | ⟨0, _⟩ => false
  | ⟨1, _⟩ => false
  | _ => false

abbrev dmaSemScoped : Fin 162 → Bool
  | ⟨i, _⟩ => dmaSemScopedAt i

abbrev sig : RefSig :=
  (ofTc nBuf bufTy 2 162 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_1 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_2 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_3 : Ref sig .tc := ⟨.hbm, 70, rfl⟩
abbrev main_v35 : Ref sig .tc := ⟨.hbm, 71, rfl⟩
abbrev main_v36 : Ref sig .tc := ⟨.hbm, 72, rfl⟩
abbrev main_cst_4 : Ref sig .tc := ⟨.hbm, 73, rfl⟩
abbrev main_v37 : Ref sig .tc := ⟨.hbm, 74, rfl⟩
abbrev main_cst_5 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_6 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_7 : Ref sig .tc := ⟨.hbm, 95, rfl⟩
abbrev main_v56 : Ref sig .tc := ⟨.hbm, 96, rfl⟩
abbrev main_v57 : Ref sig .tc := ⟨.hbm, 97, rfl⟩
abbrev main_cst_8 : Ref sig .tc := ⟨.hbm, 98, rfl⟩
abbrev main_v58 : Ref sig .tc := ⟨.hbm, 99, rfl⟩
abbrev main_v59 : Ref sig .tc := ⟨.hbm, 100, rfl⟩
abbrev main_c_9 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_v12 : Ref sig .tc := ⟨.hbm, 118, rfl⟩
abbrev main_call1_cst_3 : Ref sig .tc := ⟨.hbm, 119, rfl⟩
abbrev main_call1_v13 : Ref sig .tc := ⟨.hbm, 120, rfl⟩
abbrev main_call1_cst_4 : Ref sig .tc := ⟨.hbm, 121, rfl⟩
abbrev main_call1_call0_v0 : Ref sig .tc := ⟨.hbm, 122, rfl⟩
abbrev main_call1_call0_v1 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_cst_10 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_11 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_cst_12 : Ref sig .tc := ⟨.hbm, 145, rfl⟩
abbrev main_v79 : Ref sig .tc := ⟨.hbm, 146, rfl⟩
abbrev main_v80 : Ref sig .tc := ⟨.hbm, 147, rfl⟩
abbrev main_cst_13 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc1_scratch4 : Ref sig .tc := ⟨.vmem, 18, rfl⟩
abbrev cc1_scratch5 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 81
abbrev cc1_sem1_0 : DmaSem sig := 82
abbrev cc1_sem2_0 : DmaSem sig := 83
abbrev cc1_sem3_0 : DmaSem sig := 84
abbrev barrier0 : Sem sig := 0
abbrev barrier1 : Sem sig := 1

abbrev nD : Nat := 16
abbrev τ : Topo := Topo.v7x

variable {F : FTy → Type} [FloatOps F]

abbrev grid0 : Pipeline.Grid := .none

def k0_dev1 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_57 : BitVec 32 := 1#32
  let v105 : BitVec 32 := Scalar.muli v55 c1_i32_57
  let v106 : BitVec 32 := Scalar.addi c0_i32_58 v105
  v106.toNat
def k0_dev2 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_60 : BitVec 32 := 1#32
  let v107 : BitVec 32 := Scalar.muli v42 c1_i32_60
  let v108 : BitVec 32 := Scalar.addi c0_i32_61 v107
  v108.toNat
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_63 : BitVec 32 := 1#32
  let v109 : BitVec 32 := Scalar.muli v68 c1_i32_63
  let v110 : BitVec 32 := Scalar.addi c0_i32_64 v109
  v110.toNat
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_66 : BitVec 32 := 1#32
  let v111 : BitVec 32 := Scalar.muli v81 c1_i32_66
  let v112 : BitVec 32 := Scalar.addi c0_i32_67 v111
  v112.toNat
def k0_off1 (d0 : Dev nD) (c0_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32 : BitVec 32 := 256#32
  let v124 : BitVec 32 := Scalar.muli v29 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v113 : BitVec 32 := Scalar.subi v19 c0_i32_69
  let c4_i32_70 : BitVec 32 := 4#32
  let c0_i32_71 : BitVec 32 := 0#32
  let v114 : BitVec 1 := Scalar.cmpi .eq c4_i32_70 c0_i32_71
  let c1_i32_72 : BitVec 32 := 1#32
  let v115 : BitVec 32 := Scalar.select v114 c1_i32_72 c4_i32_70
  let v116 : BitVec 32 := Scalar.remsi v113 v115
  let c0_i32_74 : BitVec 32 := 0#32
  let v118 : BitVec 1 := Scalar.cmpi .slt v116 c0_i32_74
  let c0_i32_75 : BitVec 32 := 0#32
  let v119 : BitVec 1 := Scalar.cmpi .slt v115 c0_i32_75
  let v120 : BitVec 1 := Scalar.xori v118 v119
  let c0_i32_73 : BitVec 32 := 0#32
  let v117 : BitVec 1 := Scalar.cmpi .ne v116 c0_i32_73
  let v121 : BitVec 1 := Scalar.andi v120 v117
  let v122 : BitVec 32 := Scalar.addi v116 v115
  let v123 : BitVec 32 := Scalar.select v121 v122 v116
  let c32_i32 : BitVec 32 := 32#32
  let v125 : BitVec 32 := Scalar.muli v123 c32_i32
  let v126 : BitVec 32 := Scalar.addi v124 v125
  let c0_i32_84 : BitVec 32 := 0#32
  ![v126.toNat, 0]
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_80 : BitVec 32 := 1#32
  let v127 : BitVec 32 := Scalar.muli v55 c1_i32_80
  let v128 : BitVec 32 := Scalar.addi c0_i32_81 v127
  v128.toNat
def k0_off2 (d0 : Dev nD) (c0_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_85 : BitVec 32 := 3#32
  let v136 : BitVec 32 := Scalar.addi v29 c3_i32_85
  let c4_i32_86 : BitVec 32 := 4#32
  let c0_i32_87 : BitVec 32 := 0#32
  let v137 : BitVec 1 := Scalar.cmpi .eq c4_i32_86 c0_i32_87
  let c1_i32_88 : BitVec 32 := 1#32
  let v138 : BitVec 32 := Scalar.select v137 c1_i32_88 c4_i32_86
  let v139 : BitVec 32 := Scalar.remsi v136 v138
  let c0_i32_90 : BitVec 32 := 0#32
  let v141 : BitVec 1 := Scalar.cmpi .slt v139 c0_i32_90
  let c0_i32_91 : BitVec 32 := 0#32
  let v142 : BitVec 1 := Scalar.cmpi .slt v138 c0_i32_91
  let v143 : BitVec 1 := Scalar.xori v141 v142
  let c0_i32_89 : BitVec 32 := 0#32
  let v140 : BitVec 1 := Scalar.cmpi .ne v139 c0_i32_89
  let v144 : BitVec 1 := Scalar.andi v143 v140
  let v145 : BitVec 32 := Scalar.addi v139 v138
  let v146 : BitVec 32 := Scalar.select v144 v145 v139
  let c256_i32_92 : BitVec 32 := 256#32
  let v147 : BitVec 32 := Scalar.muli v146 c256_i32_92
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v113 : BitVec 32 := Scalar.subi v19 c0_i32_69
  let c4_i32_70 : BitVec 32 := 4#32
  let c0_i32_71 : BitVec 32 := 0#32
  let v114 : BitVec 1 := Scalar.cmpi .eq c4_i32_70 c0_i32_71
  let c1_i32_72 : BitVec 32 := 1#32
  let v115 : BitVec 32 := Scalar.select v114 c1_i32_72 c4_i32_70
  let v116 : BitVec 32 := Scalar.remsi v113 v115
  let c0_i32_74 : BitVec 32 := 0#32
  let v118 : BitVec 1 := Scalar.cmpi .slt v116 c0_i32_74
  let c0_i32_75 : BitVec 32 := 0#32
  let v119 : BitVec 1 := Scalar.cmpi .slt v115 c0_i32_75
  let v120 : BitVec 1 := Scalar.xori v118 v119
  let c0_i32_73 : BitVec 32 := 0#32
  let v117 : BitVec 1 := Scalar.cmpi .ne v116 c0_i32_73
  let v121 : BitVec 1 := Scalar.andi v120 v117
  let v122 : BitVec 32 := Scalar.addi v116 v115
  let v123 : BitVec 32 := Scalar.select v121 v122 v116
  let c32_i32_93 : BitVec 32 := 32#32
  let v148 : BitVec 32 := Scalar.muli v123 c32_i32_93
  let v149 : BitVec 32 := Scalar.addi v147 v148
  let c0_i32_102 : BitVec 32 := 0#32
  ![v149.toNat, 0]
def k0_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_98 : BitVec 32 := 1#32
  let v150 : BitVec 32 := Scalar.muli v42 c1_i32_98
  let v151 : BitVec 32 := Scalar.addi c0_i32_99 v150
  v151.toNat
def k0_off3 (d0 : Dev nD) (c0_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32_103 : BitVec 32 := 256#32
  let v159 : BitVec 32 := Scalar.muli v29 c256_i32_103
  let c128_i32 : BitVec 32 := 128#32
  let v160 : BitVec 32 := Scalar.addi v159 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v113 : BitVec 32 := Scalar.subi v19 c0_i32_69
  let c4_i32_70 : BitVec 32 := 4#32
  let c0_i32_71 : BitVec 32 := 0#32
  let v114 : BitVec 1 := Scalar.cmpi .eq c4_i32_70 c0_i32_71
  let c1_i32_72 : BitVec 32 := 1#32
  let v115 : BitVec 32 := Scalar.select v114 c1_i32_72 c4_i32_70
  let v116 : BitVec 32 := Scalar.remsi v113 v115
  let c0_i32_74 : BitVec 32 := 0#32
  let v118 : BitVec 1 := Scalar.cmpi .slt v116 c0_i32_74
  let c0_i32_75 : BitVec 32 := 0#32
  let v119 : BitVec 1 := Scalar.cmpi .slt v115 c0_i32_75
  let v120 : BitVec 1 := Scalar.xori v118 v119
  let c0_i32_73 : BitVec 32 := 0#32
  let v117 : BitVec 1 := Scalar.cmpi .ne v116 c0_i32_73
  let v121 : BitVec 1 := Scalar.andi v120 v117
  let v122 : BitVec 32 := Scalar.addi v116 v115
  let v123 : BitVec 32 := Scalar.select v121 v122 v116
  let c32_i32_104 : BitVec 32 := 32#32
  let v161 : BitVec 32 := Scalar.muli v123 c32_i32_104
  let v162 : BitVec 32 := Scalar.addi v160 v161
  let c0_i32_113 : BitVec 32 := 0#32
  ![v162.toNat, 0]
def k0_dev7 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_109 : BitVec 32 := 1#32
  let v163 : BitVec 32 := Scalar.muli v42 c1_i32_109
  let v164 : BitVec 32 := Scalar.addi c0_i32_110 v163
  v164.toNat
def k0_off4 (d0 : Dev nD) (c0_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_114 : BitVec 32 := 1#32
  let v172 : BitVec 32 := Scalar.addi v29 c1_i32_114
  let c4_i32_115 : BitVec 32 := 4#32
  let c0_i32_116 : BitVec 32 := 0#32
  let v173 : BitVec 1 := Scalar.cmpi .eq c4_i32_115 c0_i32_116
  let c1_i32_117 : BitVec 32 := 1#32
  let v174 : BitVec 32 := Scalar.select v173 c1_i32_117 c4_i32_115
  let v175 : BitVec 32 := Scalar.remsi v172 v174
  let c0_i32_119 : BitVec 32 := 0#32
  let v177 : BitVec 1 := Scalar.cmpi .slt v175 c0_i32_119
  let c0_i32_120 : BitVec 32 := 0#32
  let v178 : BitVec 1 := Scalar.cmpi .slt v174 c0_i32_120
  let v179 : BitVec 1 := Scalar.xori v177 v178
  let c0_i32_118 : BitVec 32 := 0#32
  let v176 : BitVec 1 := Scalar.cmpi .ne v175 c0_i32_118
  let v180 : BitVec 1 := Scalar.andi v179 v176
  let v181 : BitVec 32 := Scalar.addi v175 v174
  let v182 : BitVec 32 := Scalar.select v180 v181 v175
  let c256_i32_121 : BitVec 32 := 256#32
  let v183 : BitVec 32 := Scalar.muli v182 c256_i32_121
  let c128_i32_122 : BitVec 32 := 128#32
  let v184 : BitVec 32 := Scalar.addi v183 c128_i32_122
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v113 : BitVec 32 := Scalar.subi v19 c0_i32_69
  let c4_i32_70 : BitVec 32 := 4#32
  let c0_i32_71 : BitVec 32 := 0#32
  let v114 : BitVec 1 := Scalar.cmpi .eq c4_i32_70 c0_i32_71
  let c1_i32_72 : BitVec 32 := 1#32
  let v115 : BitVec 32 := Scalar.select v114 c1_i32_72 c4_i32_70
  let v116 : BitVec 32 := Scalar.remsi v113 v115
  let c0_i32_74 : BitVec 32 := 0#32
  let v118 : BitVec 1 := Scalar.cmpi .slt v116 c0_i32_74
  let c0_i32_75 : BitVec 32 := 0#32
  let v119 : BitVec 1 := Scalar.cmpi .slt v115 c0_i32_75
  let v120 : BitVec 1 := Scalar.xori v118 v119
  let c0_i32_73 : BitVec 32 := 0#32
  let v117 : BitVec 1 := Scalar.cmpi .ne v116 c0_i32_73
  let v121 : BitVec 1 := Scalar.andi v120 v117
  let v122 : BitVec 32 := Scalar.addi v116 v115
  let v123 : BitVec 32 := Scalar.select v121 v122 v116
  let c32_i32_123 : BitVec 32 := 32#32
  let v185 : BitVec 32 := Scalar.muli v123 c32_i32_123
  let v186 : BitVec 32 := Scalar.addi v184 v185
  let c0_i32_132 : BitVec 32 := 0#32
  ![v186.toNat, 0]
def k0_dev8 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_128 : BitVec 32 := 1#32
  let v187 : BitVec 32 := Scalar.muli v55 c1_i32_128
  let v188 : BitVec 32 := Scalar.addi c0_i32_129 v187
  v188.toNat
def k0_dev9 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_144 : BitVec 32 := 1#32
  let v210 : BitVec 32 := Scalar.muli v55 c1_i32_144
  let v211 : BitVec 32 := Scalar.addi c0_i32_145 v210
  v211.toNat
def k0_dev10 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_170 : BitVec 32 := 1#32
  let v238 : BitVec 32 := Scalar.muli v42 c1_i32_170
  let v239 : BitVec 32 := Scalar.addi c0_i32_171 v238
  v239.toNat
def k0_dev11 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_190 : BitVec 32 := 1#32
  let v256 : BitVec 32 := Scalar.muli v42 c1_i32_190
  let v257 : BitVec 32 := Scalar.addi c0_i32_191 v256
  v257.toNat
def k0_dev12 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_217 : BitVec 32 := 1#32
  let v285 : BitVec 32 := Scalar.muli v55 c1_i32_217
  let v286 : BitVec 32 := Scalar.addi c0_i32_218 v285
  v286.toNat
def k0_dev13 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_242 : BitVec 32 := 1#32
  let v313 : BitVec 32 := Scalar.muli v55 c1_i32_242
  let v314 : BitVec 32 := Scalar.addi c0_i32_243 v313
  v314.toNat
def k0_dev14 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_268 : BitVec 32 := 1#32
  let v341 : BitVec 32 := Scalar.muli v42 c1_i32_268
  let v342 : BitVec 32 := Scalar.addi c0_i32_269 v341
  v342.toNat
def k0_dev15 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_288 : BitVec 32 := 1#32
  let v359 : BitVec 32 := Scalar.muli v42 c1_i32_288
  let v360 : BitVec 32 := Scalar.addi c0_i32_289 v359
  v360.toNat
def k0_dev16 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_315 : BitVec 32 := 1#32
  let v388 : BitVec 32 := Scalar.muli v55 c1_i32_315
  let v389 : BitVec 32 := Scalar.addi c0_i32_316 v388
  v389.toNat
def k0_dev17 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_340 : BitVec 32 := 1#32
  let v416 : BitVec 32 := Scalar.muli v55 c1_i32_340
  let v417 : BitVec 32 := Scalar.addi c0_i32_341 v416
  v417.toNat
def k0_dev18 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_366 : BitVec 32 := 1#32
  let v444 : BitVec 32 := Scalar.muli v42 c1_i32_366
  let v445 : BitVec 32 := Scalar.addi c0_i32_367 v444
  v445.toNat
def k0_dev19 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_386 : BitVec 32 := 1#32
  let v462 : BitVec 32 := Scalar.muli v42 c1_i32_386
  let v463 : BitVec 32 := Scalar.addi c0_i32_387 v462
  v463.toNat
def k0_dev20 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_413 : BitVec 32 := 1#32
  let v491 : BitVec 32 := Scalar.muli v55 c1_i32_413
  let v492 : BitVec 32 := Scalar.addi c0_i32_414 v491
  v492.toNat
def k0_off5 (d0 : Dev nD) (c2_i32_444 : BitVec 32) (c0_i32_426 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v524 : BitVec 32 := Scalar.addi v29 c2_i32_444
  let c4_i32_445 : BitVec 32 := 4#32
  let c0_i32_446 : BitVec 32 := 0#32
  let v525 : BitVec 1 := Scalar.cmpi .eq c4_i32_445 c0_i32_446
  let c1_i32_447 : BitVec 32 := 1#32
  let v526 : BitVec 32 := Scalar.select v525 c1_i32_447 c4_i32_445
  let v527 : BitVec 32 := Scalar.remsi v524 v526
  let c0_i32_449 : BitVec 32 := 0#32
  let v529 : BitVec 1 := Scalar.cmpi .slt v527 c0_i32_449
  let c0_i32_450 : BitVec 32 := 0#32
  let v530 : BitVec 1 := Scalar.cmpi .slt v526 c0_i32_450
  let v531 : BitVec 1 := Scalar.xori v529 v530
  let c0_i32_448 : BitVec 32 := 0#32
  let v528 : BitVec 1 := Scalar.cmpi .ne v527 c0_i32_448
  let v532 : BitVec 1 := Scalar.andi v531 v528
  let v533 : BitVec 32 := Scalar.addi v527 v526
  let v534 : BitVec 32 := Scalar.select v532 v533 v527
  let c256_i32_451 : BitVec 32 := 256#32
  let v535 : BitVec 32 := Scalar.muli v534 c256_i32_451
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v505 : BitVec 32 := Scalar.subi v19 c0_i32_426
  let c4_i32_427 : BitVec 32 := 4#32
  let c0_i32_428 : BitVec 32 := 0#32
  let v506 : BitVec 1 := Scalar.cmpi .eq c4_i32_427 c0_i32_428
  let c1_i32_429 : BitVec 32 := 1#32
  let v507 : BitVec 32 := Scalar.select v506 c1_i32_429 c4_i32_427
  let v508 : BitVec 32 := Scalar.remsi v505 v507
  let c0_i32_431 : BitVec 32 := 0#32
  let v510 : BitVec 1 := Scalar.cmpi .slt v508 c0_i32_431
  let c0_i32_432 : BitVec 32 := 0#32
  let v511 : BitVec 1 := Scalar.cmpi .slt v507 c0_i32_432
  let v512 : BitVec 1 := Scalar.xori v510 v511
  let c0_i32_430 : BitVec 32 := 0#32
  let v509 : BitVec 1 := Scalar.cmpi .ne v508 c0_i32_430
  let v513 : BitVec 1 := Scalar.andi v512 v509
  let v514 : BitVec 32 := Scalar.addi v508 v507
  let v515 : BitVec 32 := Scalar.select v513 v514 v508
  let c32_i32_452 : BitVec 32 := 32#32
  let v536 : BitVec 32 := Scalar.muli v515 c32_i32_452
  let v537 : BitVec 32 := Scalar.addi v535 v536
  let v538 : Index := Scalar.indexCast v537
  let c0 : Index := 0#32
  ![v538.toNat, 0]
def k0_dev21 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_463 : BitVec 32 := 1#32
  let v547 : BitVec 32 := Scalar.muli v42 c1_i32_463
  let v548 : BitVec 32 := Scalar.addi c0_i32_464 v547
  v548.toNat
def k0_off6 (d0 : Dev nD) (c2_i32_488 : BitVec 32) (c0_i32_426 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v570 : BitVec 32 := Scalar.addi v29 c2_i32_488
  let c4_i32_489 : BitVec 32 := 4#32
  let c0_i32_490 : BitVec 32 := 0#32
  let v571 : BitVec 1 := Scalar.cmpi .eq c4_i32_489 c0_i32_490
  let c1_i32_491 : BitVec 32 := 1#32
  let v572 : BitVec 32 := Scalar.select v571 c1_i32_491 c4_i32_489
  let v573 : BitVec 32 := Scalar.remsi v570 v572
  let c0_i32_493 : BitVec 32 := 0#32
  let v575 : BitVec 1 := Scalar.cmpi .slt v573 c0_i32_493
  let c0_i32_494 : BitVec 32 := 0#32
  let v576 : BitVec 1 := Scalar.cmpi .slt v572 c0_i32_494
  let v577 : BitVec 1 := Scalar.xori v575 v576
  let c0_i32_492 : BitVec 32 := 0#32
  let v574 : BitVec 1 := Scalar.cmpi .ne v573 c0_i32_492
  let v578 : BitVec 1 := Scalar.andi v577 v574
  let v579 : BitVec 32 := Scalar.addi v573 v572
  let v580 : BitVec 32 := Scalar.select v578 v579 v573
  let c256_i32_495 : BitVec 32 := 256#32
  let v581 : BitVec 32 := Scalar.muli v580 c256_i32_495
  let c128_i32_496 : BitVec 32 := 128#32
  let v582 : BitVec 32 := Scalar.addi v581 c128_i32_496
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v505 : BitVec 32 := Scalar.subi v19 c0_i32_426
  let c4_i32_427 : BitVec 32 := 4#32
  let c0_i32_428 : BitVec 32 := 0#32
  let v506 : BitVec 1 := Scalar.cmpi .eq c4_i32_427 c0_i32_428
  let c1_i32_429 : BitVec 32 := 1#32
  let v507 : BitVec 32 := Scalar.select v506 c1_i32_429 c4_i32_427
  let v508 : BitVec 32 := Scalar.remsi v505 v507
  let c0_i32_431 : BitVec 32 := 0#32
  let v510 : BitVec 1 := Scalar.cmpi .slt v508 c0_i32_431
  let c0_i32_432 : BitVec 32 := 0#32
  let v511 : BitVec 1 := Scalar.cmpi .slt v507 c0_i32_432
  let v512 : BitVec 1 := Scalar.xori v510 v511
  let c0_i32_430 : BitVec 32 := 0#32
  let v509 : BitVec 1 := Scalar.cmpi .ne v508 c0_i32_430
  let v513 : BitVec 1 := Scalar.andi v512 v509
  let v514 : BitVec 32 := Scalar.addi v508 v507
  let v515 : BitVec 32 := Scalar.select v513 v514 v508
  let c32_i32_497 : BitVec 32 := 32#32
  let v583 : BitVec 32 := Scalar.muli v515 c32_i32_497
  let v584 : BitVec 32 := Scalar.addi v582 v583
  let v585 : Index := Scalar.indexCast v584
  let c0_498 : Index := 0#32
  ![v585.toNat, 0]
def k0_off6_at (r : Fin 7) : BitVec 32 × BitVec 32 :=
  if r.val < 3 then
    if r.val < 1 then
      (2#32, 0#32)
    else
      if r.val < 2 then
        (2#32, 1#32)
      else
        (2#32, 2#32)
  else
    if r.val < 5 then
      if r.val < 4 then
        (2#32, 3#32)
      else
        (3#32, 1#32)
    else
      if r.val < 6 then
        (3#32, 2#32)
      else
        (3#32, 3#32)
def k0_dev22 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_510 : BitVec 32 := 1#32
  let v594 : BitVec 32 := Scalar.muli v55 c1_i32_510
  let v595 : BitVec 32 := Scalar.addi c0_i32_511 v594
  v595.toNat
def k0_dev23 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_561 : BitVec 32 := 1#32
  let v651 : BitVec 32 := Scalar.muli v42 c1_i32_561
  let v652 : BitVec 32 := Scalar.addi c0_i32_562 v651
  v652.toNat
def k0_dev24 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_608 : BitVec 32 := 1#32
  let v698 : BitVec 32 := Scalar.muli v55 c1_i32_608
  let v699 : BitVec 32 := Scalar.addi c0_i32_609 v698
  v699.toNat
def k0_dev25 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_659 : BitVec 32 := 1#32
  let v755 : BitVec 32 := Scalar.muli v42 c1_i32_659
  let v756 : BitVec 32 := Scalar.addi c0_i32_660 v755
  v756.toNat
def k0_dev26 (d0 : Dev nD) : Nat :=
  let c0_i32_709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_708 : BitVec 32 := 1#32
  let v803 : BitVec 32 := Scalar.muli v55 c1_i32_708
  let v804 : BitVec 32 := Scalar.addi c0_i32_709 v803
  v804.toNat
def k0_dev27 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_761 : BitVec 32 := 1#32
  let v861 : BitVec 32 := Scalar.muli v42 c1_i32_761
  let v862 : BitVec 32 := Scalar.addi c0_i32_762 v861
  v862.toNat
def k0_dev28 (d0 : Dev nD) : Nat :=
  let c0_i32_811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_810 : BitVec 32 := 1#32
  let v909 : BitVec 32 := Scalar.muli v55 c1_i32_810
  let v910 : BitVec 32 := Scalar.addi c0_i32_811 v909
  v910.toNat
def k0_dev29 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_895 : BitVec 32 := 1#32
  let v983 : BitVec 32 := Scalar.muli v81 c1_i32_895
  let v984 : BitVec 32 := Scalar.addi c0_i32_896 v983
  v984.toNat
def k0_dev30 (d0 : Dev nD) : Nat :=
  let c0_i32_981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_980 : BitVec 32 := 1#32
  let v1064 : BitVec 32 := Scalar.muli v68 c1_i32_980
  let v1065 : BitVec 32 := Scalar.addi c0_i32_981 v1064
  v1065.toNat
def k0_dev31 (d0 : Dev nD) : Nat :=
  let c0_i32_998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_997 : BitVec 32 := 1#32
  let v1077 : BitVec 32 := Scalar.muli v81 c1_i32_997
  let v1078 : BitVec 32 := Scalar.addi c0_i32_998 v1077
  v1078.toNat
def k0_dev32 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1099 : BitVec 32 := 1#32
  let v1169 : BitVec 32 := Scalar.muli v68 c1_i32_1099
  let v1170 : BitVec 32 := Scalar.addi c0_i32_1100 v1169
  v1170.toNat
def k0_dev33 (d0 : Dev nD) : Nat :=
  let c0_i32_1117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1116 : BitVec 32 := 1#32
  let v1182 : BitVec 32 := Scalar.muli v68 c1_i32_1116
  let v1183 : BitVec 32 := Scalar.addi c0_i32_1117 v1182
  v1183.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_49 : BitVec 32 := 3#32
  let v93 : BitVec 32 := Scalar.addi v29 c3_i32_49
  let c4_i32_50 : BitVec 32 := 4#32
  let c0_i32_51 : BitVec 32 := 0#32
  let v94 : BitVec 1 := Scalar.cmpi .eq c4_i32_50 c0_i32_51
  let c1_i32_52 : BitVec 32 := 1#32
  let v95 : BitVec 32 := Scalar.select v94 c1_i32_52 c4_i32_50
  let v96 : BitVec 32 := Scalar.remsi v93 v95
  let c0_i32_54 : BitVec 32 := 0#32
  let v98 : BitVec 1 := Scalar.cmpi .slt v96 c0_i32_54
  let c0_i32_55 : BitVec 32 := 0#32
  let v99 : BitVec 1 := Scalar.cmpi .slt v95 c0_i32_55
  let v100 : BitVec 1 := Scalar.xori v98 v99
  let c0_i32_53 : BitVec 32 := 0#32
  let v97 : BitVec 1 := Scalar.cmpi .ne v96 c0_i32_53
  let v101 : BitVec 1 := Scalar.andi v100 v97
  let v102 : BitVec 32 := Scalar.addi v96 v95
  let v103 : BitVec 32 := Scalar.select v101 v102 v96
  let c256_i32_1147 : BitVec 32 := 256#32
  let v1206 : BitVec 32 := Scalar.muli v103 c256_i32_1147
  let c128_i32_1148 : BitVec 32 := 128#32
  let v1207 : BitVec 32 := Scalar.addi v1206 c128_i32_1148
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32_1149 : BitVec 32 := 32#32
  let v1208 : BitVec 32 := Scalar.muli v19 c32_i32_1149
  let v1209 : BitVec 32 := Scalar.addi v1207 v1208
  let v1210 : Index := Scalar.indexCast v1209
  let c0_1150 : Index := 0#32
  ![v1210.toNat, 0]
def k0_dev34 (d0 : Dev nD) : Nat :=
  let c0_i32_1173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1172 : BitVec 32 := 1#32
  let v1225 : BitVec 32 := Scalar.muli v81 c1_i32_1172
  let v1226 : BitVec 32 := Scalar.addi c0_i32_1173 v1225
  v1226.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_42 : BitVec 32 := 1#32
  let v82 : BitVec 32 := Scalar.addi v29 c1_i32_42
  let c4_i32_43 : BitVec 32 := 4#32
  let c0_i32_44 : BitVec 32 := 0#32
  let v83 : BitVec 1 := Scalar.cmpi .eq c4_i32_43 c0_i32_44
  let c1_i32_45 : BitVec 32 := 1#32
  let v84 : BitVec 32 := Scalar.select v83 c1_i32_45 c4_i32_43
  let v85 : BitVec 32 := Scalar.remsi v82 v84
  let c0_i32_47 : BitVec 32 := 0#32
  let v87 : BitVec 1 := Scalar.cmpi .slt v85 c0_i32_47
  let c0_i32_48 : BitVec 32 := 0#32
  let v88 : BitVec 1 := Scalar.cmpi .slt v84 c0_i32_48
  let v89 : BitVec 1 := Scalar.xori v87 v88
  let c0_i32_46 : BitVec 32 := 0#32
  let v86 : BitVec 1 := Scalar.cmpi .ne v85 c0_i32_46
  let v90 : BitVec 1 := Scalar.andi v89 v86
  let v91 : BitVec 32 := Scalar.addi v85 v84
  let v92 : BitVec 32 := Scalar.select v90 v91 v85
  let c256_i32_1326 : BitVec 32 := 256#32
  let v1353 : BitVec 32 := Scalar.muli v92 c256_i32_1326
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1190 : BitVec 32 := 3#32
  let v1241 : BitVec 32 := Scalar.subi v19 c3_i32_1190
  let c4_i32_1191 : BitVec 32 := 4#32
  let c0_i32_1192 : BitVec 32 := 0#32
  let v1242 : BitVec 1 := Scalar.cmpi .eq c4_i32_1191 c0_i32_1192
  let c1_i32_1193 : BitVec 32 := 1#32
  let v1243 : BitVec 32 := Scalar.select v1242 c1_i32_1193 c4_i32_1191
  let v1244 : BitVec 32 := Scalar.remsi v1241 v1243
  let c0_i32_1195 : BitVec 32 := 0#32
  let v1246 : BitVec 1 := Scalar.cmpi .slt v1244 c0_i32_1195
  let c0_i32_1196 : BitVec 32 := 0#32
  let v1247 : BitVec 1 := Scalar.cmpi .slt v1243 c0_i32_1196
  let v1248 : BitVec 1 := Scalar.xori v1246 v1247
  let c0_i32_1194 : BitVec 32 := 0#32
  let v1245 : BitVec 1 := Scalar.cmpi .ne v1244 c0_i32_1194
  let v1249 : BitVec 1 := Scalar.andi v1248 v1245
  let v1250 : BitVec 32 := Scalar.addi v1244 v1243
  let v1251 : BitVec 32 := Scalar.select v1249 v1250 v1244
  let c32_i32_1327 : BitVec 32 := 32#32
  let v1354 : BitVec 32 := Scalar.muli v1251 c32_i32_1327
  let v1355 : BitVec 32 := Scalar.addi v1353 v1354
  let c0_i32_1331 : BitVec 32 := 0#32
  let v1361 : BitVec 1 := Scalar.cmpi .sgt v1355 c0_i32_1331
  let v1362 : BitVec 32 := Scalar.extui v1361
  let c0_i32_1332 : BitVec 32 := 0#32
  let v1363 : BitVec 1 := Scalar.cmpi .slt v1355 c0_i32_1332
  let v1364 : BitVec 32 := Scalar.extui v1363
  let v1365 : BitVec 32 := Scalar.subi v1362 v1364
  let c512_i32 : BitVec 32 := 512#32
  let c0_i32_1333 : BitVec 32 := 0#32
  let v1366 : BitVec 1 := Scalar.cmpi .sgt c512_i32 c0_i32_1333
  let v1367 : BitVec 32 := Scalar.extui v1366
  let c0_i32_1334 : BitVec 32 := 0#32
  let v1368 : BitVec 1 := Scalar.cmpi .slt c512_i32 c0_i32_1334
  let v1369 : BitVec 32 := Scalar.extui v1368
  let v1370 : BitVec 32 := Scalar.subi v1367 v1369
  let v1371 : BitVec 1 := Scalar.cmpi .ne v1365 v1370
  let v1372 : BitVec 32 := Scalar.remsi v1355 c512_i32
  let c0_i32_1335 : BitVec 32 := 0#32
  let v1373 : BitVec 1 := Scalar.cmpi .ne v1372 c0_i32_1335
  let v1374 : BitVec 1 := Scalar.andi v1371 v1373
  let v1360 : BitVec 32 := Scalar.divsi v1355 c512_i32
  let c1_i32_1336 : BitVec 32 := 1#32
  let v1375 : BitVec 32 := Scalar.subi v1360 c1_i32_1336
  let v1376 : BitVec 32 := Scalar.select v1374 v1375 v1360
  let v1377 : Index := Scalar.indexCast v1376
  let c0_1337 : Index := 0#32
  ![v1377.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_49 : BitVec 32 := 3#32
  let v93 : BitVec 32 := Scalar.addi v29 c3_i32_49
  let c4_i32_50 : BitVec 32 := 4#32
  let c0_i32_51 : BitVec 32 := 0#32
  let v94 : BitVec 1 := Scalar.cmpi .eq c4_i32_50 c0_i32_51
  let c1_i32_52 : BitVec 32 := 1#32
  let v95 : BitVec 32 := Scalar.select v94 c1_i32_52 c4_i32_50
  let v96 : BitVec 32 := Scalar.remsi v93 v95
  let c0_i32_54 : BitVec 32 := 0#32
  let v98 : BitVec 1 := Scalar.cmpi .slt v96 c0_i32_54
  let c0_i32_55 : BitVec 32 := 0#32
  let v99 : BitVec 1 := Scalar.cmpi .slt v95 c0_i32_55
  let v100 : BitVec 1 := Scalar.xori v98 v99
  let c0_i32_53 : BitVec 32 := 0#32
  let v97 : BitVec 1 := Scalar.cmpi .ne v96 c0_i32_53
  let v101 : BitVec 1 := Scalar.andi v100 v97
  let v102 : BitVec 32 := Scalar.addi v96 v95
  let v103 : BitVec 32 := Scalar.select v101 v102 v96
  let c256_i32_1328 : BitVec 32 := 256#32
  let v1356 : BitVec 32 := Scalar.muli v103 c256_i32_1328
  let c128_i32_1329 : BitVec 32 := 128#32
  let v1357 : BitVec 32 := Scalar.addi v1356 c128_i32_1329
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1190 : BitVec 32 := 3#32
  let v1241 : BitVec 32 := Scalar.subi v19 c3_i32_1190
  let c4_i32_1191 : BitVec 32 := 4#32
  let c0_i32_1192 : BitVec 32 := 0#32
  let v1242 : BitVec 1 := Scalar.cmpi .eq c4_i32_1191 c0_i32_1192
  let c1_i32_1193 : BitVec 32 := 1#32
  let v1243 : BitVec 32 := Scalar.select v1242 c1_i32_1193 c4_i32_1191
  let v1244 : BitVec 32 := Scalar.remsi v1241 v1243
  let c0_i32_1195 : BitVec 32 := 0#32
  let v1246 : BitVec 1 := Scalar.cmpi .slt v1244 c0_i32_1195
  let c0_i32_1196 : BitVec 32 := 0#32
  let v1247 : BitVec 1 := Scalar.cmpi .slt v1243 c0_i32_1196
  let v1248 : BitVec 1 := Scalar.xori v1246 v1247
  let c0_i32_1194 : BitVec 32 := 0#32
  let v1245 : BitVec 1 := Scalar.cmpi .ne v1244 c0_i32_1194
  let v1249 : BitVec 1 := Scalar.andi v1248 v1245
  let v1250 : BitVec 32 := Scalar.addi v1244 v1243
  let v1251 : BitVec 32 := Scalar.select v1249 v1250 v1244
  let c32_i32_1330 : BitVec 32 := 32#32
  let v1358 : BitVec 32 := Scalar.muli v1251 c32_i32_1330
  let v1359 : BitVec 32 := Scalar.addi v1357 v1358
  let c0_i32_1341 : BitVec 32 := 0#32
  let v1389 : BitVec 1 := Scalar.cmpi .sgt v1359 c0_i32_1341
  let v1390 : BitVec 32 := Scalar.extui v1389
  let c0_i32_1342 : BitVec 32 := 0#32
  let v1391 : BitVec 1 := Scalar.cmpi .slt v1359 c0_i32_1342
  let v1392 : BitVec 32 := Scalar.extui v1391
  let v1393 : BitVec 32 := Scalar.subi v1390 v1392
  let c512_i32_1340 : BitVec 32 := 512#32
  let c0_i32_1343 : BitVec 32 := 0#32
  let v1394 : BitVec 1 := Scalar.cmpi .sgt c512_i32_1340 c0_i32_1343
  let v1395 : BitVec 32 := Scalar.extui v1394
  let c0_i32_1344 : BitVec 32 := 0#32
  let v1396 : BitVec 1 := Scalar.cmpi .slt c512_i32_1340 c0_i32_1344
  let v1397 : BitVec 32 := Scalar.extui v1396
  let v1398 : BitVec 32 := Scalar.subi v1395 v1397
  let v1399 : BitVec 1 := Scalar.cmpi .ne v1393 v1398
  let v1400 : BitVec 32 := Scalar.remsi v1359 c512_i32_1340
  let c0_i32_1345 : BitVec 32 := 0#32
  let v1401 : BitVec 1 := Scalar.cmpi .ne v1400 c0_i32_1345
  let v1402 : BitVec 1 := Scalar.andi v1399 v1401
  let v1388 : BitVec 32 := Scalar.divsi v1359 c512_i32_1340
  let c1_i32_1346 : BitVec 32 := 1#32
  let v1403 : BitVec 32 := Scalar.subi v1388 c1_i32_1346
  let v1404 : BitVec 32 := Scalar.select v1402 v1403 v1388
  let v1405 : Index := Scalar.indexCast v1404
  let c0_1347 : Index := 0#32
  ![v1405.toNat, 0]
def k0_off10 (d0 : Dev nD) (c1_i32_42 : BitVec 32) (c0_i32_1351 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v82 : BitVec 32 := Scalar.addi v29 c1_i32_42
  let c4_i32_43 : BitVec 32 := 4#32
  let c0_i32_44 : BitVec 32 := 0#32
  let v83 : BitVec 1 := Scalar.cmpi .eq c4_i32_43 c0_i32_44
  let c1_i32_45 : BitVec 32 := 1#32
  let v84 : BitVec 32 := Scalar.select v83 c1_i32_45 c4_i32_43
  let v85 : BitVec 32 := Scalar.remsi v82 v84
  let c0_i32_47 : BitVec 32 := 0#32
  let v87 : BitVec 1 := Scalar.cmpi .slt v85 c0_i32_47
  let c0_i32_48 : BitVec 32 := 0#32
  let v88 : BitVec 1 := Scalar.cmpi .slt v84 c0_i32_48
  let v89 : BitVec 1 := Scalar.xori v87 v88
  let c0_i32_46 : BitVec 32 := 0#32
  let v86 : BitVec 1 := Scalar.cmpi .ne v85 c0_i32_46
  let v90 : BitVec 1 := Scalar.andi v89 v86
  let v91 : BitVec 32 := Scalar.addi v85 v84
  let v92 : BitVec 32 := Scalar.select v90 v91 v85
  let c256_i32_1358 : BitVec 32 := 256#32
  let v1428 : BitVec 32 := Scalar.muli v92 c256_i32_1358
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1350 : BitVec 32 := 1#32
  let v1416 : BitVec 32 := Scalar.addi v19 c1_i32_1350
  let v1417 : BitVec 32 := Scalar.addi v1416 c0_i32_1351
  let c4_i32_1352 : BitVec 32 := 4#32
  let c0_i32_1353 : BitVec 32 := 0#32
  let v1418 : BitVec 1 := Scalar.cmpi .eq c4_i32_1352 c0_i32_1353
  let c1_i32_1354 : BitVec 32 := 1#32
  let v1419 : BitVec 32 := Scalar.select v1418 c1_i32_1354 c4_i32_1352
  let v1420 : BitVec 32 := Scalar.remsi v1417 v1419
  let c0_i32_1356 : BitVec 32 := 0#32
  let v1422 : BitVec 1 := Scalar.cmpi .slt v1420 c0_i32_1356
  let c0_i32_1357 : BitVec 32 := 0#32
  let v1423 : BitVec 1 := Scalar.cmpi .slt v1419 c0_i32_1357
  let v1424 : BitVec 1 := Scalar.xori v1422 v1423
  let c0_i32_1355 : BitVec 32 := 0#32
  let v1421 : BitVec 1 := Scalar.cmpi .ne v1420 c0_i32_1355
  let v1425 : BitVec 1 := Scalar.andi v1424 v1421
  let v1426 : BitVec 32 := Scalar.addi v1420 v1419
  let v1427 : BitVec 32 := Scalar.select v1425 v1426 v1420
  let c32_i32_1359 : BitVec 32 := 32#32
  let v1429 : BitVec 32 := Scalar.muli v1427 c32_i32_1359
  let v1430 : BitVec 32 := Scalar.addi v1428 v1429
  let c0_i32_1376 : BitVec 32 := 0#32
  ![v1430.toNat, 0]
def k0_dev35 (d0 : Dev nD) : Nat :=
  let c0_i32_1375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1374 : BitVec 32 := 1#32
  let v1447 : BitVec 32 := Scalar.muli v68 c1_i32_1374
  let v1448 : BitVec 32 := Scalar.addi c0_i32_1375 v1447
  v1448.toNat
def k0_dev36 (d0 : Dev nD) : Nat :=
  let c0_i32_1394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1393 : BitVec 32 := 1#32
  let v1461 : BitVec 32 := Scalar.muli v81 c1_i32_1393
  let v1462 : BitVec 32 := Scalar.addi c0_i32_1394 v1461
  v1462.toNat
def k0_off11 (d0 : Dev nD) (c3_i32_49 : BitVec 32) (c0_i32_1361 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v93 : BitVec 32 := Scalar.addi v29 c3_i32_49
  let c4_i32_50 : BitVec 32 := 4#32
  let c0_i32_51 : BitVec 32 := 0#32
  let v94 : BitVec 1 := Scalar.cmpi .eq c4_i32_50 c0_i32_51
  let c1_i32_52 : BitVec 32 := 1#32
  let v95 : BitVec 32 := Scalar.select v94 c1_i32_52 c4_i32_50
  let v96 : BitVec 32 := Scalar.remsi v93 v95
  let c0_i32_54 : BitVec 32 := 0#32
  let v98 : BitVec 1 := Scalar.cmpi .slt v96 c0_i32_54
  let c0_i32_55 : BitVec 32 := 0#32
  let v99 : BitVec 1 := Scalar.cmpi .slt v95 c0_i32_55
  let v100 : BitVec 1 := Scalar.xori v98 v99
  let c0_i32_53 : BitVec 32 := 0#32
  let v97 : BitVec 1 := Scalar.cmpi .ne v96 c0_i32_53
  let v101 : BitVec 1 := Scalar.andi v100 v97
  let v102 : BitVec 32 := Scalar.addi v96 v95
  let v103 : BitVec 32 := Scalar.select v101 v102 v96
  let c256_i32_1368 : BitVec 32 := 256#32
  let v1443 : BitVec 32 := Scalar.muli v103 c256_i32_1368
  let c128_i32_1369 : BitVec 32 := 128#32
  let v1444 : BitVec 32 := Scalar.addi v1443 c128_i32_1369
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1360 : BitVec 32 := 1#32
  let v1431 : BitVec 32 := Scalar.addi v19 c1_i32_1360
  let v1432 : BitVec 32 := Scalar.addi v1431 c0_i32_1361
  let c4_i32_1362 : BitVec 32 := 4#32
  let c0_i32_1363 : BitVec 32 := 0#32
  let v1433 : BitVec 1 := Scalar.cmpi .eq c4_i32_1362 c0_i32_1363
  let c1_i32_1364 : BitVec 32 := 1#32
  let v1434 : BitVec 32 := Scalar.select v1433 c1_i32_1364 c4_i32_1362
  let v1435 : BitVec 32 := Scalar.remsi v1432 v1434
  let c0_i32_1366 : BitVec 32 := 0#32
  let v1437 : BitVec 1 := Scalar.cmpi .slt v1435 c0_i32_1366
  let c0_i32_1367 : BitVec 32 := 0#32
  let v1438 : BitVec 1 := Scalar.cmpi .slt v1434 c0_i32_1367
  let v1439 : BitVec 1 := Scalar.xori v1437 v1438
  let c0_i32_1365 : BitVec 32 := 0#32
  let v1436 : BitVec 1 := Scalar.cmpi .ne v1435 c0_i32_1365
  let v1440 : BitVec 1 := Scalar.andi v1439 v1436
  let v1441 : BitVec 32 := Scalar.addi v1435 v1434
  let v1442 : BitVec 32 := Scalar.select v1440 v1441 v1435
  let c32_i32_1370 : BitVec 32 := 32#32
  let v1445 : BitVec 32 := Scalar.muli v1442 c32_i32_1370
  let v1446 : BitVec 32 := Scalar.addi v1444 v1445
  let c0_i32_1414 : BitVec 32 := 0#32
  ![v1446.toNat, 0]
def k0_dev37 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1412 : BitVec 32 := 1#32
  let v1475 : BitVec 32 := Scalar.muli v68 c1_i32_1412
  let v1476 : BitVec 32 := Scalar.addi c0_i32_1413 v1475
  v1476.toNat
def k0_dev38 (d0 : Dev nD) : Nat :=
  let c0_i32_1432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1431 : BitVec 32 := 1#32
  let v1489 : BitVec 32 := Scalar.muli v81 c1_i32_1431
  let v1490 : BitVec 32 := Scalar.addi c0_i32_1432 v1489
  v1490.toNat
def k0_dev39 (d0 : Dev nD) : Nat :=
  let c0_i32_1472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1471 : BitVec 32 := 1#32
  let v1534 : BitVec 32 := Scalar.muli v42 c1_i32_1471
  let v1535 : BitVec 32 := Scalar.addi c0_i32_1472 v1534
  v1535.toNat
def k0_dev40 (d0 : Dev nD) : Nat :=
  let c0_i32_1489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1488 : BitVec 32 := 1#32
  let v1548 : BitVec 32 := Scalar.muli v55 c1_i32_1488
  let v1549 : BitVec 32 := Scalar.addi c0_i32_1489 v1548
  v1549.toNat
def k0_dev41 (d0 : Dev nD) : Nat :=
  let c0_i32_1506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1505 : BitVec 32 := 1#32
  let v1562 : BitVec 32 := Scalar.muli v55 c1_i32_1505
  let v1563 : BitVec 32 := Scalar.addi c0_i32_1506 v1562
  v1563.toNat
def k0_dev42 (d0 : Dev nD) : Nat :=
  let c0_i32_1523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1522 : BitVec 32 := 1#32
  let v1576 : BitVec 32 := Scalar.muli v42 c1_i32_1522
  let v1577 : BitVec 32 := Scalar.addi c0_i32_1523 v1576
  v1577.toNat
def k0_dev43 (d0 : Dev nD) : Nat :=
  let c0_i32_1595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1594 : BitVec 32 := 1#32
  let v1663 : BitVec 32 := Scalar.muli v68 c1_i32_1594
  let v1664 : BitVec 32 := Scalar.addi c0_i32_1595 v1663
  v1664.toNat
def k0_dev44 (d0 : Dev nD) : Nat :=
  let c0_i32_1629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1628 : BitVec 32 := 1#32
  let v1706 : BitVec 32 := Scalar.muli v42 c1_i32_1628
  let v1707 : BitVec 32 := Scalar.addi c0_i32_1629 v1706
  v1707.toNat
def k0_dev45 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1641 : BitVec 32 := 1#32
  let v1718 : BitVec 32 := Scalar.muli v55 c1_i32_1641
  let v1719 : BitVec 32 := Scalar.addi c0_i32_1642 v1718
  v1719.toNat
def k0_dev46 (d0 : Dev nD) : Nat :=
  let c0_i32_1655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1654 : BitVec 32 := 1#32
  let v1730 : BitVec 32 := Scalar.muli v55 c1_i32_1654
  let v1731 : BitVec 32 := Scalar.addi c0_i32_1655 v1730
  v1731.toNat
def k0_dev47 (d0 : Dev nD) : Nat :=
  let c0_i32_1668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1667 : BitVec 32 := 1#32
  let v1742 : BitVec 32 := Scalar.muli v42 c1_i32_1667
  let v1743 : BitVec 32 := Scalar.addi c0_i32_1668 v1742
  v1743.toNat
def k0_dev48 (d0 : Dev nD) : Nat :=
  let c0_i32_1738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1737 : BitVec 32 := 1#32
  let v1829 : BitVec 32 := Scalar.muli v81 c1_i32_1737
  let v1830 : BitVec 32 := Scalar.addi c0_i32_1738 v1829
  v1830.toNat
def k0_dev49 (d0 : Dev nD) : Nat :=
  let c0_i32_1772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1771 : BitVec 32 := 1#32
  let v1872 : BitVec 32 := Scalar.muli v42 c1_i32_1771
  let v1873 : BitVec 32 := Scalar.addi c0_i32_1772 v1872
  v1873.toNat
def k0_dev50 (d0 : Dev nD) : Nat :=
  let c0_i32_1785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1784 : BitVec 32 := 1#32
  let v1884 : BitVec 32 := Scalar.muli v55 c1_i32_1784
  let v1885 : BitVec 32 := Scalar.addi c0_i32_1785 v1884
  v1885.toNat
def k0_dev51 (d0 : Dev nD) : Nat :=
  let c0_i32_1798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1797 : BitVec 32 := 1#32
  let v1896 : BitVec 32 := Scalar.muli v55 c1_i32_1797
  let v1897 : BitVec 32 := Scalar.addi c0_i32_1798 v1896
  v1897.toNat
def k0_dev52 (d0 : Dev nD) : Nat :=
  let c0_i32_1811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1810 : BitVec 32 := 1#32
  let v1908 : BitVec 32 := Scalar.muli v42 c1_i32_1810
  let v1909 : BitVec 32 := Scalar.addi c0_i32_1811 v1908
  v1909.toNat
def k0_dev53 (d0 : Dev nD) : Nat :=
  let c0_i32_1880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1879 : BitVec 32 := 1#32
  let v1994 : BitVec 32 := Scalar.muli v42 c1_i32_1879
  let v1995 : BitVec 32 := Scalar.addi c0_i32_1880 v1994
  v1995.toNat
def k0_dev54 (d0 : Dev nD) : Nat :=
  let c0_i32_1893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1892 : BitVec 32 := 1#32
  let v2006 : BitVec 32 := Scalar.muli v55 c1_i32_1892
  let v2007 : BitVec 32 := Scalar.addi c0_i32_1893 v2006
  v2007.toNat
def k0_dev55 (d0 : Dev nD) : Nat :=
  let c0_i32_1906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1905 : BitVec 32 := 1#32
  let v2018 : BitVec 32 := Scalar.muli v55 c1_i32_1905
  let v2019 : BitVec 32 := Scalar.addi c0_i32_1906 v2018
  v2019.toNat
def k0_dev56 (d0 : Dev nD) : Nat :=
  let c0_i32_1919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1918 : BitVec 32 := 1#32
  let v2030 : BitVec 32 := Scalar.muli v42 c1_i32_1918
  let v2031 : BitVec 32 := Scalar.addi c0_i32_1919 v2030
  v2031.toNat
def k0_off12 (d0 : Dev nD) (c0_i32_1929 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32_1936 : BitVec 32 := 256#32
  let v2054 : BitVec 32 := Scalar.muli v29 c256_i32_1936
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1928 : BitVec 32 := 1#32
  let v2042 : BitVec 32 := Scalar.addi v19 c1_i32_1928
  let v2043 : BitVec 32 := Scalar.addi v2042 c0_i32_1929
  let c4_i32_1930 : BitVec 32 := 4#32
  let c0_i32_1931 : BitVec 32 := 0#32
  let v2044 : BitVec 1 := Scalar.cmpi .eq c4_i32_1930 c0_i32_1931
  let c1_i32_1932 : BitVec 32 := 1#32
  let v2045 : BitVec 32 := Scalar.select v2044 c1_i32_1932 c4_i32_1930
  let v2046 : BitVec 32 := Scalar.remsi v2043 v2045
  let c0_i32_1934 : BitVec 32 := 0#32
  let v2048 : BitVec 1 := Scalar.cmpi .slt v2046 c0_i32_1934
  let c0_i32_1935 : BitVec 32 := 0#32
  let v2049 : BitVec 1 := Scalar.cmpi .slt v2045 c0_i32_1935
  let v2050 : BitVec 1 := Scalar.xori v2048 v2049
  let c0_i32_1933 : BitVec 32 := 0#32
  let v2047 : BitVec 1 := Scalar.cmpi .ne v2046 c0_i32_1933
  let v2051 : BitVec 1 := Scalar.andi v2050 v2047
  let v2052 : BitVec 32 := Scalar.addi v2046 v2045
  let v2053 : BitVec 32 := Scalar.select v2051 v2052 v2046
  let c32_i32_1937 : BitVec 32 := 32#32
  let v2055 : BitVec 32 := Scalar.muli v2053 c32_i32_1937
  let v2056 : BitVec 32 := Scalar.addi v2054 v2055
  let c0_i32_1943 : BitVec 32 := 0#32
  ![v2056.toNat, 0]
def k0_dev57 (d0 : Dev nD) : Nat :=
  let c0_i32_1969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1968 : BitVec 32 := 1#32
  let v2093 : BitVec 32 := Scalar.muli v42 c1_i32_1968
  let v2094 : BitVec 32 := Scalar.addi c0_i32_1969 v2093
  v2094.toNat
def k0_off13 (d0 : Dev nD) (c0_i32_1979 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32_1986 : BitVec 32 := 256#32
  let v2117 : BitVec 32 := Scalar.muli v29 c256_i32_1986
  let c128_i32_1987 : BitVec 32 := 128#32
  let v2118 : BitVec 32 := Scalar.addi v2117 c128_i32_1987
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1978 : BitVec 32 := 1#32
  let v2105 : BitVec 32 := Scalar.addi v19 c1_i32_1978
  let v2106 : BitVec 32 := Scalar.addi v2105 c0_i32_1979
  let c4_i32_1980 : BitVec 32 := 4#32
  let c0_i32_1981 : BitVec 32 := 0#32
  let v2107 : BitVec 1 := Scalar.cmpi .eq c4_i32_1980 c0_i32_1981
  let c1_i32_1982 : BitVec 32 := 1#32
  let v2108 : BitVec 32 := Scalar.select v2107 c1_i32_1982 c4_i32_1980
  let v2109 : BitVec 32 := Scalar.remsi v2106 v2108
  let c0_i32_1984 : BitVec 32 := 0#32
  let v2111 : BitVec 1 := Scalar.cmpi .slt v2109 c0_i32_1984
  let c0_i32_1985 : BitVec 32 := 0#32
  let v2112 : BitVec 1 := Scalar.cmpi .slt v2108 c0_i32_1985
  let v2113 : BitVec 1 := Scalar.xori v2111 v2112
  let c0_i32_1983 : BitVec 32 := 0#32
  let v2110 : BitVec 1 := Scalar.cmpi .ne v2109 c0_i32_1983
  let v2114 : BitVec 1 := Scalar.andi v2113 v2110
  let v2115 : BitVec 32 := Scalar.addi v2109 v2108
  let v2116 : BitVec 32 := Scalar.select v2114 v2115 v2109
  let c32_i32_1988 : BitVec 32 := 32#32
  let v2119 : BitVec 32 := Scalar.muli v2116 c32_i32_1988
  let v2120 : BitVec 32 := Scalar.addi v2118 v2119
  let c0_i32_1994 : BitVec 32 := 0#32
  ![v2120.toNat, 0]
def k0_dev58 (d0 : Dev nD) : Nat :=
  let c0_i32_2022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_2021 : BitVec 32 := 1#32
  let v2159 : BitVec 32 := Scalar.muli v55 c1_i32_2021
  let v2160 : BitVec 32 := Scalar.addi c0_i32_2022 v2159
  v2160.toNat
def k0_dev59 (d0 : Dev nD) : Nat :=
  let c0_i32_2072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2071 : BitVec 32 := 1#32
  let v2222 : BitVec 32 := Scalar.muli v42 c1_i32_2071
  let v2223 : BitVec 32 := Scalar.addi c0_i32_2072 v2222
  v2223.toNat
def k0_dev60 (d0 : Dev nD) : Nat :=
  let c0_i32_2125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_2124 : BitVec 32 := 1#32
  let v2288 : BitVec 32 := Scalar.muli v55 c1_i32_2124
  let v2289 : BitVec 32 := Scalar.addi c0_i32_2125 v2288
  v2289.toNat
def k0_dev61 (d0 : Dev nD) : Nat :=
  let c0_i32_2175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2174 : BitVec 32 := 1#32
  let v2351 : BitVec 32 := Scalar.muli v42 c1_i32_2174
  let v2352 : BitVec 32 := Scalar.addi c0_i32_2175 v2351
  v2352.toNat
def k0_dev62 (d0 : Dev nD) : Nat :=
  let c0_i32_2228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_2227 : BitVec 32 := 1#32
  let v2417 : BitVec 32 := Scalar.muli v55 c1_i32_2227
  let v2418 : BitVec 32 := Scalar.addi c0_i32_2228 v2417
  v2418.toNat
def k0_dev63 (d0 : Dev nD) : Nat :=
  let c0_i32_2278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2277 : BitVec 32 := 1#32
  let v2480 : BitVec 32 := Scalar.muli v42 c1_i32_2277
  let v2481 : BitVec 32 := Scalar.addi c0_i32_2278 v2480
  v2481.toNat
def k0_dev64 (d0 : Dev nD) : Nat :=
  let c0_i32_2331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_2330 : BitVec 32 := 1#32
  let v2546 : BitVec 32 := Scalar.muli v55 c1_i32_2330
  let v2547 : BitVec 32 := Scalar.addi c0_i32_2331 v2546
  v2547.toNat
abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

def k1_dev1 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_57 : BitVec 32 := 1#32
  let v105 : BitVec 32 := Scalar.muli v55 c1_i32_57
  let v106 : BitVec 32 := Scalar.addi c0_i32_58 v105
  v106.toNat
def k1_dev2 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_60 : BitVec 32 := 1#32
  let v107 : BitVec 32 := Scalar.muli v42 c1_i32_60
  let v108 : BitVec 32 := Scalar.addi c0_i32_61 v107
  v108.toNat
def k1_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_63 : BitVec 32 := 1#32
  let v109 : BitVec 32 := Scalar.muli v68 c1_i32_63
  let v110 : BitVec 32 := Scalar.addi c0_i32_64 v109
  v110.toNat
def k1_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_66 : BitVec 32 := 1#32
  let v111 : BitVec 32 := Scalar.muli v81 c1_i32_66
  let v112 : BitVec 32 := Scalar.addi c0_i32_67 v111
  v112.toNat
def k1_off1 (d0 : Dev nD) (c0_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32 : BitVec 32 := 256#32
  let v124 : BitVec 32 := Scalar.muli v29 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v113 : BitVec 32 := Scalar.subi v19 c0_i32_69
  let c4_i32_70 : BitVec 32 := 4#32
  let c0_i32_71 : BitVec 32 := 0#32
  let v114 : BitVec 1 := Scalar.cmpi .eq c4_i32_70 c0_i32_71
  let c1_i32_72 : BitVec 32 := 1#32
  let v115 : BitVec 32 := Scalar.select v114 c1_i32_72 c4_i32_70
  let v116 : BitVec 32 := Scalar.remsi v113 v115
  let c0_i32_74 : BitVec 32 := 0#32
  let v118 : BitVec 1 := Scalar.cmpi .slt v116 c0_i32_74
  let c0_i32_75 : BitVec 32 := 0#32
  let v119 : BitVec 1 := Scalar.cmpi .slt v115 c0_i32_75
  let v120 : BitVec 1 := Scalar.xori v118 v119
  let c0_i32_73 : BitVec 32 := 0#32
  let v117 : BitVec 1 := Scalar.cmpi .ne v116 c0_i32_73
  let v121 : BitVec 1 := Scalar.andi v120 v117
  let v122 : BitVec 32 := Scalar.addi v116 v115
  let v123 : BitVec 32 := Scalar.select v121 v122 v116
  let c32_i32 : BitVec 32 := 32#32
  let v125 : BitVec 32 := Scalar.muli v123 c32_i32
  let v126 : BitVec 32 := Scalar.addi v124 v125
  let c0_i32_84 : BitVec 32 := 0#32
  ![v126.toNat, 0]
def k1_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_80 : BitVec 32 := 1#32
  let v127 : BitVec 32 := Scalar.muli v55 c1_i32_80
  let v128 : BitVec 32 := Scalar.addi c0_i32_81 v127
  v128.toNat
def k1_off2 (d0 : Dev nD) (c0_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_85 : BitVec 32 := 3#32
  let v136 : BitVec 32 := Scalar.addi v29 c3_i32_85
  let c4_i32_86 : BitVec 32 := 4#32
  let c0_i32_87 : BitVec 32 := 0#32
  let v137 : BitVec 1 := Scalar.cmpi .eq c4_i32_86 c0_i32_87
  let c1_i32_88 : BitVec 32 := 1#32
  let v138 : BitVec 32 := Scalar.select v137 c1_i32_88 c4_i32_86
  let v139 : BitVec 32 := Scalar.remsi v136 v138
  let c0_i32_90 : BitVec 32 := 0#32
  let v141 : BitVec 1 := Scalar.cmpi .slt v139 c0_i32_90
  let c0_i32_91 : BitVec 32 := 0#32
  let v142 : BitVec 1 := Scalar.cmpi .slt v138 c0_i32_91
  let v143 : BitVec 1 := Scalar.xori v141 v142
  let c0_i32_89 : BitVec 32 := 0#32
  let v140 : BitVec 1 := Scalar.cmpi .ne v139 c0_i32_89
  let v144 : BitVec 1 := Scalar.andi v143 v140
  let v145 : BitVec 32 := Scalar.addi v139 v138
  let v146 : BitVec 32 := Scalar.select v144 v145 v139
  let c256_i32_92 : BitVec 32 := 256#32
  let v147 : BitVec 32 := Scalar.muli v146 c256_i32_92
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v113 : BitVec 32 := Scalar.subi v19 c0_i32_69
  let c4_i32_70 : BitVec 32 := 4#32
  let c0_i32_71 : BitVec 32 := 0#32
  let v114 : BitVec 1 := Scalar.cmpi .eq c4_i32_70 c0_i32_71
  let c1_i32_72 : BitVec 32 := 1#32
  let v115 : BitVec 32 := Scalar.select v114 c1_i32_72 c4_i32_70
  let v116 : BitVec 32 := Scalar.remsi v113 v115
  let c0_i32_74 : BitVec 32 := 0#32
  let v118 : BitVec 1 := Scalar.cmpi .slt v116 c0_i32_74
  let c0_i32_75 : BitVec 32 := 0#32
  let v119 : BitVec 1 := Scalar.cmpi .slt v115 c0_i32_75
  let v120 : BitVec 1 := Scalar.xori v118 v119
  let c0_i32_73 : BitVec 32 := 0#32
  let v117 : BitVec 1 := Scalar.cmpi .ne v116 c0_i32_73
  let v121 : BitVec 1 := Scalar.andi v120 v117
  let v122 : BitVec 32 := Scalar.addi v116 v115
  let v123 : BitVec 32 := Scalar.select v121 v122 v116
  let c32_i32_93 : BitVec 32 := 32#32
  let v148 : BitVec 32 := Scalar.muli v123 c32_i32_93
  let v149 : BitVec 32 := Scalar.addi v147 v148
  let c0_i32_102 : BitVec 32 := 0#32
  ![v149.toNat, 0]
def k1_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_98 : BitVec 32 := 1#32
  let v150 : BitVec 32 := Scalar.muli v42 c1_i32_98
  let v151 : BitVec 32 := Scalar.addi c0_i32_99 v150
  v151.toNat
def k1_off3 (d0 : Dev nD) (c0_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32_103 : BitVec 32 := 256#32
  let v159 : BitVec 32 := Scalar.muli v29 c256_i32_103
  let c128_i32 : BitVec 32 := 128#32
  let v160 : BitVec 32 := Scalar.addi v159 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v113 : BitVec 32 := Scalar.subi v19 c0_i32_69
  let c4_i32_70 : BitVec 32 := 4#32
  let c0_i32_71 : BitVec 32 := 0#32
  let v114 : BitVec 1 := Scalar.cmpi .eq c4_i32_70 c0_i32_71
  let c1_i32_72 : BitVec 32 := 1#32
  let v115 : BitVec 32 := Scalar.select v114 c1_i32_72 c4_i32_70
  let v116 : BitVec 32 := Scalar.remsi v113 v115
  let c0_i32_74 : BitVec 32 := 0#32
  let v118 : BitVec 1 := Scalar.cmpi .slt v116 c0_i32_74
  let c0_i32_75 : BitVec 32 := 0#32
  let v119 : BitVec 1 := Scalar.cmpi .slt v115 c0_i32_75
  let v120 : BitVec 1 := Scalar.xori v118 v119
  let c0_i32_73 : BitVec 32 := 0#32
  let v117 : BitVec 1 := Scalar.cmpi .ne v116 c0_i32_73
  let v121 : BitVec 1 := Scalar.andi v120 v117
  let v122 : BitVec 32 := Scalar.addi v116 v115
  let v123 : BitVec 32 := Scalar.select v121 v122 v116
  let c32_i32_104 : BitVec 32 := 32#32
  let v161 : BitVec 32 := Scalar.muli v123 c32_i32_104
  let v162 : BitVec 32 := Scalar.addi v160 v161
  let c0_i32_113 : BitVec 32 := 0#32
  ![v162.toNat, 0]
def k1_dev7 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_109 : BitVec 32 := 1#32
  let v163 : BitVec 32 := Scalar.muli v42 c1_i32_109
  let v164 : BitVec 32 := Scalar.addi c0_i32_110 v163
  v164.toNat
def k1_off4 (d0 : Dev nD) (c0_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_114 : BitVec 32 := 1#32
  let v172 : BitVec 32 := Scalar.addi v29 c1_i32_114
  let c4_i32_115 : BitVec 32 := 4#32
  let c0_i32_116 : BitVec 32 := 0#32
  let v173 : BitVec 1 := Scalar.cmpi .eq c4_i32_115 c0_i32_116
  let c1_i32_117 : BitVec 32 := 1#32
  let v174 : BitVec 32 := Scalar.select v173 c1_i32_117 c4_i32_115
  let v175 : BitVec 32 := Scalar.remsi v172 v174
  let c0_i32_119 : BitVec 32 := 0#32
  let v177 : BitVec 1 := Scalar.cmpi .slt v175 c0_i32_119
  let c0_i32_120 : BitVec 32 := 0#32
  let v178 : BitVec 1 := Scalar.cmpi .slt v174 c0_i32_120
  let v179 : BitVec 1 := Scalar.xori v177 v178
  let c0_i32_118 : BitVec 32 := 0#32
  let v176 : BitVec 1 := Scalar.cmpi .ne v175 c0_i32_118
  let v180 : BitVec 1 := Scalar.andi v179 v176
  let v181 : BitVec 32 := Scalar.addi v175 v174
  let v182 : BitVec 32 := Scalar.select v180 v181 v175
  let c256_i32_121 : BitVec 32 := 256#32
  let v183 : BitVec 32 := Scalar.muli v182 c256_i32_121
  let c128_i32_122 : BitVec 32 := 128#32
  let v184 : BitVec 32 := Scalar.addi v183 c128_i32_122
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v113 : BitVec 32 := Scalar.subi v19 c0_i32_69
  let c4_i32_70 : BitVec 32 := 4#32
  let c0_i32_71 : BitVec 32 := 0#32
  let v114 : BitVec 1 := Scalar.cmpi .eq c4_i32_70 c0_i32_71
  let c1_i32_72 : BitVec 32 := 1#32
  let v115 : BitVec 32 := Scalar.select v114 c1_i32_72 c4_i32_70
  let v116 : BitVec 32 := Scalar.remsi v113 v115
  let c0_i32_74 : BitVec 32 := 0#32
  let v118 : BitVec 1 := Scalar.cmpi .slt v116 c0_i32_74
  let c0_i32_75 : BitVec 32 := 0#32
  let v119 : BitVec 1 := Scalar.cmpi .slt v115 c0_i32_75
  let v120 : BitVec 1 := Scalar.xori v118 v119
  let c0_i32_73 : BitVec 32 := 0#32
  let v117 : BitVec 1 := Scalar.cmpi .ne v116 c0_i32_73
  let v121 : BitVec 1 := Scalar.andi v120 v117
  let v122 : BitVec 32 := Scalar.addi v116 v115
  let v123 : BitVec 32 := Scalar.select v121 v122 v116
  let c32_i32_123 : BitVec 32 := 32#32
  let v185 : BitVec 32 := Scalar.muli v123 c32_i32_123
  let v186 : BitVec 32 := Scalar.addi v184 v185
  let c0_i32_132 : BitVec 32 := 0#32
  ![v186.toNat, 0]
def k1_dev8 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_128 : BitVec 32 := 1#32
  let v187 : BitVec 32 := Scalar.muli v55 c1_i32_128
  let v188 : BitVec 32 := Scalar.addi c0_i32_129 v187
  v188.toNat
def k1_dev9 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_144 : BitVec 32 := 1#32
  let v210 : BitVec 32 := Scalar.muli v55 c1_i32_144
  let v211 : BitVec 32 := Scalar.addi c0_i32_145 v210
  v211.toNat
def k1_dev10 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_170 : BitVec 32 := 1#32
  let v238 : BitVec 32 := Scalar.muli v42 c1_i32_170
  let v239 : BitVec 32 := Scalar.addi c0_i32_171 v238
  v239.toNat
def k1_dev11 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_190 : BitVec 32 := 1#32
  let v256 : BitVec 32 := Scalar.muli v42 c1_i32_190
  let v257 : BitVec 32 := Scalar.addi c0_i32_191 v256
  v257.toNat
def k1_dev12 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_217 : BitVec 32 := 1#32
  let v285 : BitVec 32 := Scalar.muli v55 c1_i32_217
  let v286 : BitVec 32 := Scalar.addi c0_i32_218 v285
  v286.toNat
def k1_dev13 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_242 : BitVec 32 := 1#32
  let v313 : BitVec 32 := Scalar.muli v55 c1_i32_242
  let v314 : BitVec 32 := Scalar.addi c0_i32_243 v313
  v314.toNat
def k1_dev14 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_268 : BitVec 32 := 1#32
  let v341 : BitVec 32 := Scalar.muli v42 c1_i32_268
  let v342 : BitVec 32 := Scalar.addi c0_i32_269 v341
  v342.toNat
def k1_dev15 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_288 : BitVec 32 := 1#32
  let v359 : BitVec 32 := Scalar.muli v42 c1_i32_288
  let v360 : BitVec 32 := Scalar.addi c0_i32_289 v359
  v360.toNat
def k1_dev16 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_315 : BitVec 32 := 1#32
  let v388 : BitVec 32 := Scalar.muli v55 c1_i32_315
  let v389 : BitVec 32 := Scalar.addi c0_i32_316 v388
  v389.toNat
def k1_dev17 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_340 : BitVec 32 := 1#32
  let v416 : BitVec 32 := Scalar.muli v55 c1_i32_340
  let v417 : BitVec 32 := Scalar.addi c0_i32_341 v416
  v417.toNat
def k1_dev18 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_366 : BitVec 32 := 1#32
  let v444 : BitVec 32 := Scalar.muli v42 c1_i32_366
  let v445 : BitVec 32 := Scalar.addi c0_i32_367 v444
  v445.toNat
def k1_dev19 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_386 : BitVec 32 := 1#32
  let v462 : BitVec 32 := Scalar.muli v42 c1_i32_386
  let v463 : BitVec 32 := Scalar.addi c0_i32_387 v462
  v463.toNat
def k1_dev20 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_413 : BitVec 32 := 1#32
  let v491 : BitVec 32 := Scalar.muli v55 c1_i32_413
  let v492 : BitVec 32 := Scalar.addi c0_i32_414 v491
  v492.toNat
def k1_off5 (d0 : Dev nD) (c2_i32_444 : BitVec 32) (c0_i32_426 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v524 : BitVec 32 := Scalar.addi v29 c2_i32_444
  let c4_i32_445 : BitVec 32 := 4#32
  let c0_i32_446 : BitVec 32 := 0#32
  let v525 : BitVec 1 := Scalar.cmpi .eq c4_i32_445 c0_i32_446
  let c1_i32_447 : BitVec 32 := 1#32
  let v526 : BitVec 32 := Scalar.select v525 c1_i32_447 c4_i32_445
  let v527 : BitVec 32 := Scalar.remsi v524 v526
  let c0_i32_449 : BitVec 32 := 0#32
  let v529 : BitVec 1 := Scalar.cmpi .slt v527 c0_i32_449
  let c0_i32_450 : BitVec 32 := 0#32
  let v530 : BitVec 1 := Scalar.cmpi .slt v526 c0_i32_450
  let v531 : BitVec 1 := Scalar.xori v529 v530
  let c0_i32_448 : BitVec 32 := 0#32
  let v528 : BitVec 1 := Scalar.cmpi .ne v527 c0_i32_448
  let v532 : BitVec 1 := Scalar.andi v531 v528
  let v533 : BitVec 32 := Scalar.addi v527 v526
  let v534 : BitVec 32 := Scalar.select v532 v533 v527
  let c256_i32_451 : BitVec 32 := 256#32
  let v535 : BitVec 32 := Scalar.muli v534 c256_i32_451
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v505 : BitVec 32 := Scalar.subi v19 c0_i32_426
  let c4_i32_427 : BitVec 32 := 4#32
  let c0_i32_428 : BitVec 32 := 0#32
  let v506 : BitVec 1 := Scalar.cmpi .eq c4_i32_427 c0_i32_428
  let c1_i32_429 : BitVec 32 := 1#32
  let v507 : BitVec 32 := Scalar.select v506 c1_i32_429 c4_i32_427
  let v508 : BitVec 32 := Scalar.remsi v505 v507
  let c0_i32_431 : BitVec 32 := 0#32
  let v510 : BitVec 1 := Scalar.cmpi .slt v508 c0_i32_431
  let c0_i32_432 : BitVec 32 := 0#32
  let v511 : BitVec 1 := Scalar.cmpi .slt v507 c0_i32_432
  let v512 : BitVec 1 := Scalar.xori v510 v511
  let c0_i32_430 : BitVec 32 := 0#32
  let v509 : BitVec 1 := Scalar.cmpi .ne v508 c0_i32_430
  let v513 : BitVec 1 := Scalar.andi v512 v509
  let v514 : BitVec 32 := Scalar.addi v508 v507
  let v515 : BitVec 32 := Scalar.select v513 v514 v508
  let c32_i32_452 : BitVec 32 := 32#32
  let v536 : BitVec 32 := Scalar.muli v515 c32_i32_452
  let v537 : BitVec 32 := Scalar.addi v535 v536
  let v538 : Index := Scalar.indexCast v537
  let c0 : Index := 0#32
  ![v538.toNat, 0]
def k1_dev21 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_463 : BitVec 32 := 1#32
  let v547 : BitVec 32 := Scalar.muli v42 c1_i32_463
  let v548 : BitVec 32 := Scalar.addi c0_i32_464 v547
  v548.toNat
def k1_off6 (d0 : Dev nD) (c2_i32_488 : BitVec 32) (c0_i32_426 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v570 : BitVec 32 := Scalar.addi v29 c2_i32_488
  let c4_i32_489 : BitVec 32 := 4#32
  let c0_i32_490 : BitVec 32 := 0#32
  let v571 : BitVec 1 := Scalar.cmpi .eq c4_i32_489 c0_i32_490
  let c1_i32_491 : BitVec 32 := 1#32
  let v572 : BitVec 32 := Scalar.select v571 c1_i32_491 c4_i32_489
  let v573 : BitVec 32 := Scalar.remsi v570 v572
  let c0_i32_493 : BitVec 32 := 0#32
  let v575 : BitVec 1 := Scalar.cmpi .slt v573 c0_i32_493
  let c0_i32_494 : BitVec 32 := 0#32
  let v576 : BitVec 1 := Scalar.cmpi .slt v572 c0_i32_494
  let v577 : BitVec 1 := Scalar.xori v575 v576
  let c0_i32_492 : BitVec 32 := 0#32
  let v574 : BitVec 1 := Scalar.cmpi .ne v573 c0_i32_492
  let v578 : BitVec 1 := Scalar.andi v577 v574
  let v579 : BitVec 32 := Scalar.addi v573 v572
  let v580 : BitVec 32 := Scalar.select v578 v579 v573
  let c256_i32_495 : BitVec 32 := 256#32
  let v581 : BitVec 32 := Scalar.muli v580 c256_i32_495
  let c128_i32_496 : BitVec 32 := 128#32
  let v582 : BitVec 32 := Scalar.addi v581 c128_i32_496
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v505 : BitVec 32 := Scalar.subi v19 c0_i32_426
  let c4_i32_427 : BitVec 32 := 4#32
  let c0_i32_428 : BitVec 32 := 0#32
  let v506 : BitVec 1 := Scalar.cmpi .eq c4_i32_427 c0_i32_428
  let c1_i32_429 : BitVec 32 := 1#32
  let v507 : BitVec 32 := Scalar.select v506 c1_i32_429 c4_i32_427
  let v508 : BitVec 32 := Scalar.remsi v505 v507
  let c0_i32_431 : BitVec 32 := 0#32
  let v510 : BitVec 1 := Scalar.cmpi .slt v508 c0_i32_431
  let c0_i32_432 : BitVec 32 := 0#32
  let v511 : BitVec 1 := Scalar.cmpi .slt v507 c0_i32_432
  let v512 : BitVec 1 := Scalar.xori v510 v511
  let c0_i32_430 : BitVec 32 := 0#32
  let v509 : BitVec 1 := Scalar.cmpi .ne v508 c0_i32_430
  let v513 : BitVec 1 := Scalar.andi v512 v509
  let v514 : BitVec 32 := Scalar.addi v508 v507
  let v515 : BitVec 32 := Scalar.select v513 v514 v508
  let c32_i32_497 : BitVec 32 := 32#32
  let v583 : BitVec 32 := Scalar.muli v515 c32_i32_497
  let v584 : BitVec 32 := Scalar.addi v582 v583
  let v585 : Index := Scalar.indexCast v584
  let c0_498 : Index := 0#32
  ![v585.toNat, 0]
def k1_off6_at (r : Fin 7) : BitVec 32 × BitVec 32 :=
  if r.val < 3 then
    if r.val < 1 then
      (2#32, 0#32)
    else
      if r.val < 2 then
        (2#32, 1#32)
      else
        (2#32, 2#32)
  else
    if r.val < 5 then
      if r.val < 4 then
        (2#32, 3#32)
      else
        (3#32, 1#32)
    else
      if r.val < 6 then
        (3#32, 2#32)
      else
        (3#32, 3#32)
def k1_dev22 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_510 : BitVec 32 := 1#32
  let v594 : BitVec 32 := Scalar.muli v55 c1_i32_510
  let v595 : BitVec 32 := Scalar.addi c0_i32_511 v594
  v595.toNat
def k1_dev23 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_561 : BitVec 32 := 1#32
  let v651 : BitVec 32 := Scalar.muli v42 c1_i32_561
  let v652 : BitVec 32 := Scalar.addi c0_i32_562 v651
  v652.toNat
def k1_dev24 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_608 : BitVec 32 := 1#32
  let v698 : BitVec 32 := Scalar.muli v55 c1_i32_608
  let v699 : BitVec 32 := Scalar.addi c0_i32_609 v698
  v699.toNat
def k1_dev25 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_659 : BitVec 32 := 1#32
  let v755 : BitVec 32 := Scalar.muli v42 c1_i32_659
  let v756 : BitVec 32 := Scalar.addi c0_i32_660 v755
  v756.toNat
def k1_dev26 (d0 : Dev nD) : Nat :=
  let c0_i32_709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_708 : BitVec 32 := 1#32
  let v803 : BitVec 32 := Scalar.muli v55 c1_i32_708
  let v804 : BitVec 32 := Scalar.addi c0_i32_709 v803
  v804.toNat
def k1_dev27 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_761 : BitVec 32 := 1#32
  let v861 : BitVec 32 := Scalar.muli v42 c1_i32_761
  let v862 : BitVec 32 := Scalar.addi c0_i32_762 v861
  v862.toNat
def k1_dev28 (d0 : Dev nD) : Nat :=
  let c0_i32_811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_810 : BitVec 32 := 1#32
  let v909 : BitVec 32 := Scalar.muli v55 c1_i32_810
  let v910 : BitVec 32 := Scalar.addi c0_i32_811 v909
  v910.toNat
def k1_dev29 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_895 : BitVec 32 := 1#32
  let v983 : BitVec 32 := Scalar.muli v81 c1_i32_895
  let v984 : BitVec 32 := Scalar.addi c0_i32_896 v983
  v984.toNat
def k1_dev30 (d0 : Dev nD) : Nat :=
  let c0_i32_981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_980 : BitVec 32 := 1#32
  let v1064 : BitVec 32 := Scalar.muli v68 c1_i32_980
  let v1065 : BitVec 32 := Scalar.addi c0_i32_981 v1064
  v1065.toNat
def k1_dev31 (d0 : Dev nD) : Nat :=
  let c0_i32_998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_997 : BitVec 32 := 1#32
  let v1077 : BitVec 32 := Scalar.muli v81 c1_i32_997
  let v1078 : BitVec 32 := Scalar.addi c0_i32_998 v1077
  v1078.toNat
def k1_dev32 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1099 : BitVec 32 := 1#32
  let v1169 : BitVec 32 := Scalar.muli v68 c1_i32_1099
  let v1170 : BitVec 32 := Scalar.addi c0_i32_1100 v1169
  v1170.toNat
def k1_dev33 (d0 : Dev nD) : Nat :=
  let c0_i32_1117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1116 : BitVec 32 := 1#32
  let v1182 : BitVec 32 := Scalar.muli v68 c1_i32_1116
  let v1183 : BitVec 32 := Scalar.addi c0_i32_1117 v1182
  v1183.toNat
def k1_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_49 : BitVec 32 := 3#32
  let v93 : BitVec 32 := Scalar.addi v29 c3_i32_49
  let c4_i32_50 : BitVec 32 := 4#32
  let c0_i32_51 : BitVec 32 := 0#32
  let v94 : BitVec 1 := Scalar.cmpi .eq c4_i32_50 c0_i32_51
  let c1_i32_52 : BitVec 32 := 1#32
  let v95 : BitVec 32 := Scalar.select v94 c1_i32_52 c4_i32_50
  let v96 : BitVec 32 := Scalar.remsi v93 v95
  let c0_i32_54 : BitVec 32 := 0#32
  let v98 : BitVec 1 := Scalar.cmpi .slt v96 c0_i32_54
  let c0_i32_55 : BitVec 32 := 0#32
  let v99 : BitVec 1 := Scalar.cmpi .slt v95 c0_i32_55
  let v100 : BitVec 1 := Scalar.xori v98 v99
  let c0_i32_53 : BitVec 32 := 0#32
  let v97 : BitVec 1 := Scalar.cmpi .ne v96 c0_i32_53
  let v101 : BitVec 1 := Scalar.andi v100 v97
  let v102 : BitVec 32 := Scalar.addi v96 v95
  let v103 : BitVec 32 := Scalar.select v101 v102 v96
  let c256_i32_1147 : BitVec 32 := 256#32
  let v1206 : BitVec 32 := Scalar.muli v103 c256_i32_1147
  let c128_i32_1148 : BitVec 32 := 128#32
  let v1207 : BitVec 32 := Scalar.addi v1206 c128_i32_1148
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32_1149 : BitVec 32 := 32#32
  let v1208 : BitVec 32 := Scalar.muli v19 c32_i32_1149
  let v1209 : BitVec 32 := Scalar.addi v1207 v1208
  let v1210 : Index := Scalar.indexCast v1209
  let c0_1150 : Index := 0#32
  ![v1210.toNat, 0]
def k1_dev34 (d0 : Dev nD) : Nat :=
  let c0_i32_1173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1172 : BitVec 32 := 1#32
  let v1225 : BitVec 32 := Scalar.muli v81 c1_i32_1172
  let v1226 : BitVec 32 := Scalar.addi c0_i32_1173 v1225
  v1226.toNat
def k1_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_42 : BitVec 32 := 1#32
  let v82 : BitVec 32 := Scalar.addi v29 c1_i32_42
  let c4_i32_43 : BitVec 32 := 4#32
  let c0_i32_44 : BitVec 32 := 0#32
  let v83 : BitVec 1 := Scalar.cmpi .eq c4_i32_43 c0_i32_44
  let c1_i32_45 : BitVec 32 := 1#32
  let v84 : BitVec 32 := Scalar.select v83 c1_i32_45 c4_i32_43
  let v85 : BitVec 32 := Scalar.remsi v82 v84
  let c0_i32_47 : BitVec 32 := 0#32
  let v87 : BitVec 1 := Scalar.cmpi .slt v85 c0_i32_47
  let c0_i32_48 : BitVec 32 := 0#32
  let v88 : BitVec 1 := Scalar.cmpi .slt v84 c0_i32_48
  let v89 : BitVec 1 := Scalar.xori v87 v88
  let c0_i32_46 : BitVec 32 := 0#32
  let v86 : BitVec 1 := Scalar.cmpi .ne v85 c0_i32_46
  let v90 : BitVec 1 := Scalar.andi v89 v86
  let v91 : BitVec 32 := Scalar.addi v85 v84
  let v92 : BitVec 32 := Scalar.select v90 v91 v85
  let c256_i32_1326 : BitVec 32 := 256#32
  let v1353 : BitVec 32 := Scalar.muli v92 c256_i32_1326
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1190 : BitVec 32 := 3#32
  let v1241 : BitVec 32 := Scalar.subi v19 c3_i32_1190
  let c4_i32_1191 : BitVec 32 := 4#32
  let c0_i32_1192 : BitVec 32 := 0#32
  let v1242 : BitVec 1 := Scalar.cmpi .eq c4_i32_1191 c0_i32_1192
  let c1_i32_1193 : BitVec 32 := 1#32
  let v1243 : BitVec 32 := Scalar.select v1242 c1_i32_1193 c4_i32_1191
  let v1244 : BitVec 32 := Scalar.remsi v1241 v1243
  let c0_i32_1195 : BitVec 32 := 0#32
  let v1246 : BitVec 1 := Scalar.cmpi .slt v1244 c0_i32_1195
  let c0_i32_1196 : BitVec 32 := 0#32
  let v1247 : BitVec 1 := Scalar.cmpi .slt v1243 c0_i32_1196
  let v1248 : BitVec 1 := Scalar.xori v1246 v1247
  let c0_i32_1194 : BitVec 32 := 0#32
  let v1245 : BitVec 1 := Scalar.cmpi .ne v1244 c0_i32_1194
  let v1249 : BitVec 1 := Scalar.andi v1248 v1245
  let v1250 : BitVec 32 := Scalar.addi v1244 v1243
  let v1251 : BitVec 32 := Scalar.select v1249 v1250 v1244
  let c32_i32_1327 : BitVec 32 := 32#32
  let v1354 : BitVec 32 := Scalar.muli v1251 c32_i32_1327
  let v1355 : BitVec 32 := Scalar.addi v1353 v1354
  let c0_i32_1331 : BitVec 32 := 0#32
  let v1361 : BitVec 1 := Scalar.cmpi .sgt v1355 c0_i32_1331
  let v1362 : BitVec 32 := Scalar.extui v1361
  let c0_i32_1332 : BitVec 32 := 0#32
  let v1363 : BitVec 1 := Scalar.cmpi .slt v1355 c0_i32_1332
  let v1364 : BitVec 32 := Scalar.extui v1363
  let v1365 : BitVec 32 := Scalar.subi v1362 v1364
  let c512_i32 : BitVec 32 := 512#32
  let c0_i32_1333 : BitVec 32 := 0#32
  let v1366 : BitVec 1 := Scalar.cmpi .sgt c512_i32 c0_i32_1333
  let v1367 : BitVec 32 := Scalar.extui v1366
  let c0_i32_1334 : BitVec 32 := 0#32
  let v1368 : BitVec 1 := Scalar.cmpi .slt c512_i32 c0_i32_1334
  let v1369 : BitVec 32 := Scalar.extui v1368
  let v1370 : BitVec 32 := Scalar.subi v1367 v1369
  let v1371 : BitVec 1 := Scalar.cmpi .ne v1365 v1370
  let v1372 : BitVec 32 := Scalar.remsi v1355 c512_i32
  let c0_i32_1335 : BitVec 32 := 0#32
  let v1373 : BitVec 1 := Scalar.cmpi .ne v1372 c0_i32_1335
  let v1374 : BitVec 1 := Scalar.andi v1371 v1373
  let v1360 : BitVec 32 := Scalar.divsi v1355 c512_i32
  let c1_i32_1336 : BitVec 32 := 1#32
  let v1375 : BitVec 32 := Scalar.subi v1360 c1_i32_1336
  let v1376 : BitVec 32 := Scalar.select v1374 v1375 v1360
  let v1377 : Index := Scalar.indexCast v1376
  let c0_1337 : Index := 0#32
  ![v1377.toNat, 0]
def k1_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_49 : BitVec 32 := 3#32
  let v93 : BitVec 32 := Scalar.addi v29 c3_i32_49
  let c4_i32_50 : BitVec 32 := 4#32
  let c0_i32_51 : BitVec 32 := 0#32
  let v94 : BitVec 1 := Scalar.cmpi .eq c4_i32_50 c0_i32_51
  let c1_i32_52 : BitVec 32 := 1#32
  let v95 : BitVec 32 := Scalar.select v94 c1_i32_52 c4_i32_50
  let v96 : BitVec 32 := Scalar.remsi v93 v95
  let c0_i32_54 : BitVec 32 := 0#32
  let v98 : BitVec 1 := Scalar.cmpi .slt v96 c0_i32_54
  let c0_i32_55 : BitVec 32 := 0#32
  let v99 : BitVec 1 := Scalar.cmpi .slt v95 c0_i32_55
  let v100 : BitVec 1 := Scalar.xori v98 v99
  let c0_i32_53 : BitVec 32 := 0#32
  let v97 : BitVec 1 := Scalar.cmpi .ne v96 c0_i32_53
  let v101 : BitVec 1 := Scalar.andi v100 v97
  let v102 : BitVec 32 := Scalar.addi v96 v95
  let v103 : BitVec 32 := Scalar.select v101 v102 v96
  let c256_i32_1328 : BitVec 32 := 256#32
  let v1356 : BitVec 32 := Scalar.muli v103 c256_i32_1328
  let c128_i32_1329 : BitVec 32 := 128#32
  let v1357 : BitVec 32 := Scalar.addi v1356 c128_i32_1329
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1190 : BitVec 32 := 3#32
  let v1241 : BitVec 32 := Scalar.subi v19 c3_i32_1190
  let c4_i32_1191 : BitVec 32 := 4#32
  let c0_i32_1192 : BitVec 32 := 0#32
  let v1242 : BitVec 1 := Scalar.cmpi .eq c4_i32_1191 c0_i32_1192
  let c1_i32_1193 : BitVec 32 := 1#32
  let v1243 : BitVec 32 := Scalar.select v1242 c1_i32_1193 c4_i32_1191
  let v1244 : BitVec 32 := Scalar.remsi v1241 v1243
  let c0_i32_1195 : BitVec 32 := 0#32
  let v1246 : BitVec 1 := Scalar.cmpi .slt v1244 c0_i32_1195
  let c0_i32_1196 : BitVec 32 := 0#32
  let v1247 : BitVec 1 := Scalar.cmpi .slt v1243 c0_i32_1196
  let v1248 : BitVec 1 := Scalar.xori v1246 v1247
  let c0_i32_1194 : BitVec 32 := 0#32
  let v1245 : BitVec 1 := Scalar.cmpi .ne v1244 c0_i32_1194
  let v1249 : BitVec 1 := Scalar.andi v1248 v1245
  let v1250 : BitVec 32 := Scalar.addi v1244 v1243
  let v1251 : BitVec 32 := Scalar.select v1249 v1250 v1244
  let c32_i32_1330 : BitVec 32 := 32#32
  let v1358 : BitVec 32 := Scalar.muli v1251 c32_i32_1330
  let v1359 : BitVec 32 := Scalar.addi v1357 v1358
  let c0_i32_1341 : BitVec 32 := 0#32
  let v1389 : BitVec 1 := Scalar.cmpi .sgt v1359 c0_i32_1341
  let v1390 : BitVec 32 := Scalar.extui v1389
  let c0_i32_1342 : BitVec 32 := 0#32
  let v1391 : BitVec 1 := Scalar.cmpi .slt v1359 c0_i32_1342
  let v1392 : BitVec 32 := Scalar.extui v1391
  let v1393 : BitVec 32 := Scalar.subi v1390 v1392
  let c512_i32_1340 : BitVec 32 := 512#32
  let c0_i32_1343 : BitVec 32 := 0#32
  let v1394 : BitVec 1 := Scalar.cmpi .sgt c512_i32_1340 c0_i32_1343
  let v1395 : BitVec 32 := Scalar.extui v1394
  let c0_i32_1344 : BitVec 32 := 0#32
  let v1396 : BitVec 1 := Scalar.cmpi .slt c512_i32_1340 c0_i32_1344
  let v1397 : BitVec 32 := Scalar.extui v1396
  let v1398 : BitVec 32 := Scalar.subi v1395 v1397
  let v1399 : BitVec 1 := Scalar.cmpi .ne v1393 v1398
  let v1400 : BitVec 32 := Scalar.remsi v1359 c512_i32_1340
  let c0_i32_1345 : BitVec 32 := 0#32
  let v1401 : BitVec 1 := Scalar.cmpi .ne v1400 c0_i32_1345
  let v1402 : BitVec 1 := Scalar.andi v1399 v1401
  let v1388 : BitVec 32 := Scalar.divsi v1359 c512_i32_1340
  let c1_i32_1346 : BitVec 32 := 1#32
  let v1403 : BitVec 32 := Scalar.subi v1388 c1_i32_1346
  let v1404 : BitVec 32 := Scalar.select v1402 v1403 v1388
  let v1405 : Index := Scalar.indexCast v1404
  let c0_1347 : Index := 0#32
  ![v1405.toNat, 0]
def k1_off10 (d0 : Dev nD) (c1_i32_42 : BitVec 32) (c0_i32_1351 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v82 : BitVec 32 := Scalar.addi v29 c1_i32_42
  let c4_i32_43 : BitVec 32 := 4#32
  let c0_i32_44 : BitVec 32 := 0#32
  let v83 : BitVec 1 := Scalar.cmpi .eq c4_i32_43 c0_i32_44
  let c1_i32_45 : BitVec 32 := 1#32
  let v84 : BitVec 32 := Scalar.select v83 c1_i32_45 c4_i32_43
  let v85 : BitVec 32 := Scalar.remsi v82 v84
  let c0_i32_47 : BitVec 32 := 0#32
  let v87 : BitVec 1 := Scalar.cmpi .slt v85 c0_i32_47
  let c0_i32_48 : BitVec 32 := 0#32
  let v88 : BitVec 1 := Scalar.cmpi .slt v84 c0_i32_48
  let v89 : BitVec 1 := Scalar.xori v87 v88
  let c0_i32_46 : BitVec 32 := 0#32
  let v86 : BitVec 1 := Scalar.cmpi .ne v85 c0_i32_46
  let v90 : BitVec 1 := Scalar.andi v89 v86
  let v91 : BitVec 32 := Scalar.addi v85 v84
  let v92 : BitVec 32 := Scalar.select v90 v91 v85
  let c256_i32_1358 : BitVec 32 := 256#32
  let v1428 : BitVec 32 := Scalar.muli v92 c256_i32_1358
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1350 : BitVec 32 := 1#32
  let v1416 : BitVec 32 := Scalar.addi v19 c1_i32_1350
  let v1417 : BitVec 32 := Scalar.addi v1416 c0_i32_1351
  let c4_i32_1352 : BitVec 32 := 4#32
  let c0_i32_1353 : BitVec 32 := 0#32
  let v1418 : BitVec 1 := Scalar.cmpi .eq c4_i32_1352 c0_i32_1353
  let c1_i32_1354 : BitVec 32 := 1#32
  let v1419 : BitVec 32 := Scalar.select v1418 c1_i32_1354 c4_i32_1352
  let v1420 : BitVec 32 := Scalar.remsi v1417 v1419
  let c0_i32_1356 : BitVec 32 := 0#32
  let v1422 : BitVec 1 := Scalar.cmpi .slt v1420 c0_i32_1356
  let c0_i32_1357 : BitVec 32 := 0#32
  let v1423 : BitVec 1 := Scalar.cmpi .slt v1419 c0_i32_1357
  let v1424 : BitVec 1 := Scalar.xori v1422 v1423
  let c0_i32_1355 : BitVec 32 := 0#32
  let v1421 : BitVec 1 := Scalar.cmpi .ne v1420 c0_i32_1355
  let v1425 : BitVec 1 := Scalar.andi v1424 v1421
  let v1426 : BitVec 32 := Scalar.addi v1420 v1419
  let v1427 : BitVec 32 := Scalar.select v1425 v1426 v1420
  let c32_i32_1359 : BitVec 32 := 32#32
  let v1429 : BitVec 32 := Scalar.muli v1427 c32_i32_1359
  let v1430 : BitVec 32 := Scalar.addi v1428 v1429
  let c0_i32_1376 : BitVec 32 := 0#32
  ![v1430.toNat, 0]
def k1_dev35 (d0 : Dev nD) : Nat :=
  let c0_i32_1375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1374 : BitVec 32 := 1#32
  let v1447 : BitVec 32 := Scalar.muli v68 c1_i32_1374
  let v1448 : BitVec 32 := Scalar.addi c0_i32_1375 v1447
  v1448.toNat
def k1_dev36 (d0 : Dev nD) : Nat :=
  let c0_i32_1394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1393 : BitVec 32 := 1#32
  let v1461 : BitVec 32 := Scalar.muli v81 c1_i32_1393
  let v1462 : BitVec 32 := Scalar.addi c0_i32_1394 v1461
  v1462.toNat
def k1_off11 (d0 : Dev nD) (c3_i32_49 : BitVec 32) (c0_i32_1361 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v93 : BitVec 32 := Scalar.addi v29 c3_i32_49
  let c4_i32_50 : BitVec 32 := 4#32
  let c0_i32_51 : BitVec 32 := 0#32
  let v94 : BitVec 1 := Scalar.cmpi .eq c4_i32_50 c0_i32_51
  let c1_i32_52 : BitVec 32 := 1#32
  let v95 : BitVec 32 := Scalar.select v94 c1_i32_52 c4_i32_50
  let v96 : BitVec 32 := Scalar.remsi v93 v95
  let c0_i32_54 : BitVec 32 := 0#32
  let v98 : BitVec 1 := Scalar.cmpi .slt v96 c0_i32_54
  let c0_i32_55 : BitVec 32 := 0#32
  let v99 : BitVec 1 := Scalar.cmpi .slt v95 c0_i32_55
  let v100 : BitVec 1 := Scalar.xori v98 v99
  let c0_i32_53 : BitVec 32 := 0#32
  let v97 : BitVec 1 := Scalar.cmpi .ne v96 c0_i32_53
  let v101 : BitVec 1 := Scalar.andi v100 v97
  let v102 : BitVec 32 := Scalar.addi v96 v95
  let v103 : BitVec 32 := Scalar.select v101 v102 v96
  let c256_i32_1368 : BitVec 32 := 256#32
  let v1443 : BitVec 32 := Scalar.muli v103 c256_i32_1368
  let c128_i32_1369 : BitVec 32 := 128#32
  let v1444 : BitVec 32 := Scalar.addi v1443 c128_i32_1369
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1360 : BitVec 32 := 1#32
  let v1431 : BitVec 32 := Scalar.addi v19 c1_i32_1360
  let v1432 : BitVec 32 := Scalar.addi v1431 c0_i32_1361
  let c4_i32_1362 : BitVec 32 := 4#32
  let c0_i32_1363 : BitVec 32 := 0#32
  let v1433 : BitVec 1 := Scalar.cmpi .eq c4_i32_1362 c0_i32_1363
  let c1_i32_1364 : BitVec 32 := 1#32
  let v1434 : BitVec 32 := Scalar.select v1433 c1_i32_1364 c4_i32_1362
  let v1435 : BitVec 32 := Scalar.remsi v1432 v1434
  let c0_i32_1366 : BitVec 32 := 0#32
  let v1437 : BitVec 1 := Scalar.cmpi .slt v1435 c0_i32_1366
  let c0_i32_1367 : BitVec 32 := 0#32
  let v1438 : BitVec 1 := Scalar.cmpi .slt v1434 c0_i32_1367
  let v1439 : BitVec 1 := Scalar.xori v1437 v1438
  let c0_i32_1365 : BitVec 32 := 0#32
  let v1436 : BitVec 1 := Scalar.cmpi .ne v1435 c0_i32_1365
  let v1440 : BitVec 1 := Scalar.andi v1439 v1436
  let v1441 : BitVec 32 := Scalar.addi v1435 v1434
  let v1442 : BitVec 32 := Scalar.select v1440 v1441 v1435
  let c32_i32_1370 : BitVec 32 := 32#32
  let v1445 : BitVec 32 := Scalar.muli v1442 c32_i32_1370
  let v1446 : BitVec 32 := Scalar.addi v1444 v1445
  let c0_i32_1414 : BitVec 32 := 0#32
  ![v1446.toNat, 0]
def k1_dev37 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1412 : BitVec 32 := 1#32
  let v1475 : BitVec 32 := Scalar.muli v68 c1_i32_1412
  let v1476 : BitVec 32 := Scalar.addi c0_i32_1413 v1475
  v1476.toNat
def k1_dev38 (d0 : Dev nD) : Nat :=
  let c0_i32_1432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1431 : BitVec 32 := 1#32
  let v1489 : BitVec 32 := Scalar.muli v81 c1_i32_1431
  let v1490 : BitVec 32 := Scalar.addi c0_i32_1432 v1489
  v1490.toNat
def k1_dev39 (d0 : Dev nD) : Nat :=
  let c0_i32_1472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1471 : BitVec 32 := 1#32
  let v1534 : BitVec 32 := Scalar.muli v42 c1_i32_1471
  let v1535 : BitVec 32 := Scalar.addi c0_i32_1472 v1534
  v1535.toNat
def k1_dev40 (d0 : Dev nD) : Nat :=
  let c0_i32_1489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1488 : BitVec 32 := 1#32
  let v1548 : BitVec 32 := Scalar.muli v55 c1_i32_1488
  let v1549 : BitVec 32 := Scalar.addi c0_i32_1489 v1548
  v1549.toNat
def k1_dev41 (d0 : Dev nD) : Nat :=
  let c0_i32_1506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1505 : BitVec 32 := 1#32
  let v1562 : BitVec 32 := Scalar.muli v55 c1_i32_1505
  let v1563 : BitVec 32 := Scalar.addi c0_i32_1506 v1562
  v1563.toNat
def k1_dev42 (d0 : Dev nD) : Nat :=
  let c0_i32_1523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1522 : BitVec 32 := 1#32
  let v1576 : BitVec 32 := Scalar.muli v42 c1_i32_1522
  let v1577 : BitVec 32 := Scalar.addi c0_i32_1523 v1576
  v1577.toNat
def k1_dev43 (d0 : Dev nD) : Nat :=
  let c0_i32_1595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_33 : BitVec 32 := 4#32
  let v67 : BitVec 32 := Scalar.muli v66 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1594 : BitVec 32 := 1#32
  let v1663 : BitVec 32 := Scalar.muli v68 c1_i32_1594
  let v1664 : BitVec 32 := Scalar.addi c0_i32_1595 v1663
  v1664.toNat
def k1_dev44 (d0 : Dev nD) : Nat :=
  let c0_i32_1629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1628 : BitVec 32 := 1#32
  let v1706 : BitVec 32 := Scalar.muli v42 c1_i32_1628
  let v1707 : BitVec 32 := Scalar.addi c0_i32_1629 v1706
  v1707.toNat
def k1_dev45 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1641 : BitVec 32 := 1#32
  let v1718 : BitVec 32 := Scalar.muli v55 c1_i32_1641
  let v1719 : BitVec 32 := Scalar.addi c0_i32_1642 v1718
  v1719.toNat
def k1_dev46 (d0 : Dev nD) : Nat :=
  let c0_i32_1655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1654 : BitVec 32 := 1#32
  let v1730 : BitVec 32 := Scalar.muli v55 c1_i32_1654
  let v1731 : BitVec 32 := Scalar.addi c0_i32_1655 v1730
  v1731.toNat
def k1_dev47 (d0 : Dev nD) : Nat :=
  let c0_i32_1668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1667 : BitVec 32 := 1#32
  let v1742 : BitVec 32 := Scalar.muli v42 c1_i32_1667
  let v1743 : BitVec 32 := Scalar.addi c0_i32_1668 v1742
  v1743.toNat
def k1_dev48 (d0 : Dev nD) : Nat :=
  let c0_i32_1738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_34 : BitVec 32 := 3#32
  let v69 : BitVec 32 := Scalar.addi v19 c3_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1737 : BitVec 32 := 1#32
  let v1829 : BitVec 32 := Scalar.muli v81 c1_i32_1737
  let v1830 : BitVec 32 := Scalar.addi c0_i32_1738 v1829
  v1830.toNat
def k1_dev49 (d0 : Dev nD) : Nat :=
  let c0_i32_1772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1771 : BitVec 32 := 1#32
  let v1872 : BitVec 32 := Scalar.muli v42 c1_i32_1771
  let v1873 : BitVec 32 := Scalar.addi c0_i32_1772 v1872
  v1873.toNat
def k1_dev50 (d0 : Dev nD) : Nat :=
  let c0_i32_1785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1784 : BitVec 32 := 1#32
  let v1884 : BitVec 32 := Scalar.muli v55 c1_i32_1784
  let v1885 : BitVec 32 := Scalar.addi c0_i32_1785 v1884
  v1885.toNat
def k1_dev51 (d0 : Dev nD) : Nat :=
  let c0_i32_1798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1797 : BitVec 32 := 1#32
  let v1896 : BitVec 32 := Scalar.muli v55 c1_i32_1797
  let v1897 : BitVec 32 := Scalar.addi c0_i32_1798 v1896
  v1897.toNat
def k1_dev52 (d0 : Dev nD) : Nat :=
  let c0_i32_1811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1810 : BitVec 32 := 1#32
  let v1908 : BitVec 32 := Scalar.muli v42 c1_i32_1810
  let v1909 : BitVec 32 := Scalar.addi c0_i32_1811 v1908
  v1909.toNat
def k1_dev53 (d0 : Dev nD) : Nat :=
  let c0_i32_1880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1879 : BitVec 32 := 1#32
  let v1994 : BitVec 32 := Scalar.muli v42 c1_i32_1879
  let v1995 : BitVec 32 := Scalar.addi c0_i32_1880 v1994
  v1995.toNat
def k1_dev54 (d0 : Dev nD) : Nat :=
  let c0_i32_1893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1892 : BitVec 32 := 1#32
  let v2006 : BitVec 32 := Scalar.muli v55 c1_i32_1892
  let v2007 : BitVec 32 := Scalar.addi c0_i32_1893 v2006
  v2007.toNat
def k1_dev55 (d0 : Dev nD) : Nat :=
  let c0_i32_1906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1905 : BitVec 32 := 1#32
  let v2018 : BitVec 32 := Scalar.muli v55 c1_i32_1905
  let v2019 : BitVec 32 := Scalar.addi c0_i32_1906 v2018
  v2019.toNat
def k1_dev56 (d0 : Dev nD) : Nat :=
  let c0_i32_1919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1918 : BitVec 32 := 1#32
  let v2030 : BitVec 32 := Scalar.muli v42 c1_i32_1918
  let v2031 : BitVec 32 := Scalar.addi c0_i32_1919 v2030
  v2031.toNat
def k1_off12 (d0 : Dev nD) (c0_i32_1929 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32_1936 : BitVec 32 := 256#32
  let v2054 : BitVec 32 := Scalar.muli v29 c256_i32_1936
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1928 : BitVec 32 := 1#32
  let v2042 : BitVec 32 := Scalar.addi v19 c1_i32_1928
  let v2043 : BitVec 32 := Scalar.addi v2042 c0_i32_1929
  let c4_i32_1930 : BitVec 32 := 4#32
  let c0_i32_1931 : BitVec 32 := 0#32
  let v2044 : BitVec 1 := Scalar.cmpi .eq c4_i32_1930 c0_i32_1931
  let c1_i32_1932 : BitVec 32 := 1#32
  let v2045 : BitVec 32 := Scalar.select v2044 c1_i32_1932 c4_i32_1930
  let v2046 : BitVec 32 := Scalar.remsi v2043 v2045
  let c0_i32_1934 : BitVec 32 := 0#32
  let v2048 : BitVec 1 := Scalar.cmpi .slt v2046 c0_i32_1934
  let c0_i32_1935 : BitVec 32 := 0#32
  let v2049 : BitVec 1 := Scalar.cmpi .slt v2045 c0_i32_1935
  let v2050 : BitVec 1 := Scalar.xori v2048 v2049
  let c0_i32_1933 : BitVec 32 := 0#32
  let v2047 : BitVec 1 := Scalar.cmpi .ne v2046 c0_i32_1933
  let v2051 : BitVec 1 := Scalar.andi v2050 v2047
  let v2052 : BitVec 32 := Scalar.addi v2046 v2045
  let v2053 : BitVec 32 := Scalar.select v2051 v2052 v2046
  let c32_i32_1937 : BitVec 32 := 32#32
  let v2055 : BitVec 32 := Scalar.muli v2053 c32_i32_1937
  let v2056 : BitVec 32 := Scalar.addi v2054 v2055
  let c0_i32_1943 : BitVec 32 := 0#32
  ![v2056.toNat, 0]
def k1_dev57 (d0 : Dev nD) : Nat :=
  let c0_i32_1969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1968 : BitVec 32 := 1#32
  let v2093 : BitVec 32 := Scalar.muli v42 c1_i32_1968
  let v2094 : BitVec 32 := Scalar.addi c0_i32_1969 v2093
  v2094.toNat
def k1_off13 (d0 : Dev nD) (c0_i32_1979 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32_1986 : BitVec 32 := 256#32
  let v2117 : BitVec 32 := Scalar.muli v29 c256_i32_1986
  let c128_i32_1987 : BitVec 32 := 128#32
  let v2118 : BitVec 32 := Scalar.addi v2117 c128_i32_1987
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1978 : BitVec 32 := 1#32
  let v2105 : BitVec 32 := Scalar.addi v19 c1_i32_1978
  let v2106 : BitVec 32 := Scalar.addi v2105 c0_i32_1979
  let c4_i32_1980 : BitVec 32 := 4#32
  let c0_i32_1981 : BitVec 32 := 0#32
  let v2107 : BitVec 1 := Scalar.cmpi .eq c4_i32_1980 c0_i32_1981
  let c1_i32_1982 : BitVec 32 := 1#32
  let v2108 : BitVec 32 := Scalar.select v2107 c1_i32_1982 c4_i32_1980
  let v2109 : BitVec 32 := Scalar.remsi v2106 v2108
  let c0_i32_1984 : BitVec 32 := 0#32
  let v2111 : BitVec 1 := Scalar.cmpi .slt v2109 c0_i32_1984
  let c0_i32_1985 : BitVec 32 := 0#32
  let v2112 : BitVec 1 := Scalar.cmpi .slt v2108 c0_i32_1985
  let v2113 : BitVec 1 := Scalar.xori v2111 v2112
  let c0_i32_1983 : BitVec 32 := 0#32
  let v2110 : BitVec 1 := Scalar.cmpi .ne v2109 c0_i32_1983
  let v2114 : BitVec 1 := Scalar.andi v2113 v2110
  let v2115 : BitVec 32 := Scalar.addi v2109 v2108
  let v2116 : BitVec 32 := Scalar.select v2114 v2115 v2109
  let c32_i32_1988 : BitVec 32 := 32#32
  let v2119 : BitVec 32 := Scalar.muli v2116 c32_i32_1988
  let v2120 : BitVec 32 := Scalar.addi v2118 v2119
  let c0_i32_1994 : BitVec 32 := 0#32
  ![v2120.toNat, 0]
def k1_dev58 (d0 : Dev nD) : Nat :=
  let c0_i32_2022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_2021 : BitVec 32 := 1#32
  let v2159 : BitVec 32 := Scalar.muli v55 c1_i32_2021
  let v2160 : BitVec 32 := Scalar.addi c0_i32_2022 v2159
  v2160.toNat
def k1_dev59 (d0 : Dev nD) : Nat :=
  let c0_i32_2072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2071 : BitVec 32 := 1#32
  let v2222 : BitVec 32 := Scalar.muli v42 c1_i32_2071
  let v2223 : BitVec 32 := Scalar.addi c0_i32_2072 v2222
  v2223.toNat
def k1_dev60 (d0 : Dev nD) : Nat :=
  let c0_i32_2125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_2124 : BitVec 32 := 1#32
  let v2288 : BitVec 32 := Scalar.muli v55 c1_i32_2124
  let v2289 : BitVec 32 := Scalar.addi c0_i32_2125 v2288
  v2289.toNat
def k1_dev61 (d0 : Dev nD) : Nat :=
  let c0_i32_2175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2174 : BitVec 32 := 1#32
  let v2351 : BitVec 32 := Scalar.muli v42 c1_i32_2174
  let v2352 : BitVec 32 := Scalar.addi c0_i32_2175 v2351
  v2352.toNat
def k1_dev62 (d0 : Dev nD) : Nat :=
  let c0_i32_2228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_2227 : BitVec 32 := 1#32
  let v2417 : BitVec 32 := Scalar.muli v55 c1_i32_2227
  let v2418 : BitVec 32 := Scalar.addi c0_i32_2228 v2417
  v2418.toNat
def k1_dev63 (d0 : Dev nD) : Nat :=
  let c0_i32_2278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2277 : BitVec 32 := 1#32
  let v2480 : BitVec 32 := Scalar.muli v42 c1_i32_2277
  let v2481 : BitVec 32 := Scalar.addi c0_i32_2278 v2480
  v2481.toNat
def k1_dev64 (d0 : Dev nD) : Nat :=
  let c0_i32_2331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_2330 : BitVec 32 := 1#32
  let v2546 : BitVec 32 := Scalar.muli v55 c1_i32_2330
  let v2547 : BitVec 32 := Scalar.addi c0_i32_2331 v2546
  v2547.toNat
abbrev stage1_0 : Fin 1 → Memref sig .tc .vmem S1024x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S2x512x768 : Shape := ⟨3, ![2, 512, 768]⟩
abbrev S768x6144 : Shape := ⟨2, ![768, 6144]⟩
abbrev S6144x768 : Shape := ⟨2, ![6144, 768]⟩
abbrev S2x128 : Shape := ⟨2, ![2, 128]⟩
abbrev S128x4608 : Shape := ⟨2, ![128, 4608]⟩
abbrev S768x3072 : Shape := ⟨2, ![768, 3072]⟩
abbrev S3072x768 : Shape := ⟨2, ![3072, 768]⟩
abbrev S2x4608 : Shape := ⟨2, ![2, 4608]⟩
abbrev S2x768 : Shape := ⟨2, ![2, 768]⟩
abbrev S_ : Shape := ⟨0, ![]⟩
abbrev S2x512 : Shape := ⟨2, ![2, 512]⟩
abbrev S2x512x1 : Shape := ⟨3, ![2, 512, 1]⟩
abbrev S2x1x768 : Shape := ⟨3, ![2, 1, 768]⟩
abbrev S2x512x6144 : Shape := ⟨3, ![2, 512, 6144]⟩
abbrev S2x512x64x96 : Shape := ⟨4, ![2, 512, 64, 96]⟩
abbrev S2x64x512x512 : Shape := ⟨4, ![2, 64, 512, 512]⟩
abbrev S2x64x512 : Shape := ⟨3, ![2, 64, 512]⟩
abbrev S2x64x512x1 : Shape := ⟨4, ![2, 64, 512, 1]⟩
abbrev S2x64x96x512 : Shape := ⟨4, ![2, 64, 96, 512]⟩
abbrev S2x512x3072 : Shape := ⟨3, ![2, 512, 3072]⟩

abbrev nBuf : Space → Nat
  | .hbm => 154
  | .vmem => 0
  | .smem => 0
  | _ => 0

abbrev hbmTy0_0 (i : Nat) : BufTy := match i % 128 with
  | 0 => ⟨S2x512x768, .f32⟩
  | 1 => ⟨S768x6144, .f32⟩
  | 2 => ⟨S768x6144, .f32⟩
  | 3 => ⟨S768x6144, .f32⟩
  | 4 => ⟨S6144x768, .f32⟩
  | 5 => ⟨S2x128, .f32⟩
  | 6 => ⟨S128x4608, .f32⟩
  | 7 => ⟨S768x3072, .f32⟩
  | 8 => ⟨S3072x768, .f32⟩
  | 9 => ⟨S2x4608, .f32⟩
  | 10 => ⟨S2x768, .f32⟩
  | 11 => ⟨S2x768, .f32⟩
  | 12 => ⟨S2x768, .f32⟩
  | 13 => ⟨S2x768, .f32⟩
  | 14 => ⟨S2x768, .f32⟩
  | 15 => ⟨S2x768, .f32⟩
  | 16 => ⟨S_, .f32⟩
  | 17 => ⟨S2x512, .f32⟩
  | 18 => ⟨S2x512x1, .f32⟩
  | 19 => ⟨S_, .f32⟩
  | 20 => ⟨S2x512x1, .f32⟩
  | 21 => ⟨S2x512x1, .f32⟩
  | 22 => ⟨S_, .i32⟩
  | 23 => ⟨S_, .f32⟩
  | 24 => ⟨S2x512, .f32⟩
  | 25 => ⟨S2x512x1, .f32⟩
  | 26 => ⟨S_, .f32⟩
  | 27 => ⟨S2x512x1, .f32⟩
  | 28 => ⟨S2x512x1, .f32⟩
  | 29 => ⟨S2x512x768, .f32⟩
  | 30 => ⟨S2x512x768, .f32⟩
  | 31 => ⟨S2x512x768, .f32⟩
  | 32 => ⟨S_, .f32⟩
  | 33 => ⟨S_, .f32⟩
  | 34 => ⟨S_, .f32⟩
  | 35 => ⟨S_, .f32⟩
  | 36 => ⟨S2x512, .f32⟩
  | 37 => ⟨S2x512x1, .f32⟩
  | 38 => ⟨S2x512x1, .f32⟩
  | 39 => ⟨S2x512x1, .f32⟩
  | 40 => ⟨S_, .f32⟩
  | 41 => ⟨S_, .i1⟩
  | 42 => ⟨S_, .f32⟩
  | 43 => ⟨S_, .f32⟩
  | 44 => ⟨S2x512x1, .f32⟩
  | 45 => ⟨S2x512x1, .f32⟩
  | 46 => ⟨S2x512x768, .f32⟩
  | 47 => ⟨S2x512x768, .f32⟩
  | 48 => ⟨S_, .f32⟩
  | 49 => ⟨S2x512x1, .f32⟩
  | 50 => ⟨S2x512x1, .f32⟩
  | 51 => ⟨S2x512x1, .f32⟩
  | 52 => ⟨S2x512x768, .f32⟩
  | 53 => ⟨S2x512x768, .f32⟩
  | 54 => ⟨S2x1x768, .f32⟩
  | 55 => ⟨S_, .f32⟩
  | 56 => ⟨S2x1x768, .f32⟩
  | 57 => ⟨S2x1x768, .f32⟩
  | 58 => ⟨S2x512x768, .f32⟩
  | 59 => ⟨S2x512x768, .f32⟩
  | 60 => ⟨S2x1x768, .f32⟩
  | 61 => ⟨S2x512x768, .f32⟩
  | 62 => ⟨S2x512x768, .f32⟩
  | 63 => ⟨S2x512x6144, .f32⟩
  | 64 => ⟨S2x512x64x96, .f32⟩
  | 65 => ⟨S2x512x6144, .f32⟩
  | 66 => ⟨S2x512x64x96, .f32⟩
  | 67 => ⟨S2x512x6144, .f32⟩
  | 68 => ⟨S2x512x64x96, .f32⟩
  | 69 => ⟨S2x64x512x512, .f32⟩
  | 70 => ⟨S_, .f32⟩
  | 71 => ⟨S2x64x512x512, .f32⟩
  | 72 => ⟨S2x64x512x512, .f32⟩
  | 73 => ⟨S_, .f32⟩
  | 74 => ⟨S2x64x512, .f32⟩
  | 75 => ⟨S_, .f32⟩
  | 76 => ⟨S2x64x512, .f32⟩
  | 77 => ⟨S2x64x512, .f32⟩
  | 78 => ⟨S2x64x512x1, .f32⟩
  | 79 => ⟨S2x64x512x512, .f32⟩
  | 80 => ⟨S2x64x512x512, .f32⟩
  | 81 => ⟨S2x64x512x512, .f32⟩
  | 82 => ⟨S_, .f32⟩
  | 83 => ⟨S2x64x512, .f32⟩
  | 84 => ⟨S2x64x512x1, .f32⟩
  | 85 => ⟨S2x64x512x512, .f32⟩
  | 86 => ⟨S2x64x512x512, .f32⟩
  | 87 => ⟨S2x64x96x512, .f32⟩
  | 88 => ⟨S2x512x64x96, .f32⟩
  | 89 => ⟨S2x512x6144, .f32⟩
  | 90 => ⟨S2x1x768, .f32⟩
  | 91 => ⟨S2x512x768, .f32⟩
  | 92 => ⟨S2x512x768, .f32⟩
  | 93 => ⟨S2x512x768, .f32⟩
  | 94 => ⟨S2x512x768, .f32⟩
  | 95 => ⟨S_, .f32⟩
  | 96 => ⟨S2x512, .f32⟩
  | 97 => ⟨S2x512x1, .f32⟩
  | 98 => ⟨S_, .f32⟩
  | 99 => ⟨S2x512x1, .f32⟩
  | 100 => ⟨S2x512x1, .f32⟩
  | 101 => ⟨S_, .i32⟩
  | 102 => ⟨S_, .f32⟩
  | 103 => ⟨S2x512, .f32⟩
  | 104 => ⟨S2x512x1, .f32⟩
  | 105 => ⟨S_, .f32⟩
  | 106 => ⟨S2x512x1, .f32⟩
  | 107 => ⟨S2x512x1, .f32⟩
  | 108 => ⟨S2x512x768, .f32⟩
  | 109 => ⟨S2x512x768, .f32⟩
  | 110 => ⟨S2x512x768, .f32⟩
  | 111 => ⟨S_, .f32⟩
  | 112 => ⟨S_, .f32⟩
  | 113 => ⟨S_, .f32⟩
  | 114 => ⟨S_, .f32⟩
  | 115 => ⟨S2x512, .f32⟩
  | 116 => ⟨S2x512x1, .f32⟩
  | 117 => ⟨S2x512x1, .f32⟩
  | 118 => ⟨S2x512x1, .f32⟩
  | 119 => ⟨S_, .f32⟩
  | 120 => ⟨S_, .i1⟩
  | 121 => ⟨S_, .f32⟩
  | 122 => ⟨S_, .f32⟩
  | 123 => ⟨S2x512x1, .f32⟩
  | 124 => ⟨S2x512x1, .f32⟩
  | 125 => ⟨S2x512x768, .f32⟩
  | 126 => ⟨S2x512x768, .f32⟩
  | 127 => ⟨S_, .f32⟩
  | _ => ⟨S2x512x768, .f32⟩

abbrev hbmTy0_1 (i : Nat) : BufTy := match i % 128 with
  | 0 => ⟨S2x512x1, .f32⟩
  | 1 => ⟨S2x512x1, .f32⟩
  | 2 => ⟨S2x512x1, .f32⟩
  | 3 => ⟨S2x512x768, .f32⟩
  | 4 => ⟨S2x512x768, .f32⟩
  | 5 => ⟨S2x1x768, .f32⟩
  | 6 => ⟨S_, .f32⟩
  | 7 => ⟨S2x1x768, .f32⟩
  | 8 => ⟨S2x1x768, .f32⟩
  | 9 => ⟨S2x512x768, .f32⟩
  | 10 => ⟨S2x512x768, .f32⟩
  | 11 => ⟨S2x1x768, .f32⟩
  | 12 => ⟨S2x512x768, .f32⟩
  | 13 => ⟨S2x512x768, .f32⟩
  | 14 => ⟨S2x512x3072, .f32⟩
  | 15 => ⟨S2x512x3072, .f32⟩
  | 16 => ⟨S2x512x3072, .f32⟩
  | 17 => ⟨S_, .f32⟩
  | 18 => ⟨S2x512x3072, .f32⟩
  | 19 => ⟨S2x512x3072, .f32⟩
  | 20 => ⟨S2x512x3072, .f32⟩
  | 21 => ⟨S2x1x768, .f32⟩
  | 22 => ⟨S2x512x768, .f32⟩
  | 23 => ⟨S2x512x768, .f32⟩
  | 24 => ⟨S2x512x768, .f32⟩
  | 25 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_3 : Ref sig .tc := ⟨.hbm, 70, rfl⟩
abbrev main_v34 : Ref sig .tc := ⟨.hbm, 71, rfl⟩
abbrev main_v35 : Ref sig .tc := ⟨.hbm, 72, rfl⟩
abbrev main_cst_4 : Ref sig .tc := ⟨.hbm, 73, rfl⟩
abbrev main_v36 : Ref sig .tc := ⟨.hbm, 74, rfl⟩
abbrev main_cst_5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_6 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_7 : Ref sig .tc := ⟨.hbm, 95, rfl⟩
abbrev main_v55 : Ref sig .tc := ⟨.hbm, 96, rfl⟩
abbrev main_v56 : Ref sig .tc := ⟨.hbm, 97, rfl⟩
abbrev main_cst_8 : Ref sig .tc := ⟨.hbm, 98, rfl⟩
abbrev main_v57 : Ref sig .tc := ⟨.hbm, 99, rfl⟩
abbrev main_v58 : Ref sig .tc := ⟨.hbm, 100, rfl⟩
abbrev main_c_9 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_v12 : Ref sig .tc := ⟨.hbm, 118, rfl⟩
abbrev main_call1_cst_3 : Ref sig .tc := ⟨.hbm, 119, rfl⟩
abbrev main_call1_v13 : Ref sig .tc := ⟨.hbm, 120, rfl⟩
abbrev main_call1_cst_4 : Ref sig .tc := ⟨.hbm, 121, rfl⟩
abbrev main_call1_call0_v0 : Ref sig .tc := ⟨.hbm, 122, rfl⟩
abbrev main_call1_call0_v1 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst_10 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_11 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_cst_12 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩

abbrev nD : Nat := 1
abbrev τ : Topo := Topo.v7x

variable {F : FTy → Type} [FloatOps F]
-- ==== Proof.Tab.lean ====
/- The exchange of the residual all-reduce as tables.

   Every remote copy the kernel makes is one row of `msgs`; the kernel's body, from its entry barrier on, is the
   list `body` of instructions over those rows, and `run` is the program such a list stands for. `body_eq` says
   that the printed body is that program. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

set_option maxRecDepth 16384

noncomputable section

namespace Cert.ResidualProof

open Cert.KernelIdeal Cert.KernelIdeal.Gen
open Idealize.ShloMosaic
open Idealize.ShloMosaic.TcCoe
open Idealize.SL Idealize.SL.Sem

variable {F : FTy → Type} [FloatOps F]

/-! ## Rows -/

/-- The row offsets the kernel computes from its device, by the printed function and its constants. -/
inductive Of
  | o1 (c : Fin 4) | o2 (c : Fin 4) | o3 (c : Fin 4) | o4 (c : Fin 4)
  | o5 (a : Fin 2) (c : Fin 4) | o6 (r : Fin 7) | o7
  | o10 (g : Fin 3) (j : Fin 4) | o11 (g : Fin 3) (j : Fin 4) | o12 (j : Fin 4) | o13 (j : Fin 4)

/-- The offset on device `d`. -/
def Of.off (d : Dev nD) : Of → Fin 2 → Nat
  | .o1 c => k0_off1 d (BitVec.ofNat 32 c.val)
  | .o2 c => k0_off2 d (BitVec.ofNat 32 c.val)
  | .o3 c => k0_off3 d (BitVec.ofNat 32 c.val)
  | .o4 c => k0_off4 d (BitVec.ofNat 32 c.val)
  | .o5 a c => k0_off5 d (BitVec.ofNat 32 (1 + a.val)) (BitVec.ofNat 32 c.val)
  | .o6 r => k0_off6 d (k0_off6_at r).1 (k0_off6_at r).2
  | .o7 => k0_off7 d
  | .o10 g j => k0_off10 d (BitVec.ofNat 32 (1 + g.val)) (BitVec.ofNat 32 j.val)
  | .o11 g j => k0_off11 d (BitVec.ofNat 32 (1 + g.val)) (BitVec.ofNat 32 j.val)
  | .o12 j => k0_off12 d (BitVec.ofNat 32 j.val)
  | .o13 j => k0_off13 d (BitVec.ofNat 32 j.val)

/-- A block of 32 rows at the offset lies in the array. -/
theorem Of.inb (d : Dev nD) : ∀ o : Of, ∀ a, o.off d a + S32x768.size a ≤ S1024x768.size a
  | .o1 c => k0_off1_inb d c
  | .o2 c => k0_off2_inb d c
  | .o3 c => k0_off3_inb d c
  | .o4 c => k0_off4_inb d c
  | .o5 a c => k0_off5_inb d a c
  | .o6 r => k0_off6_inb d r
  | .o7 => k0_off7_inb d
  | .o10 g j => k0_off10_inb d g j
  | .o11 g j => k0_off11_inb d g j
  | .o12 j => k0_off12_inb d j
  | .o13 j => k0_off13_inb d j

/-- The gate's row a device reads for the first (`0`) and the second (`1`) half of its sums. -/
def goff (d : Dev nD) (h : Fin 2) : Fin 2 → Nat := match h with | 0 => k0_off8 d | 1 => k0_off9 d

theorem goff_inb (d : Dev nD) (h : Fin 2) : ∀ a, goff d h a + S1x768.size a ≤ S2x768.size a :=
  match h with | 0 => k0_off8_inb d | 1 => k0_off9_inb d

/-! ## The two calls

The kernel's text is called twice, the second time on the second call's own buffers and semaphores. -/

/-- Which of the two calls. -/
class Call where
  k : Bool

/-- The first call and the second. -/
abbrev call0 : Call := ⟨false⟩
abbrev call1 : Call := ⟨true⟩

/-- A call's transfer semaphores by their number within the call. -/
abbrev LS : Type := Fin 81

/-! ## Memrefs -/

section Mems
variable [C : Call]

def pM : Memref sig .tc .vmem S1024x768 .f32 := match C.k with
  | false => Memref.whole cc0_stg0_0 | true => Memref.whole cc1_stg0_0
def bM : Memref sig .tc .vmem S1024x768 .f32 := match C.k with
  | false => Memref.whole cc0_stg1_0 | true => Memref.whole cc1_stg1_0
def gM : Memref sig .tc .vmem S2x768 .f32 := match C.k with
  | false => Memref.whole cc0_stg2_0 | true => Memref.whole cc1_stg2_0
def oM : Memref sig .tc .vmem S1024x768 .f32 := match C.k with
  | false => Memref.whole cc0_stg3_0 | true => Memref.whole cc1_stg3_0
def pAM : Memref sig .tc .vmem S12x32x768 .f32 := match C.k with
  | false => Memref.whole cc0_scratch0 | true => Memref.whole cc1_scratch0
def pBM : Memref sig .tc .vmem S12x32x768 .f32 := match C.k with
  | false => Memref.whole cc0_scratch1 | true => Memref.whole cc1_scratch1
def zbM : Memref sig .tc .vmem S3x2x32x768 .f32 := match C.k with
  | false => Memref.whole cc0_scratch2 | true => Memref.whole cc1_scratch2
def sAM : Memref sig .tc .vmem S8x32x768 .f32 := match C.k with
  | false => Memref.whole cc0_scratch3 | true => Memref.whole cc1_scratch3
def sBM : Memref sig .tc .vmem S8x32x768 .f32 := match C.k with
  | false => Memref.whole cc0_scratch4 | true => Memref.whole cc1_scratch4
def zsM : Memref sig .tc .vmem S3x2x32x768 .f32 := match C.k with
  | false => Memref.whole cc0_scratch5 | true => Memref.whole cc1_scratch5

/-- The semaphore of a number. -/
def gs (n : LS) : DmaSem sig := match C.k with
  | false => ⟨n.val, by have := n.isLt; change _ < 162; omega⟩
  | true => ⟨81 + n.val, by have := n.isLt; change _ < 162; omega⟩

/-- The entry barrier's semaphore. -/
def barS : Sem sig := match C.k with
  | false => (SemArray.scalar (sig.barrier 0 rfl) : Sems sig S_).sem
  | true => (SemArray.scalar (sig.barrier 1 rfl) : Sems sig S_).sem

end Mems

theorem inb12 (s : Fin 12) : ∀ a, (![s.val, 0, 0] : Fin 3 → Nat) a + S1x32x768.size a ≤ S12x32x768.size a := by
  revert s; decide
theorem inb8 (s : Fin 8) : ∀ a, (![s.val, 0, 0] : Fin 3 → Nat) a + S1x32x768.size a ≤ S8x32x768.size a := by
  revert s; decide
theorem inb32 (a : Fin 3) (b : Fin 2) :
    ∀ x, (![a.val, b.val, 0, 0] : Fin 4 → Nat) x + S1x1x32x768.size x ≤ S3x2x32x768.size x := by
  revert a b; decide

/-- The rectangles read and written. -/
abbrev rRow (off : Fin 2 → Nat) (h : ∀ a, off a + S32x768.size a ≤ S1024x768.size a) : Rect S1024x768 :=
  Rect.unit (s := S1024x768) off S32x768.size h
abbrev r12 (s : Fin 12) : Rect S12x32x768 := Rect.unit (s := S12x32x768) ![s.val, 0, 0] S1x32x768.size (inb12 s)
abbrev r8 (s : Fin 8) : Rect S8x32x768 := Rect.unit (s := S8x32x768) ![s.val, 0, 0] S1x32x768.size (inb8 s)
abbrev r32 (a : Fin 3) (b : Fin 2) : Rect S3x2x32x768 :=
  Rect.unit (s := S3x2x32x768) ![a.val, b.val, 0, 0] S1x1x32x768.size (inb32 a b)

/-- A 32-row block the kernel names: rows of the partial sums or of the result, or a slot of a scratch buffer. -/
inductive MR
  | p (o : Of) | o (o : Of) | pA (s : Fin 12) | pB (s : Fin 12) | zb (a : Fin 3) (b : Fin 2)
  | sA (s : Fin 8) | sB (s : Fin 8) | zs (a : Fin 3) (b : Fin 2)

/-- The block's memref on device `d`. -/
def MR.mem [Call] (d : Dev nD) : MR → Memref sig .tc .vmem S32x768 .f32
  | .p x => pM.slice (rRow (x.off d) (x.inb d)) (fun _ => rfl)
  | .o x => oM.slice (rRow (x.off d) (x.inb d)) (fun _ => rfl)
  | .pA s => (pAM.slice (r12 s) (fun _ => rfl)).squeeze S32x768 squeezes_S1x32x768_S32x768
  | .pB s => (pBM.slice (r12 s) (fun _ => rfl)).squeeze S32x768 squeezes_S1x32x768_S32x768
  | .zb a b => (zbM.slice (r32 a b) (fun _ => rfl)).squeeze S32x768 squeezes_S1x1x32x768_S32x768
  | .sA s => (sAM.slice (r8 s) (fun _ => rfl)).squeeze S32x768 squeezes_S1x32x768_S32x768
  | .sB s => (sBM.slice (r8 s) (fun _ => rfl)).squeeze S32x768 squeezes_S1x32x768_S32x768
  | .zs a b => (zsM.slice (r32 a b) (fun _ => rfl)).squeeze S32x768 squeezes_S1x1x32x768_S32x768

/-! ## Messages -/

/-- One remote copy: its link (0 clockwise, 1 counterclockwise, 2 up, 3 down), its number among the link's copies,
    the block it reads here, the block it writes there, the receiver's semaphore, the receiver's name of that block, and
    which of the source's four shares it holds. -/
structure Msg where
  link : Fin 4
  seq : Fin 24
  src : MR
  dst : MR
  sem : LS
  rcv : MR
  share : Fin 4

/-- The kernel's sixty copies, in the order it starts them. -/
def msgs : List Msg :=
  [
    ⟨1, 0, .p (.o1 0), .pA 4, 25, .pA 4, 0⟩, ⟨0, 0, .p (.o2 0), .pA 0, 21, .pA 0, 0⟩,
    ⟨0, 1, .p (.o3 0), .pB 4, 37, .pB 4, 0⟩, ⟨1, 1, .p (.o4 0), .pB 0, 33, .pB 0, 0⟩,
    ⟨1, 2, .p (.o1 1), .pA 5, 26, .pA 5, 0⟩, ⟨0, 2, .p (.o2 1), .pA 1, 22, .pA 1, 0⟩,
    ⟨0, 3, .p (.o3 1), .pB 5, 38, .pB 5, 0⟩, ⟨1, 3, .p (.o4 1), .pB 1, 34, .pB 1, 0⟩,
    ⟨1, 4, .p (.o1 2), .pA 6, 27, .pA 6, 0⟩, ⟨0, 4, .p (.o2 2), .pA 2, 23, .pA 2, 0⟩,
    ⟨0, 5, .p (.o3 2), .pB 6, 39, .pB 6, 0⟩, ⟨1, 5, .p (.o4 2), .pB 2, 35, .pB 2, 0⟩,
    ⟨1, 6, .p (.o1 3), .pA 7, 28, .pA 7, 0⟩, ⟨0, 6, .p (.o2 3), .pA 3, 24, .pA 3, 0⟩,
    ⟨0, 7, .p (.o3 3), .pB 7, 40, .pB 7, 0⟩, ⟨1, 7, .p (.o4 3), .pB 3, 36, .pB 3, 0⟩,
    ⟨0, 8, .sA 0, .pA 8, 29, .pA 8, 0⟩, ⟨1, 8, .sB 0, .pB 8, 41, .pB 8, 0⟩,
    ⟨0, 9, .sA 1, .pA 9, 30, .pA 9, 0⟩, ⟨1, 9, .sB 1, .pB 9, 42, .pB 9, 0⟩,
    ⟨0, 10, .sA 2, .pA 10, 31, .pA 10, 0⟩, ⟨1, 10, .sB 2, .pB 10, 43, .pB 10, 0⟩,
    ⟨0, 11, .sA 3, .pA 11, 32, .pA 11, 0⟩, ⟨1, 11, .sB 3, .pB 11, 44, .pB 11, 0⟩,
    ⟨3, 0, .zs 0 0, .zb 1 0, 47, .zb 1 0, 0⟩, ⟨2, 0, .zs 1 0, .zb 0 0, 45, .zb 0 0, 0⟩,
    ⟨3, 1, .zs 1 1, .zb 0 1, 46, .zb 0 1, 0⟩, ⟨2, 1, .zs 2 0, .zb 2 0, 49, .zb 2 0, 0⟩,
    ⟨2, 2, .zs 2 1, .zb 1 1, 48, .zb 1 1, 0⟩, ⟨3, 2, .zs 0 1, .zb 2 1, 50, .zb 2 1, 0⟩,
    ⟨2, 3, .o (.o10 0 0), .o (.o10 0 0), 51, .o (.o10 0 3), 0⟩,
    ⟨3, 3, .o (.o10 0 0), .o (.o10 0 0), 53, .o (.o10 0 1), 1⟩,
    ⟨2, 4, .o (.o11 2 0), .o (.o11 2 0), 52, .o (.o11 2 3), 0⟩,
    ⟨3, 4, .o (.o11 2 0), .o (.o11 2 0), 54, .o (.o11 2 1), 1⟩,
    ⟨0, 12, .o (.o10 0 0), .o (.o10 0 0), 57, .o (.o12 0), 2⟩,
    ⟨1, 12, .o (.o10 0 0), .o (.o10 0 0), 65, .o (.o10 1 0), 3⟩,
    ⟨1, 13, .o (.o11 2 0), .o (.o11 2 0), 69, .o (.o13 0), 2⟩,
    ⟨0, 13, .o (.o11 2 0), .o (.o11 2 0), 77, .o (.o11 1 0), 3⟩,
    ⟨2, 5, .o (.o10 0 3), .o (.o10 0 3), 55, .o (.o10 0 2), 0⟩,
    ⟨0, 14, .o (.o10 0 3), .o (.o10 0 3), 58, .o (.o12 3), 1⟩,
    ⟨1, 14, .o (.o10 0 3), .o (.o10 0 3), 66, .o (.o10 1 3), 2⟩,
    ⟨1, 15, .o (.o11 2 3), .o (.o11 2 3), 70, .o (.o13 3), 0⟩,
    ⟨0, 15, .o (.o11 2 3), .o (.o11 2 3), 78, .o (.o11 1 3), 1⟩,
    ⟨3, 5, .o (.o11 2 1), .o (.o11 2 1), 56, .o (.o11 2 2), 0⟩,
    ⟨0, 16, .o (.o10 0 1), .o (.o10 0 1), 59, .o (.o12 1), 0⟩,
    ⟨1, 16, .o (.o10 0 1), .o (.o10 0 1), 67, .o (.o10 1 1), 1⟩,
    ⟨1, 17, .o (.o11 2 1), .o (.o11 2 1), 71, .o (.o13 1), 1⟩,
    ⟨0, 17, .o (.o11 2 1), .o (.o11 2 1), 79, .o (.o11 1 1), 2⟩,
    ⟨0, 18, .o (.o10 0 2), .o (.o10 0 2), 60, .o (.o12 2), 0⟩,
    ⟨1, 18, .o (.o10 0 2), .o (.o10 0 2), 68, .o (.o10 1 2), 1⟩,
    ⟨1, 19, .o (.o11 2 2), .o (.o11 2 2), 72, .o (.o13 2), 0⟩,
    ⟨0, 19, .o (.o11 2 2), .o (.o11 2 2), 80, .o (.o11 1 2), 1⟩,
    ⟨0, 20, .o (.o12 0), .o (.o12 0), 61, .o (.o10 2 0), 0⟩,
    ⟨1, 20, .o (.o13 0), .o (.o13 0), 73, .o (.o11 0 0), 0⟩,
    ⟨0, 21, .o (.o12 3), .o (.o12 3), 62, .o (.o10 2 3), 0⟩,
    ⟨1, 21, .o (.o13 3), .o (.o13 3), 74, .o (.o11 0 3), 0⟩,
    ⟨0, 22, .o (.o12 1), .o (.o12 1), 63, .o (.o10 2 1), 0⟩,
    ⟨1, 22, .o (.o13 1), .o (.o13 1), 75, .o (.o11 0 1), 0⟩,
    ⟨0, 23, .o (.o12 2), .o (.o12 2), 64, .o (.o10 2 2), 0⟩,
    ⟨1, 23, .o (.o13 2), .o (.o13 2), 76, .o (.o11 0 2), 0⟩]

theorem msgs_length : msgs.length = 60 := by decide

def msg (i : Fin 60) : Msg := msgs.get (i.cast msgs_length.symm)

/-- The device copy `i` goes to, as printed. -/
def tgts : List (Dev nD → Dev nD) :=
  [
    (fun d => ⟨k0_dev5 d, k0_dev5_lt d⟩), (fun d => ⟨k0_dev6 d, k0_dev6_lt d⟩),
    (fun d => ⟨k0_dev7 d, k0_dev7_lt d⟩), (fun d => ⟨k0_dev8 d, k0_dev8_lt d⟩),
    (fun d => ⟨k0_dev9 d, k0_dev9_lt d⟩), (fun d => ⟨k0_dev10 d, k0_dev10_lt d⟩),
    (fun d => ⟨k0_dev11 d, k0_dev11_lt d⟩), (fun d => ⟨k0_dev12 d, k0_dev12_lt d⟩),
    (fun d => ⟨k0_dev13 d, k0_dev13_lt d⟩), (fun d => ⟨k0_dev14 d, k0_dev14_lt d⟩),
    (fun d => ⟨k0_dev15 d, k0_dev15_lt d⟩), (fun d => ⟨k0_dev16 d, k0_dev16_lt d⟩),
    (fun d => ⟨k0_dev17 d, k0_dev17_lt d⟩), (fun d => ⟨k0_dev18 d, k0_dev18_lt d⟩),
    (fun d => ⟨k0_dev19 d, k0_dev19_lt d⟩), (fun d => ⟨k0_dev20 d, k0_dev20_lt d⟩),
    (fun d => ⟨k0_dev21 d, k0_dev21_lt d⟩), (fun d => ⟨k0_dev22 d, k0_dev22_lt d⟩),
    (fun d => ⟨k0_dev23 d, k0_dev23_lt d⟩), (fun d => ⟨k0_dev24 d, k0_dev24_lt d⟩),
    (fun d => ⟨k0_dev25 d, k0_dev25_lt d⟩), (fun d => ⟨k0_dev26 d, k0_dev26_lt d⟩),
    (fun d => ⟨k0_dev27 d, k0_dev27_lt d⟩), (fun d => ⟨k0_dev28 d, k0_dev28_lt d⟩),
    (fun d => ⟨k0_dev29 d, k0_dev29_lt d⟩), (fun d => ⟨k0_dev30 d, k0_dev30_lt d⟩),
    (fun d => ⟨k0_dev31 d, k0_dev31_lt d⟩), (fun d => ⟨k0_dev32 d, k0_dev32_lt d⟩),
    (fun d => ⟨k0_dev33 d, k0_dev33_lt d⟩), (fun d => ⟨k0_dev34 d, k0_dev34_lt d⟩),
    (fun d => ⟨k0_dev35 d, k0_dev35_lt d⟩), (fun d => ⟨k0_dev36 d, k0_dev36_lt d⟩),
    (fun d => ⟨k0_dev37 d, k0_dev37_lt d⟩), (fun d => ⟨k0_dev38 d, k0_dev38_lt d⟩),
    (fun d => ⟨k0_dev39 d, k0_dev39_lt d⟩), (fun d => ⟨k0_dev40 d, k0_dev40_lt d⟩),
    (fun d => ⟨k0_dev41 d, k0_dev41_lt d⟩), (fun d => ⟨k0_dev42 d, k0_dev42_lt d⟩),
    (fun d => ⟨k0_dev43 d, k0_dev43_lt d⟩), (fun d => ⟨k0_dev44 d, k0_dev44_lt d⟩),
    (fun d => ⟨k0_dev45 d, k0_dev45_lt d⟩), (fun d => ⟨k0_dev46 d, k0_dev46_lt d⟩),
    (fun d => ⟨k0_dev47 d, k0_dev47_lt d⟩), (fun d => ⟨k0_dev48 d, k0_dev48_lt d⟩),
    (fun d => ⟨k0_dev49 d, k0_dev49_lt d⟩), (fun d => ⟨k0_dev50 d, k0_dev50_lt d⟩),
    (fun d => ⟨k0_dev51 d, k0_dev51_lt d⟩), (fun d => ⟨k0_dev52 d, k0_dev52_lt d⟩),
    (fun d => ⟨k0_dev53 d, k0_dev53_lt d⟩), (fun d => ⟨k0_dev54 d, k0_dev54_lt d⟩),
    (fun d => ⟨k0_dev55 d, k0_dev55_lt d⟩), (fun d => ⟨k0_dev56 d, k0_dev56_lt d⟩),
    (fun d => ⟨k0_dev57 d, k0_dev57_lt d⟩), (fun d => ⟨k0_dev58 d, k0_dev58_lt d⟩),
    (fun d => ⟨k0_dev59 d, k0_dev59_lt d⟩), (fun d => ⟨k0_dev60 d, k0_dev60_lt d⟩),
    (fun d => ⟨k0_dev61 d, k0_dev61_lt d⟩), (fun d => ⟨k0_dev62 d, k0_dev62_lt d⟩),
    (fun d => ⟨k0_dev63 d, k0_dev63_lt d⟩), (fun d => ⟨k0_dev64 d, k0_dev64_lt d⟩)]

theorem tgts_length : tgts.length = 60 := by decide

def tgt (i : Fin 60) : Dev nD → Dev nD := tgts.get (i.cast tgts_length.symm)

/-- The sending semaphore of a link's copy number `q`: each link uses four in turn. -/
def ssem (l : Fin 4) (q : Fin 24) : LS := ⟨4 + 4 * l.val + q.val % 4, by
  have h1 := l.isLt
  have h2 := Nat.mod_lt q.val (show 4 > 0 by decide)
  change _ < 81
  omega⟩

/-! ## Instructions -/

/-- A value computed from the registers, the latest read first. -/
inductive Ex
  | reg (n : Nat) | add (a b : Ex) | mul (a b : Ex)

abbrev Reg (F : FTy → Type) : Type := Vec F S32x768 .f32

def Ex.eval (z : Reg F) (env : List (Reg F)) : Ex → Reg F
  | .reg n => env.getD n z
  | .add a b => addf (a.eval z env) (b.eval z env)
  | .mul a b => mulf (a.eval z env) (b.eval z env)

inductive Ins
  | snd (i : Fin 60) | wsn (i : Fin 60) | wrc (i : Fin 60)
  | ld (m : MR) | ldb (o : Of) | ldg (h : Fin 2) | st (m : MR) (e : Ex)

abbrev Pr (F : FTy → Type) : Type 1 := Prog (TpuEff nD τ sig (Elt F) Λ₀ .tc) PUnit

/-- What a register holds of a block read as it lies in its buffer. -/
def in2 (v : Vec F S32x768 .f32) : Reg F := shapeCast S32x768 v shapeCasts_S32x768_S32x768
def in3 (v : Vec F S1x32x768 .f32) : Reg F := shapeCast S32x768 v shapeCasts_S1x32x768_S32x768
def in4 (v : Vec F S1x1x32x768 .f32) : Reg F := shapeCast S32x768 v shapeCasts_S1x1x32x768_S32x768
def inG (v : Vec F S1x768 .f32) : Reg F :=
  broadcastTo S32x768 (shapeCast S1x768 v shapeCasts_S1x768_S1x768) broadcasts_S1x768_S32x768
/-- A register's value as a block of a scratch buffer. -/
def out3 (v : Reg F) : Vec F S1x32x768 .f32 := shapeCast S1x32x768 v shapeCasts_S32x768_S1x32x768
def out4 (v : Reg F) : Vec F S1x1x32x768 .f32 := shapeCast S1x1x32x768 v shapeCasts_S32x768_S1x1x32x768

def ldRow (m : Memref sig .tc .vmem S1024x768 .f32) (d : Dev nD) (o : Of) (k : Reg F → Pr F) : Pr F :=
  .op (.load m (rRow (o.off d) (o.inb d)).toLoadRect (View.loadsAt_vmem h_S32x768)) fun v => k (in2 v)
def ld12 (m : Memref sig .tc .vmem S12x32x768 .f32) (s : Fin 12) (k : Reg F → Pr F) : Pr F :=
  .op (.load m (r12 s).toLoadRect (View.loadsAt_vmem h_S1x32x768)) fun v => k (in3 v)
def ld8 (m : Memref sig .tc .vmem S8x32x768 .f32) (s : Fin 8) (k : Reg F → Pr F) : Pr F :=
  .op (.load m (r8 s).toLoadRect (View.loadsAt_vmem h_S1x32x768)) fun v => k (in3 v)
def ld32 (m : Memref sig .tc .vmem S3x2x32x768 .f32) (a : Fin 3) (b : Fin 2) (k : Reg F → Pr F) : Pr F :=
  .op (.load m (r32 a b).toLoadRect (View.loadsAt_vmem h_S1x1x32x768)) fun v => k (in4 v)

variable [C : Call]

/-- Read a block into a new register. -/
def MR.load (d : Dev nD) (k : Reg F → Pr F) : MR → Pr F
  | .p x => ldRow pM d x k
  | .o x => ldRow oM d x k
  | .pA s => ld12 pAM s k
  | .pB s => ld12 pBM s k
  | .zb a b => ld32 zbM a b k
  | .sA s => ld8 sAM s k
  | .sB s => ld8 sBM s k
  | .zs a b => ld32 zsM a b k

/-- Write a value over a block. -/
def MR.store (d : Dev nD) (v : Reg F) (k : Pr F) : MR → Pr F
  | .p x => .op (.store pM (rRow (x.off d) (x.inb d)) v Finset.univ (View.stores_vmem_bits_univ h_S32x768 rfl) (.inl rfl)) fun _ => k
  | .o x => .op (.store oM (rRow (x.off d) (x.inb d)) v Finset.univ (View.stores_vmem_bits_univ h_S32x768 rfl) (.inl rfl)) fun _ => k
  | .pA s => .op (.store pAM (r12 s) (out3 v) Finset.univ (View.stores_vmem_bits_univ h_S1x32x768 rfl) (.inl rfl)) fun _ => k
  | .pB s => .op (.store pBM (r12 s) (out3 v) Finset.univ (View.stores_vmem_bits_univ h_S1x32x768 rfl) (.inl rfl)) fun _ => k
  | .zb a b => .op (.store zbM (r32 a b) (out4 v) Finset.univ (View.stores_vmem_bits_univ h_S1x1x32x768 rfl) (.inl rfl)) fun _ => k
  | .sA s => .op (.store sAM (r8 s) (out3 v) Finset.univ (View.stores_vmem_bits_univ h_S1x32x768 rfl) (.inl rfl)) fun _ => k
  | .sB s => .op (.store sBM (r8 s) (out3 v) Finset.univ (View.stores_vmem_bits_univ h_S1x32x768 rfl) (.inl rfl)) fun _ => k
  | .zs a b => .op (.store zsM (r32 a b) (out4 v) Finset.univ (View.stores_vmem_bits_univ h_S1x1x32x768 rfl) (.inl rfl)) fun _ => k

/-- A block takes whole words, and it lies where copies may read and write. -/
theorem MR.words (d : Dev nD) (m : MR) : (m.mem d).view.WordExact := by
  obtain ⟨k⟩ := C; cases k <;> cases m <;> exact View.wordExact_bits rfl
theorem MR.here (d : Dev nD) (m : MR) : (m.mem d).view.ref.isScScratch = false := by
  obtain ⟨k⟩ := C; cases k <;> cases m <;> rfl

/-- Start copy `i`. -/
def sendOp (d : Dev nD) (i : Fin 60) : TpuEff nD τ sig (Elt F) Λ₀ .tc PUnit :=
  .enqueueDma ((msg i).src.mem d) (.remote (Dev.tc (tgt i d)) ((msg i).dst.mem d) (.dma (gs (ssem (msg i).link (msg i).seq))) ((msg i).dst.here d))
    (.dma (gs (msg i).sem)) ((msg i).src.words d) ((msg i).dst.words d) ⟨⟨rfl, Or.inl rfl⟩, trivial⟩

/-- Wait until copy `i` has been read here. -/
def waitSndOp (d : Dev nD) (i : Fin 60) : TpuEff nD τ sig (Elt F) Λ₀ .tc PUnit :=
  .waitDma2 (gs (ssem (msg i).link (msg i).seq)) ((msg i).dst.mem d) ((msg i).src.mem d)
    ((msg i).dst.words d) ((msg i).src.words d)

/-- Wait until the copy `i` sent to this device has been written. -/
def waitRcvOp (d : Dev nD) (i : Fin 60) : TpuEff nD τ sig (Elt F) Λ₀ .tc PUnit :=
  .waitDma2 (gs (msg i).sem) ((msg i).rcv.mem d) ((msg i).rcv.mem d) ((msg i).rcv.words d) ((msg i).rcv.words d)

/-- The program a list of instructions stands for, run with the registers `env`. -/
def run (z : Reg F) (d : Dev nD) : List Ins → List (Reg F) → Pr F
  | [], _ => .ret ⟨⟩
  | .snd i :: l, env => .op (sendOp d i) fun _ => run z d l env
  | .wsn i :: l, env => .op (waitSndOp d i) fun _ => run z d l env
  | .wrc i :: l, env => .op (waitRcvOp d i) fun _ => run z d l env
  | .ld m :: l, env => m.load d (fun v => run z d l (v :: env))
  | .ldb o :: l, env => ldRow bM d o (fun v => run z d l (v :: env))
  | .ldg h :: l, env =>
    .op (.load gM (Rect.unit (s := S2x768) (goff d h) S1x768.size (goff_inb d h)).toLoadRect (View.loadsAt_vmem h_S1x768))
      fun v => run z d l (inG v :: env)
  | .st m e :: l, env => m.store d (e.eval z env) (run z d l env)

/-- The kernel's body after its entry barrier. -/
def body : List Ins :=
  [
    .snd 0, .snd 1, .snd 2, .snd 3, .snd 4, .wsn 0, .snd 5, .wsn 1, .snd 6, .wsn 2, .snd 7, .wsn 3, .snd 8,
    .wsn 4, .snd 9, .wsn 5, .snd 10, .wsn 6, .snd 11, .wsn 7, .snd 12, .wsn 8, .snd 13, .wsn 9, .snd 14,
    .wsn 10, .snd 15, .wsn 11, .wrc 1, .ld (.p (.o5 1 0)), .ld (.pA 0), .ld (.sA 0),
    .st (.sA 0) (.add (.reg 2) (.reg 1)), .snd 16, .wsn 13, .wrc 3, .ld (.p (.o6 0)), .ld (.pB 0),
    .ld (.sB 0), .st (.sB 0) (.add (.reg 2) (.reg 1)), .snd 17, .wsn 12, .wrc 5, .ld (.p (.o5 1 1)),
    .ld (.pA 1), .ld (.sA 1), .st (.sA 1) (.add (.reg 2) (.reg 1)), .snd 18, .wsn 14, .wrc 7,
    .ld (.p (.o6 1)), .ld (.pB 1), .ld (.sB 1), .st (.sB 1) (.add (.reg 2) (.reg 1)), .snd 19, .wsn 15,
    .wrc 9, .ld (.p (.o5 1 2)), .ld (.pA 2), .ld (.sA 2), .st (.sA 2) (.add (.reg 2) (.reg 1)), .snd 20,
    .wsn 16, .wrc 11, .ld (.p (.o6 2)), .ld (.pB 2), .ld (.sB 2), .st (.sB 2) (.add (.reg 2) (.reg 1)),
    .snd 21, .wsn 17, .wrc 13, .ld (.p (.o5 1 3)), .ld (.pA 3), .ld (.sA 3),
    .st (.sA 3) (.add (.reg 2) (.reg 1)), .snd 22, .wsn 18, .wrc 15, .ld (.p (.o6 3)), .ld (.pB 3),
    .ld (.sB 3), .st (.sB 3) (.add (.reg 2) (.reg 1)), .snd 23, .wsn 19, .wrc 0, .wrc 16, .wrc 2, .wrc 17,
    .ld (.p (.o5 0 0)), .ld (.pA 4), .ld (.pA 8), .ld (.zs 0 0),
    .st (.zs 0 0) (.add (.add (.reg 3) (.reg 2)) (.reg 1)), .snd 24, .wrc 4, .wrc 18, .wrc 6, .wrc 19,
    .ld (.p (.o5 0 1)), .ld (.pA 5), .ld (.pA 9), .ld (.p (.o6 4)), .ld (.pB 5), .ld (.pB 9), .ld (.zs 1 0),
    .st (.zs 1 0) (.add (.add (.reg 6) (.reg 5)) (.reg 4)), .snd 25, .ld (.zs 1 1),
    .st (.zs 1 1) (.add (.add (.reg 4) (.reg 3)) (.reg 2)), .snd 26, .wrc 8, .wrc 20, .wrc 10, .wrc 21,
    .ld (.p (.o5 0 2)), .ld (.pA 6), .ld (.pA 10), .ld (.p (.o6 5)), .ld (.pB 6), .ld (.pB 10), .wrc 25,
    .ld (.zb 0 0), .ld (.zs 2 0), .st (.zs 2 0) (.add (.add (.add (.reg 7) (.reg 6)) (.reg 5)) (.reg 1)),
    .snd 27, .ld (.zs 2 1), .st (.zs 2 1) (.add (.add (.reg 5) (.reg 4)) (.reg 3)), .snd 28, .wsn 25,
    .wrc 26, .ld (.p .o7), .ld (.pB 4), .ld (.pB 8), .ld (.zb 0 1), .ld (.zs 0 1),
    .st (.zs 0 1) (.add (.add (.add (.reg 4) (.reg 3)) (.reg 2)) (.reg 1)), .snd 29, .wsn 24, .wrc 12,
    .wrc 22, .wrc 14, .wrc 23, .ld (.p (.o5 0 3)), .ld (.pA 7), .ld (.pA 11), .ld (.p (.o6 6)), .ld (.pB 7),
    .ld (.pB 11), .wrc 24, .wrc 27, .wrc 28, .wrc 29, .ld (.zb 1 0), .ld (.zb 2 0), .ld (.zb 1 1),
    .ld (.zb 2 1), .ldg 0, .ldb (.o5 0 3), .ld (.o (.o5 0 3)),
    .st (.o (.o5 0 3)) (.add (.reg 1) (.mul (.reg 2) (.add (.add (.add (.add (.reg 12) (.reg 11)) (.reg 10)) (.reg 6)) (.reg 5)))),
    .ldg 1, .ldb (.o6 6), .ld (.o (.o6 6)),
    .st (.o (.o6 6)) (.add (.reg 1) (.mul (.reg 2) (.add (.add (.add (.add (.reg 12) (.reg 11)) (.reg 10)) (.reg 7)) (.reg 6)))),
    .snd 30, .wsn 27, .snd 31, .wsn 26, .snd 32, .wsn 28, .snd 33, .wsn 29, .snd 34, .wsn 20, .snd 35,
    .wsn 21, .snd 36, .wsn 23, .snd 37, .wsn 22, .wrc 30, .wrc 32, .snd 38, .wsn 30, .snd 39, .wsn 34,
    .snd 40, .wsn 35, .snd 41, .wsn 36, .snd 42, .wsn 37, .wrc 31, .wrc 33, .snd 43, .wsn 31, .snd 44,
    .wsn 39, .snd 45, .wsn 40, .snd 46, .wsn 41, .snd 47, .wsn 42, .wrc 38, .wrc 43, .snd 48, .wsn 44,
    .snd 49, .wsn 45, .snd 50, .wsn 46, .snd 51, .wsn 47, .wrc 34, .snd 52, .wsn 48, .wrc 36, .snd 53,
    .wsn 49, .wrc 39, .snd 54, .wsn 51, .wrc 41, .snd 55, .wsn 50, .wrc 44, .snd 56, .wsn 52, .wrc 46,
    .snd 57, .wsn 53, .wrc 48, .snd 58, .wsn 54, .wrc 50, .snd 59, .wsn 55, .wrc 52, .wrc 35, .wrc 53,
    .wrc 37, .wrc 54, .wrc 40, .wrc 55, .wrc 42, .wrc 56, .wrc 45, .wrc 57, .wrc 47, .wrc 58, .wrc 49,
    .wrc 59, .wrc 51, .wsn 56, .wsn 58, .wsn 57, .wsn 59, .wsn 32, .wsn 38, .wsn 33, .wsn 43]

/-- The whole body: tell the four neighbours, wait for the four, run the list. -/
def whole (z : Reg F) : Pr F :=
  .op .deviceId fun d =>
  .op (.semSignal (Dev.tc ⟨k0_dev1 d, k0_dev1_lt d⟩) barS (1#32).toInt) fun _ =>
  .op (.semSignal (Dev.tc ⟨k0_dev2 d, k0_dev2_lt d⟩) barS (1#32).toInt) fun _ =>
  .op (.semSignal (Dev.tc ⟨k0_dev3 d, k0_dev3_lt d⟩) barS (1#32).toInt) fun _ =>
  .op (.semSignal (Dev.tc ⟨k0_dev4 d, k0_dev4_lt d⟩) barS (1#32).toInt) fun _ =>
  .op (.semWait barS (4#32).toInt) fun _ =>
  run z d body []

set_option maxHeartbeats 4000000 in
/-- Each call's printed body is `whole`. -/
theorem body_eq0 (z : Reg F) (t : Fin cfg0.N) : bodyAt0 (F := F) t = whole (C := call0) z := by
  obtain rfl := fin_N0 t
  chain_rfl
set_option maxHeartbeats 4000000 in
theorem body_eq1 (z : Reg F) (t : Fin cfg1.N) : bodyAt1 (F := F) t = whole (C := call1) z := by
  obtain rfl := fin_N1 t
  chain_rfl

end Cert.ResidualProof

end
-- ==== Proof.Chunk.lean ====
/- The chunks of 32 rows the exchange moves: where they lie, and what each holds in the end. -/
module

public import proofs.«01_k».proof.Proof.Tab
public import Idealize.ShloMosaic.Lib.Pipeline.Launch
public import Idealize.ShloMosaic.Lib.Pipeline.Kit
public import Idealize.ShloMosaic.Lib.Tactic
public import Idealize.ShloMosaic.Lib.VecWindow
public import Idealize.ShloMosaic.Lib.Writes

@[expose] public section

set_option maxRecDepth 16384

noncomputable section

namespace Cert.ResidualProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mesh: device `4z + k` -/

/-- The device `a` planes up and `b` steps clockwise of `d`. -/
def dv (d : Dev nD) (a b : Fin 4) : Dev nD := ⟨4 * ((d.val / 4 + a.val) % 4) + (d.val % 4 + b.val) % 4, by
  have h1 := Nat.mod_lt (d.val / 4 + a.val) (show 4 > 0 by decide)
  have h2 := Nat.mod_lt (d.val % 4 + b.val) (show 4 > 0 by decide)
  change _ < 16
  omega⟩

/-- The neighbour a link leads to. -/
def nb (l : Fin 4) (d : Dev nD) : Dev nD := match l with
  | 0 => dv d 0 1 | 1 => dv d 0 3 | 2 => dv d 1 0 | 3 => dv d 3 0

/-- The link that leads back. -/
def opp (l : Fin 4) : Fin 4 := match l with | 0 => 1 | 1 => 0 | 2 => 3 | 3 => 2

theorem nb_opp (l : Fin 4) (d : Dev nD) : nb (opp l) (nb l d) = d := by revert l d; decide +kernel
theorem nb_opp' (l : Fin 4) (d : Dev nD) : nb l (nb (opp l) d) = d := by revert l d; decide +kernel
theorem opp_opp (l : Fin 4) : opp (opp l) = l := by revert l; decide

/-- Every copy goes to its link's neighbour. -/
theorem tgt_eq (i : Fin 60) (d : Dev nD) : tgt i d = nb (msg i).link d := by revert i d; decide +kernel

theorem sig1_eq (d : Dev nD) : (⟨k0_dev1 d, k0_dev1_lt d⟩ : Dev nD) = nb 1 d := by revert d; decide +kernel
theorem sig2_eq (d : Dev nD) : (⟨k0_dev2 d, k0_dev2_lt d⟩ : Dev nD) = nb 0 d := by revert d; decide +kernel
theorem sig3_eq (d : Dev nD) : (⟨k0_dev3 d, k0_dev3_lt d⟩ : Dev nD) = nb 2 d := by revert d; decide +kernel
theorem sig4_eq (d : Dev nD) : (⟨k0_dev4 d, k0_dev4_lt d⟩ : Dev nD) = nb 3 d := by revert d; decide +kernel

/-! ## Chunks -/

/-- A chunk: of the partial sums (`p`) or of the result (`o`), by half, group and row of chunks counted from
    the device's own place; or a slot of a scratch buffer. -/
inductive Ch
  | p (h : Fin 2) (g j : Fin 4) | o (h : Fin 2) (g j : Fin 4) | pA (s : Fin 12) | pB (s : Fin 12) | zb (a : Fin 3) (b : Fin 2)
  | sA (s : Fin 8) | sB (s : Fin 8) | zs (a : Fin 3) (b : Fin 2)
  deriving DecidableEq

/-- The block of 32 rows a chunk of the arrays is. -/
def blk (d : Dev nD) (h : Fin 2) (g j : Fin 4) : Nat := 8 * ((d.val % 4 + g.val) % 4) + 4 * h.val + (d.val / 4 + j.val) % 4

def rowOff (n : Nat) : Fin 2 → Nat := ![32 * n, 0]

theorem blk_lt (d : Dev nD) (h : Fin 2) (g j : Fin 4) : blk d h g j < 32 := by
  have h1 := Nat.mod_lt (d.val % 4 + g.val) (show 4 > 0 by decide)
  have h2 := Nat.mod_lt (d.val / 4 + j.val) (show 4 > 0 by decide)
  have h3 := h.isLt
  unfold blk; omega

theorem row_inb (n : Nat) (hn : n < 32) : ∀ a, rowOff n a + S32x768.size a ≤ S1024x768.size a := by
  intro a
  fin_cases a
  · change 32 * n + 32 ≤ 1024; omega
  · change 0 + 768 ≤ 768; omega

theorem blk_inb (d : Dev nD) (h : Fin 2) (g j : Fin 4) : ∀ a, rowOff (blk d h g j) a + S32x768.size a ≤ S1024x768.size a :=
  row_inb _ (blk_lt d h g j)

/-- The half, the group and the row of chunks an offset names. -/
def Of.h : Of → Fin 2
  | .o1 _ => 0 | .o2 _ => 0 | .o3 _ => 1 | .o4 _ => 1 | .o5 _ _ => 0 | .o6 _ => 1 | .o7 => 1
  | .o10 _ _ => 0 | .o11 _ _ => 1 | .o12 _ => 0 | .o13 _ => 1
def Of.g : Of → Fin 4
  | .o1 _ => 0 | .o2 _ => 3 | .o3 _ => 0 | .o4 _ => 1 | .o5 a _ => ⟨1 + a.val, by omega⟩
  | .o6 r => if r.val < 4 then 2 else 3 | .o7 => 3
  | .o10 g _ => ⟨1 + g.val, by omega⟩ | .o11 g _ => ⟨1 + g.val, by omega⟩ | .o12 _ => 0 | .o13 _ => 0
def Of.j : Of → Fin 4
  | .o1 c => -c | .o2 c => -c | .o3 c => -c | .o4 c => -c | .o5 _ c => -c
  | .o6 r => if r.val < 4 then -⟨r.val % 4, Nat.mod_lt _ (by decide)⟩ else -⟨(r.val + 1) % 4, Nat.mod_lt _ (by decide)⟩
  | .o7 => 0 | .o10 _ j => 1 + j | .o11 _ j => 1 + j | .o12 j => 1 + j | .o13 j => 1 + j

/-- Every offset the kernel computes is that of the chunk it names. -/
theorem Of.off_eq (d : Dev nD) : ∀ o : Of, o.off d = rowOff (blk d o.h o.g o.j)
  | .o1 c => by revert c d; decide +kernel
  | .o2 c => by revert c d; decide +kernel
  | .o3 c => by revert c d; decide +kernel
  | .o4 c => by revert c d; decide +kernel
  | .o5 a c => by revert a c d; decide +kernel
  | .o6 r => by revert r d; decide +kernel
  | .o7 => by revert d; decide +kernel
  | .o10 g j => by revert g j d; decide +kernel
  | .o11 g j => by revert g j d; decide +kernel
  | .o12 j => by revert j d; decide +kernel
  | .o13 j => by revert j d; decide +kernel

/-- The rows of a chunk. -/
abbrev cRow (d : Dev nD) (h : Fin 2) (g j : Fin 4) : Rect S1024x768 := rRow (rowOff (blk d h g j)) (blk_inb d h g j)

variable [C : Call]

/-- The chunk's memref on device `d`. -/
def Ch.mem (d : Dev nD) : Ch → Memref sig .tc .vmem S32x768 .f32
  | .p h g j => pM.slice (cRow d h g j) (fun _ => rfl)
  | .o h g j => oM.slice (cRow d h g j) (fun _ => rfl)
  | .pA s => (pAM.slice (r12 s) (fun _ => rfl)).squeeze S32x768 squeezes_S1x32x768_S32x768
  | .pB s => (pBM.slice (r12 s) (fun _ => rfl)).squeeze S32x768 squeezes_S1x32x768_S32x768
  | .zb a b => (zbM.slice (r32 a b) (fun _ => rfl)).squeeze S32x768 squeezes_S1x1x32x768_S32x768
  | .sA s => (sAM.slice (r8 s) (fun _ => rfl)).squeeze S32x768 squeezes_S1x32x768_S32x768
  | .sB s => (sBM.slice (r8 s) (fun _ => rfl)).squeeze S32x768 squeezes_S1x32x768_S32x768
  | .zs a b => (zsM.slice (r32 a b) (fun _ => rfl)).squeeze S32x768 squeezes_S1x1x32x768_S32x768

/-- The chunk a block the kernel names is. -/
def MR.ch : MR → Ch
  | .p x => .p x.h x.g x.j
  | .o x => .o x.h x.g x.j
  | .pA s => .pA s | .pB s => .pB s | .zb a b => .zb a b | .sA s => .sA s | .sB s => .sB s | .zs a b => .zs a b

theorem slice_row_eq (M : Memref sig .tc .vmem S1024x768 .f32) {o o' : Fin 2 → Nat} (h : o = o')
    (h1 : ∀ a, o a + S32x768.size a ≤ S1024x768.size a) (h2 : ∀ a, o' a + S32x768.size a ≤ S1024x768.size a) :
    (M.slice (rRow o h1) (fun _ => rfl) : Memref sig .tc .vmem S32x768 .f32) = M.slice (rRow o' h2) (fun _ => rfl) := by
  subst h; rfl

theorem MR.mem_eq (d : Dev nD) : ∀ m : MR, m.mem d = m.ch.mem d
  | .p x => slice_row_eq pM (x.off_eq d) _ _
  | .o x => slice_row_eq oM (x.off_eq d) _ _
  | .pA _ => rfl | .pB _ => rfl | .zb _ _ => rfl | .sA _ => rfl | .sB _ => rfl | .zs _ _ => rfl

/-- What copy `i` reads, and what it fills at its receiver, as chunks of the device that holds them. -/
def sch (i : Fin 60) : Ch := (msg i).src.ch
def rch (i : Fin 60) : Ch := (msg i).rcv.ch

theorem src_mem (i : Fin 60) (d : Dev nD) : (msg i).src.mem d = (sch i).mem d := MR.mem_eq d _
theorem rcv_mem (i : Fin 60) (d : Dev nD) : (msg i).rcv.mem d = (rch i).mem d := MR.mem_eq d _

/-- A chunk of the result seen from two devices. -/
theorem o_mem_eq {d e : Dev nD} {h h' : Fin 2} {g j g' j' : Fin 4} (hb : blk d h g j = blk e h' g' j') :
    (Ch.o h g j).mem d = (Ch.o h' g' j').mem e :=
  slice_row_eq oM (congrArg rowOff hb) _ _

/-- Whether two chunks, the first on `d` and the second on `e`, lie at the same place. -/
def samePlace (d e : Dev nD) : Ch → Ch → Bool
  | .o h g j, .o h' g' j' => blk d h g j == blk e h' g' j'
  | x, y => x == y && match x with | .p _ _ _ => false | _ => true

theorem samePlace_mem {d e : Dev nD} : ∀ {x y : Ch}, samePlace d e x y = true → x.mem d = y.mem e := by
  intro x y h
  cases x <;> cases y <;> simp [samePlace] at h
  · exact o_mem_eq h
  all_goals (try obtain ⟨rfl, rfl⟩ := h) <;> (try subst h) <;> rfl

theorem dst_place (i : Fin 60) (d : Dev nD) : samePlace d (nb (msg i).link d) (msg i).dst.ch (rch i) = true := by
  revert i d; decide +kernel

/-- The block copy `i` writes is, on its receiver, the chunk named there. -/
theorem dst_mem (i : Fin 60) (d : Dev nD) : (msg i).dst.mem d = (rch i).mem (nb (msg i).link d) :=
  (MR.mem_eq d _).trans (samePlace_mem (dst_place i d))

end Cert.ResidualProof
-- ==== Proof.Val.lean ====
/- What every chunk holds in the end, as a function of the devices' inputs. -/
module

public import proofs.«01_k».proof.Proof.Chunk

@[expose] public section

set_option maxRecDepth 16384

noncomputable section

namespace Cert.ResidualProof

open Cert.KernelIdeal Cert.KernelIdeal.Gen
open Idealize.ShloMosaic
open Idealize.ShloMosaic.TcCoe
open Idealize.SL Idealize.SL.Sem

variable {F : FTy → Type} [FloatOps F]

/-- The three arrays the kernel reads, as staged on every device. -/
structure Inp (F : FTy → Type) where
  p : Dev nD → Vec F S1024x768 .f32
  b : Dev nD → Vec F S1024x768 .f32
  g : Dev nD → Vec F S2x768 .f32

variable (X : Inp F)

def q4 (n : Nat) : Fin 4 := ⟨n % 4, Nat.mod_lt _ (by decide)⟩
/-- `-c` modulo four. -/
def ng (c : Nat) : Fin 4 := q4 (4 - c % 4)

/-- A chunk of the partial sums, of the base array, and the gate's row spread over 32 rows. -/
def pv (d : Dev nD) (h : Fin 2) (g j : Fin 4) : Reg F := fun i => X.p d ((cRow d h g j).emb i)
def bv (d : Dev nD) (h : Fin 2) (g j : Fin 4) : Reg F := fun i => X.b d ((cRow d h g j).emb i)
def gv (d : Dev nD) (h : Fin 2) : Reg F :=
  inG fun i => X.g d ((Rect.unit (s := S2x768) (goff d h) S1x768.size (goff_inb d h)).emb i)

/-- First halves: the two neighbours' chunks, the sum passed clockwise, and the sum over the four devices of a plane. -/
def a1 (d : Dev nD) (c : Nat) : Reg F := pv X (nb 1 d) 0 3 (ng c)
def a2 (d : Dev nD) (c : Nat) : Reg F := pv X (nb 0 d) 0 0 (ng c)
def a5 (d : Dev nD) (c : Nat) : Reg F := addf (pv X d 0 2 (ng c)) (a1 X d c)
def a3 (d : Dev nD) (c : Nat) : Reg F := a5 X (nb 1 d) c
def at4 (d : Dev nD) (c : Nat) : Reg F := addf (addf (pv X d 0 1 (ng c)) (a2 X d c)) (a3 X d c)
/-- Second halves, the other way round. -/
def b1 (d : Dev nD) (c : Nat) : Reg F := pv X (nb 0 d) 1 1 (ng c)
def b2 (d : Dev nD) (c : Nat) : Reg F := pv X (nb 1 d) 1 0 (ng c)
def b5 (d : Dev nD) (c : Nat) : Reg F := addf (pv X d 1 2 (ng c)) (b1 X d c)
def b3 (d : Dev nD) (c : Nat) : Reg F := b5 X (nb 0 d) c
def bt4 (d : Dev nD) (c : Nat) : Reg F := addf (addf (pv X d 1 3 (ng c)) (b2 X d c)) (b3 X d c)

/-- What arrives from the planes above and below. -/
def zb00 (d : Dev nD) : Reg F := at4 X (nb 3 d) 1
def zb10 (d : Dev nD) : Reg F := at4 X (nb 2 d) 0
def zs20 (d : Dev nD) : Reg F := addf (at4 X d 2) (zb00 X d)
def zb20 (d : Dev nD) : Reg F := zs20 X (nb 3 d)
def zb01 (d : Dev nD) : Reg F := bt4 X (nb 2 d) 1
def zb11 (d : Dev nD) : Reg F := bt4 X (nb 3 d) 2
def zs01 (d : Dev nD) : Reg F := addf (bt4 X d 0) (zb01 X d)
def zb21 (d : Dev nD) : Reg F := zs01 X (nb 2 d)
/-- The sums over all sixteen devices, and the two chunks of the result a device computes. -/
def ta (d : Dev nD) : Reg F := addf (addf (at4 X d 3) (zb10 X d)) (zb20 X d)
def tb (d : Dev nD) : Reg F := addf (addf (bt4 X d 3) (zb11 X d)) (zb21 X d)
def ra (d : Dev nD) : Reg F := addf (bv X d 0 1 1) (mulf (gv X d 0) (ta X d))
def rb (d : Dev nD) : Reg F := addf (bv X d 1 3 1) (mulf (gv X d 1) (tb X d))

/-- What a chunk on device `d` holds in the end. A chunk of the result is computed by the device that lies by it as
    `d` lies by its own. -/
def val (d : Dev nD) : Ch → Reg F
  | .p h g j => pv X d h g j
  | .o h g j => if h = 0 then ra X (dv d (j + 3) (g + 3)) else rb X (dv d (j + 3) (g + 1))
  | .pA s => if s.val < 4 then a1 X d s.val else if s.val < 8 then a2 X d (s.val - 4) else a3 X d (s.val - 8)
  | .pB s => if s.val < 4 then b1 X d s.val else if s.val < 8 then b2 X d (s.val - 4) else b3 X d (s.val - 8)
  | .sA s => a5 X d s.val
  | .sB s => b5 X d s.val
  | .zs 0 0 => at4 X d 0 | .zs 1 0 => at4 X d 1 | .zs 2 0 => zs20 X d
  | .zs 0 1 => zs01 X d | .zs 1 1 => bt4 X d 1 | .zs 2 1 => bt4 X d 2
  | .zb 0 0 => zb00 X d | .zb 1 0 => zb10 X d | .zb 2 0 => zb20 X d
  | .zb 0 1 => zb01 X d | .zb 1 1 => zb11 X d | .zb 2 1 => zb21 X d

theorem dv_o (l : Fin 4) (d : Dev nD) (h : Fin 2) (g j g' j' : Fin 4) (hb : blk d h g j = blk (nb l d) h g' j') (b : Fin 4) :
    dv d (j + 3) (g + b) = dv (nb l d) (j' + 3) (g' + b) := by
  have key : ∀ (l : Fin 4) (d : Dev nD) (g j g' j' : Fin 4), blk d 0 g j = blk (nb l d) 0 g' j' →
      ∀ b, dv d (j + 3) (g + b) = dv (nb l d) (j' + 3) (g' + b) := by
    decide +kernel
  exact key l d g j g' j' (by unfold blk at hb ⊢; omega) b

theorem val_o_eq (d : Dev nD) (h : Fin 2) (g j : Fin 4) :
    val X d (.o h g j) = if h = 0 then ra X (dv d (j + 3) (g + 3)) else rb X (dv d (j + 3) (g + 1)) := rfl

/-- Two chunks of the result at the same place hold the same. -/
theorem val_o {l : Fin 4} {d : Dev nD} {h : Fin 2} {g j g' j' : Fin 4} (hb : blk d h g j = blk (nb l d) h g' j') :
    val X d (.o h g j) = val X (nb l d) (.o h g' j') := by
  rw [val_o_eq, val_o_eq, dv_o l d h g j g' j' hb 3, dv_o l d h g j g' j' hb 1]

/-- A copy of the first two phases lands what its source holds. -/
theorem val_lo (i : Fin 30) (e : Dev nD) :
    val X e (rch (i.castLE (by decide))) = val X (nb (opp (msg (i.castLE (by decide))).link) e) (sch (i.castLE (by decide))) := by
  fin_cases i <;> rfl

def isO : Ch → Option (Fin 2 × Fin 4 × Fin 4)
  | .o h g j => some (h, g, j)
  | _ => none

theorem isO_eq {c : Ch} {h : Fin 2} {g j : Fin 4} (hc : isO c = some (h, g, j)) : c = .o h g j := by
  cases c <;> simp [isO] at hc
  obtain ⟨rfl, rfl, rfl⟩ := hc; rfl

theorem hi_o (i : Fin 60) (hi : 30 ≤ i.val) : ∃ h g j g' j', sch i = .o h g j ∧ rch i = .o h g' j'
    ∧ ∀ d, blk d h g j = blk (nb (msg i).link d) h g' j' := by
  have key : ∀ i : Fin 60, 30 ≤ i.val → ∃ h g j g' j', isO (sch i) = some (h, g, j) ∧ isO (rch i) = some (h, g', j')
      ∧ ∀ d, blk d h g j = blk (nb (msg i).link d) h g' j' := by decide +kernel
  obtain ⟨h, g, j, g', j', h1, h2, h3⟩ := key i hi
  exact ⟨h, g, j, g', j', isO_eq h1, isO_eq h2, h3⟩

/-- What copy `i` lands is what its source holds in the end. -/
theorem val_msg (i : Fin 60) (d : Dev nD) : val X (nb (msg i).link d) (rch i) = val X d (sch i) := by
  by_cases hi : i.val < 30
  · have h := val_lo X ⟨i.val, hi⟩ (nb (msg i).link d)
    have hc : (⟨i.val, hi⟩ : Fin 30).castLE (by decide) = i := rfl
    rw [hc, nb_opp] at h
    exact h
  · obtain ⟨h, g, j, g', j', h1, h2, h3⟩ := hi_o i (by omega)
    rw [h1, h2]
    exact (val_o X (h3 d)).symm

/-! ## Values by name -/

/-- A value the kernel computes: of a chunk, of the base array, of the gate, or a sum or product. -/
inductive VE
  | v (c : Ch) | b (h : Fin 2) (g j : Fin 4) | g (h : Fin 2) | add (x y : VE) | mul (x y : VE)
  deriving DecidableEq

def VE.eval (d : Dev nD) : VE → Reg F
  | .v c => val X d c
  | .b h a j => bv X d h a j
  | .g h => gv X d h
  | .add x y => addf (x.eval d) (y.eval d)
  | .mul x y => mulf (x.eval d) (y.eval d)

/-- The value stored into a chunk, in terms of what the device holds. -/
def wr : Ch → Option VE
  | .sA s => if s.val < 4 then
      some (.add (.v (.p 0 2 (ng s.val))) (.v (.pA ⟨s.val % 12, Nat.mod_lt _ (by decide)⟩))) else none
  | .sB s => if s.val < 4 then
      some (.add (.v (.p 1 2 (ng s.val))) (.v (.pB ⟨s.val % 12, Nat.mod_lt _ (by decide)⟩))) else none
  | .zs 0 0 => some (pa 0) | .zs 1 0 => some (pa 1) | .zs 2 0 => some (.add (pa 2) (.v (.zb 0 0)))
  | .zs 0 1 => some (.add (pb 0) (.v (.zb 0 1))) | .zs 1 1 => some (pb 1) | .zs 2 1 => some (pb 2)
  | .o h g j =>
    if h = 0 ∧ g = 1 ∧ j = 1 then
      some (.add (.b 0 1 1) (.mul (.g 0) (.add (.add (pa 3) (.v (.zb 1 0))) (.v (.zb 2 0)))))
    else if h = 1 ∧ g = 3 ∧ j = 1 then
      some (.add (.b 1 3 1) (.mul (.g 1) (.add (.add (pb 3) (.v (.zb 1 1))) (.v (.zb 2 1)))))
    else none
  | _ => none
where
  pa (c : Fin 4) : VE := .add (.add (.v (.p 0 1 (ng c.val))) (.v (.pA ⟨4 + c.val, by omega⟩))) (.v (.pA ⟨8 + c.val, by omega⟩))
  pb (c : Fin 4) : VE := .add (.add (.v (.p 1 3 (ng c.val))) (.v (.pB ⟨4 + c.val, by omega⟩))) (.v (.pB ⟨8 + c.val, by omega⟩))

theorem dv_own (d : Dev nD) : dv d (1 + 3) (1 + 3) = d := by revert d; decide +kernel
theorem dv_own' (d : Dev nD) : dv d (1 + 3) (3 + 1) = d := by revert d; decide +kernel

/-- The value stored into a chunk is what it holds in the end. -/
theorem val_wr (d : Dev nD) : ∀ (c : Ch) (e : VE), wr c = some e → e.eval X d = val X d c
  | .sA s, e, h => by fin_cases s <;> (cases h; try rfl)
  | .sB s, e, h => by fin_cases s <;> (cases h; try rfl)
  | .zs a b, e, h => by fin_cases a <;> fin_cases b <;> (cases h; rfl)
  | .o h g j, e, he => by
    change (if h = 0 ∧ g = 1 ∧ j = 1 then _ else if h = 1 ∧ g = 3 ∧ j = 1 then _ else none) = some e at he
    split at he
    · next hc =>
      obtain ⟨rfl, rfl, rfl⟩ := hc
      cases he
      rw [val_o_eq, if_pos rfl]; exact congrArg (ra X) (dv_own d).symm
    · split at he
      · next hc =>
        obtain ⟨rfl, rfl, rfl⟩ := hc
        cases he
        rw [val_o_eq, if_neg (by decide)]; exact congrArg (rb X) (dv_own' d).symm
      · cases he

/-- The name of an expression's value, the registers holding the named ones. -/
def Ex.sym (l : List (Option VE)) : Ex → Option VE
  | .reg n => l.getD n none
  | .add a b => match a.sym l, b.sym l with | some x, some y => some (.add x y) | _, _ => none
  | .mul a b => match a.sym l, b.sym l with | some x, some y => some (.mul x y) | _, _ => none

/-- Each register that has a name holds the value of that name. -/
def EnvOk (d : Dev nD) (env : List (Reg F)) (l : List (Option VE)) : Prop :=
  List.Forall₂ (fun r s => ∀ e : VE, s = some e → r = e.eval X d) env l

theorem EnvOk.getD {d : Dev nD} {env : List (Reg F)} {l : List (Option VE)} (h : EnvOk X d env l) (z : Reg F) :
    ∀ (n : Nat) (e : VE), l.getD n none = some e → env.getD n z = e.eval X d := by
  induction h with
  | nil => intro n e h; simp at h
  | cons h1 _ ih =>
    intro n e h
    cases n with
    | zero => exact h1 e (by simpa using h)
    | succ n => simpa using ih n e (by simpa using h)

theorem Ex.sym_eval {d : Dev nD} {env : List (Reg F)} {l : List (Option VE)} (h : EnvOk X d env l) (z : Reg F) :
    ∀ (x : Ex) (e : VE), x.sym l = some e → x.eval z env = e.eval X d
  | .reg n, e, hx => h.getD X z n e hx
  | .add a b, e, hx => by
    unfold Ex.sym at hx
    split at hx
    · next x y h1 h2 => cases hx; unfold Ex.eval VE.eval; rw [sym_eval h z a x h1, sym_eval h z b y h2]
    · cases hx
  | .mul a b, e, hx => by
    unfold Ex.sym at hx
    split at hx
    · next x y h1 h2 => cases hx; unfold Ex.eval VE.eval; rw [sym_eval h z a x h1, sym_eval h z b y h2]
    · cases hx

end Cert.ResidualProof
-- ==== Proof.Mem.lean ====
/- Holding a chunk, and the rules for reading and writing one. -/
module

public import proofs.«01_k».proof.Proof.Val
public import Idealize.ShloMosaic.Lib.ShareLeaves
public import Idealize.ShloMosaic.Lib.Ring

@[expose] public section

set_option maxRecDepth 16384

noncomputable section

namespace Cert.ResidualProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the launch library's rounds and, of each call, the exchange's, whose duties are named by the
    four links. -/
abbrev UB : Type := URounds (GSem nD τ sig) (Fin 4)
abbrev UU : Type := UR sig nD τ × (UB × UB)

variable [C : Call]

local notation "𝕄" => MT nD τ sig Unit (Elt F) ℕ UU ℕ

abbrev EP : Emb (UR sig nD τ) (MT nD τ sig Unit (Elt F) ℕ UU ℕ) := embL
abbrev EX : Emb (UB × UB) (MT nD τ sig Unit (Elt F) ℕ UU ℕ) := embR
/-- The call's own rounds. -/
def ER : Emb UB (MT nD τ sig Unit (Elt F) ℕ UU ℕ) := match C.k with
  | false => (Emb.inl : Emb UB (UB × UB)).trans EX
  | true => (Emb.inr : Emb UB (UB × UB)).trans EX

instance ER_landsIn : (ER (F := F)).LandsIn (upEmb : UEmb _ (MT nD τ sig Unit (Elt F) ℕ UU ℕ)) := by
  obtain ⟨k⟩ := C
  cases k
  · exact inferInstanceAs (((Emb.inl : Emb UB (UB × UB)).trans EX).LandsIn upEmb)
  · exact inferInstanceAs (((Emb.inr : Emb UB (UB × UB)).trans EX).LandsIn upEmb)

abbrev 𝒱₀ : Variants := Variants.none

omit [FloatOps F] in
theorem elt_nonempty [FloatOps F] : ∀ e : EltTy, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨FloatOps.ofBits .fp8e4m3 0⟩ | .fp8e5m2 => ⟨FloatOps.ofBits .fp8e5m2 0⟩
  | .bf16 => ⟨FloatOps.ofBits .bf16 0⟩ | .f16 => ⟨FloatOps.ofBits .f16 0⟩ | .f32 => ⟨FloatOps.ofBits .f32 0⟩

instance instEltNonempty : ∀ e : EltTy, Nonempty (Elt F e) := elt_nonempty

abbrev CM : Type := Memref sig .tc .vmem S32x768 .f32

/-- Device `d` holds the chunk at `M`, by the share `q`, with contents `v`; -/
def hold (d : Dev nD) (M : CM) (q : PosShare TreeShare) (v : Reg F) : sProp 𝕄 :=
  (M.view.loc (d : Thread nD τ)) ↦[M.view.set]{q} M.view.rep v
/-- outright, with whatever contents. -/
def raw (d : Dev nD) (M : CM) : sProp 𝕄 := iprop(∃ v, hold d M fullShare v)

theorem hold_raw (d : Dev nD) (M : CM) (v : Reg F) : hold d M fullShare v ⊢ (raw d M : sProp 𝕄) := by
  unfold raw
  iintro H; iexists _; iexact H

/-- Elements held with any contents are a chunk held. -/
theorem hold_of (d : Dev nD) (M : CM) (q : PosShare TreeShare) (f : Buf (Elt F) (M.view.loc (d : Thread nD τ))) :
    ((M.view.loc (d : Thread nD τ)) ↦[M.view.set]{q} f : sProp 𝕄) = hold d M q (M.view.read (Elt F) f) :=
  pointsTo_rep (d : Thread nD τ) M f q

/-- The four shares a chunk's holder deals out. -/
def qsh (k : Fin 4) : PosShare TreeShare := ShareLeaves.leaf 2 fullShare k

theorem hold_quarters (d : Dev nD) (M : CM) (v : Reg F) :
    (hold d M fullShare v : sProp 𝕄)
      = iprop(hold d M (qsh 0) v ∗ hold d M (qsh 1) v ∗ hold d M (qsh 2) v ∗ hold d M (qsh 3) v) := by
  unfold hold
  rw [ShareLeaves.pointsTo_leaves _ _ 2 fullShare]
  exact bigSep_univ_eq_bigSepL [0, 1, 2, 3] (by decide) (by decide) (fun i : Fin (2 ^ 2) => iprop(M.view.loc (d : Thread nD τ) ↦[M.view.set]{ShareLeaves.leaf 2 fullShare i} M.view.rep v))

abbrev wpd (d : Dev nD) (e : Pr F) (Q : PUnit.{1} → sProp 𝕄) : sProp 𝕄 :=
  wp frame (wpE (defs₀ (F := F)) 𝒱₀ (d : Thread nD τ) none) Set.univ e Q

variable {d : Dev nD} {q : PosShare TreeShare} {v : Reg F}

omit [FloatOps F] in
theorem in2_eq (v : Vec F S32x768 .f32) : in2 v = v :=
  funext fun j => congrArg v (Shape.reshapeEquiv_self _ j)

/-- Reading rows the device holds. -/
theorem wp_ldRow {Q : PUnit.{1} → sProp 𝕄} (M : Memref sig .tc .vmem S1024x768 .f32) (o : Of) (k : Reg F → Pr F) :
    hold d (M.slice (rRow (o.off d) (o.inb d)) (fun _ => rfl)) q v
      ⊢ iprop((hold d (M.slice (rRow (o.off d) (o.inb d)) (fun _ => rfl)) q v -∗ wpd d (k v) Q) -∗ wpd d (ldRow M d o k) Q) := by
  unfold hold ldRow
  have h := wp_load_rect (defs := defs₀ (F := F)) (Γ := .empty) (Q := Q) 𝒱₀ (d : Thread nD τ) none Set.univ (m := M) (r := rRow (o.off d) (o.inb d))
    (hl := View.loadsAt_vmem h_S32x768) (k := fun v => k (in2 v)) (q := q)
    (f := (M.slice (rRow (o.off d) (o.inb d)) (fun _ => rfl)).view.rep v) (Finset.Subset.refl _)
  have e : in2 ((M.access (rRow (o.off d) (o.inb d))).read (Elt F) ((M.slice (rRow (o.off d) (o.inb d)) (fun _ => rfl)).view.rep v)) = v := by
    rw [in2_eq]
    exact View.read_rep _ v
  simp only [e] at h
  exact h

/-- Reading a slot of a scratch buffer the device holds, the slot's shape `r.shape` cast to 32 rows. -/
theorem wp_ldSlot {Q : PUnit.{1} → sProp 𝕄} {s : Shape} (M : Memref sig .tc .vmem s .f32) (r : Rect s) (hr : ∀ a, r.stride a = 1) (hs : r.shape.Squeezes S32x768)
    (hc : r.shape.ShapeCasts S32x768) {hl : M.view.LoadsAt r.toLoadRect} (k : Reg F → Pr F) :
    hold d ((M.slice r hr).squeeze S32x768 hs) q v
      ⊢ iprop((hold d ((M.slice r hr).squeeze S32x768 hs) q v -∗ wpd d (k v) Q)
        -∗ wpd d (.op (.load M r.toLoadRect hl) fun v => k (shapeCast S32x768 v hc)) Q) := by
  unfold hold
  have h := wp_load_rect (defs := defs₀ (F := F)) (Γ := .empty) (Q := Q) 𝒱₀ (d : Thread nD τ) none Set.univ (m := M) (r := r)
    (hl := hl) (k := fun v => k (shapeCast S32x768 v hc)) (q := q)
    (S := ((M.slice r hr).squeeze S32x768 hs).view.set)
    (f := ((M.slice r hr).squeeze S32x768 hs).view.rep v) (by rw [View.set_reshape])
  have e : shapeCast S32x768 ((M.access r).read (Elt F) (((M.slice r hr).squeeze S32x768 hs).view.rep v)) hc = v :=
    View.read_rep ((M.slice r hr).squeeze S32x768 hs).view v
  simp only [e] at h
  exact h

/-- Writing rows the device holds outright. -/
theorem wp_stRow {Q : PUnit.{1} → sProp 𝕄} (M : Memref sig .tc .vmem S1024x768 .f32) (o : Of) (w : Reg F)
    {hx : (M.access (rRow (o.off d) (o.inb d))).Stores Finset.univ} {hm} (k : Pr F) :
    hold d (M.slice (rRow (o.off d) (o.inb d)) (fun _ => rfl)) fullShare v
      ⊢ iprop((hold d (M.slice (rRow (o.off d) (o.inb d)) (fun _ => rfl)) fullShare w -∗ wpd d k Q)
        -∗ wpd d (.op (.store M (rRow (o.off d) (o.inb d)) w Finset.univ hx hm) fun _ => k) Q) := by
  have h := wp_store (defs := defs₀ (F := F)) (Γ := .empty) (Q := Q) 𝒱₀ (d : Thread nD τ) none Set.univ (m := M) (r := rRow (o.off d) (o.inb d))
    (w := w) (Mk := Finset.univ) (hx := hx) (hm := hm) (k := fun _ => k)
    (S := (M.slice (rRow (o.off d) (o.inb d)) (fun _ => rfl)).view.set)
    (f := (M.slice (rRow (o.off d) (o.inb d)) (fun _ => rfl)).view.rep v) (View.setOn_subset_set _ _)
  rw [hold_of d (M.slice (rRow (o.off d) (o.inb d)) (fun _ => rfl)) fullShare] at h
  rw [hold_of d (M.slice (rRow (o.off d) (o.inb d)) (fun _ => rfl)) fullShare] at h
  rw [View.read_rep, View.read_write_univ] at h
  exact h

/-- Writing a slot of a scratch buffer the device holds outright. -/
theorem wp_stSlot {Q : PUnit.{1} → sProp 𝕄} {s : Shape} (M : Memref sig .tc .vmem s .f32) (r : Rect s) (hr : ∀ a, r.stride a = 1) (hs : r.shape.Squeezes S32x768)
    (hc : S32x768.ShapeCasts r.shape) (w : Reg F) {hx : (M.access r).Stores Finset.univ} {hm} (k : Pr F) :
    hold d ((M.slice r hr).squeeze S32x768 hs) fullShare v
      ⊢ iprop((hold d ((M.slice r hr).squeeze S32x768 hs) fullShare w -∗ wpd d k Q)
        -∗ wpd d (.op (.store M r (shapeCast r.shape w hc) Finset.univ hx hm) fun _ => k) Q) := by
  have h := wp_store (defs := defs₀ (F := F)) (Γ := .empty) (Q := Q) 𝒱₀ (d : Thread nD τ) none Set.univ (m := M) (r := r)
    (w := shapeCast r.shape w hc) (Mk := Finset.univ) (hx := hx) (hm := hm) (k := fun _ => k)
    (S := ((M.slice r hr).squeeze S32x768 hs).view.set)
    (f := ((M.slice r hr).squeeze S32x768 hs).view.rep v) (by rw [View.set_reshape]; exact View.setOn_subset_set _ _)
  have e : (M.access r).write (Elt F) (((M.slice r hr).squeeze S32x768 hs).view.rep v) (shapeCast r.shape w hc) Finset.univ
      = ((M.slice r hr).squeeze S32x768 hs).view.write (Elt F) (((M.slice r hr).squeeze S32x768 hs).view.rep v) w Finset.univ := by
    refine Eq.trans ?_ (View.write_reshape_univ (v := (M.slice r hr).view) hs.numel_eq _ _).symm
    rw [Shape.reshapeEquiv_symm]; rfl
  rw [e] at h
  rw [hold_of d ((M.slice r hr).squeeze S32x768 hs) fullShare] at h
  rw [hold_of d ((M.slice r hr).squeeze S32x768 hs) fullShare] at h
  rw [View.read_rep, View.read_write_univ] at h
  exact h

/-- Reading a block the device holds. -/
theorem wp_ld {Q : PUnit.{1} → sProp 𝕄} (m : MR) (k : Reg F → Pr F) :
    hold d (m.mem d) q v ⊢ iprop((hold d (m.mem d) q v -∗ wpd d (k v) Q) -∗ wpd d (m.load d k) Q) :=
  match m with
  | .p x => wp_ldRow pM x k
  | .o x => wp_ldRow oM x k
  | .pA s => wp_ldSlot pAM (r12 s) (fun _ => rfl) squeezes_S1x32x768_S32x768 shapeCasts_S1x32x768_S32x768 k
  | .pB s => wp_ldSlot pBM (r12 s) (fun _ => rfl) squeezes_S1x32x768_S32x768 shapeCasts_S1x32x768_S32x768 k
  | .zb a b => wp_ldSlot zbM (r32 a b) (fun _ => rfl) squeezes_S1x1x32x768_S32x768 shapeCasts_S1x1x32x768_S32x768 k
  | .sA s => wp_ldSlot sAM (r8 s) (fun _ => rfl) squeezes_S1x32x768_S32x768 shapeCasts_S1x32x768_S32x768 k
  | .sB s => wp_ldSlot sBM (r8 s) (fun _ => rfl) squeezes_S1x32x768_S32x768 shapeCasts_S1x32x768_S32x768 k
  | .zs a b => wp_ldSlot zsM (r32 a b) (fun _ => rfl) squeezes_S1x1x32x768_S32x768 shapeCasts_S1x1x32x768_S32x768 k

/-- Writing a block the device holds outright. -/
theorem wp_st {Q : PUnit.{1} → sProp 𝕄} (m : MR) (w : Reg F) (k : Pr F) :
    raw d (m.mem d) ⊢ iprop((hold d (m.mem d) fullShare w -∗ wpd d k Q) -∗ wpd d (m.store d w k) Q) := by
  unfold raw
  iintro ⟨%v, H⟩
  iapply (match m with
    | .p x => wp_stRow pM x w k
    | .o x => wp_stRow oM x w k
    | .pA s => wp_stSlot pAM (r12 s) (fun _ => rfl) squeezes_S1x32x768_S32x768 shapeCasts_S32x768_S1x32x768 w k
    | .pB s => wp_stSlot pBM (r12 s) (fun _ => rfl) squeezes_S1x32x768_S32x768 shapeCasts_S32x768_S1x32x768 w k
    | .zb a b => wp_stSlot zbM (r32 a b) (fun _ => rfl) squeezes_S1x1x32x768_S32x768 shapeCasts_S32x768_S1x1x32x768 w k
    | .sA s => wp_stSlot sAM (r8 s) (fun _ => rfl) squeezes_S1x32x768_S32x768 shapeCasts_S32x768_S1x32x768 w k
    | .sB s => wp_stSlot sBM (r8 s) (fun _ => rfl) squeezes_S1x32x768_S32x768 shapeCasts_S32x768_S1x32x768 w k
    | .zs a b => wp_stSlot zsM (r32 a b) (fun _ => rfl) squeezes_S1x1x32x768_S32x768 shapeCasts_S32x768_S1x1x32x768 w k :
      hold d (m.mem d) fullShare v ⊢ iprop((hold d (m.mem d) fullShare w -∗ wpd d k Q) -∗ wpd d (m.store d w k) Q)) $$ H

variable (X : Inp F)

/-- Reading part of an array given by its elements. -/
theorem read_part {s : Shape} (M : Memref sig .tc .vmem s .f32) (r : Rect s) (v : Vec F s .f32) :
    (M.access r).read (Elt F) (M.view.rep v) = fun i => v (r.emb i) :=
  funext fun i => congrFun (View.read_rep M.view v) (r.emb i)

theorem row_part_eq (v : Vec F S1024x768 .f32) {o o' : Fin 2 → Nat} (h : o = o')
    (h1 : ∀ a, o a + S32x768.size a ≤ S1024x768.size a) (h2 : ∀ a, o' a + S32x768.size a ≤ S1024x768.size a) :
    (fun i => v ((rRow o h1).emb i) : Reg F) = fun i => v ((rRow o' h2).emb i) := by
  subst h; rfl

/-- The base array and the gate, held whole. -/
def bAll (d : Dev nD) : sProp 𝕄 := (bM.view.loc (d : Thread nD τ)) ↦{fullShare} bM.view.rep (X.b d)
def gAll (d : Dev nD) : sProp 𝕄 := (gM.view.loc (d : Thread nD τ)) ↦{fullShare} gM.view.rep (X.g d)

theorem wp_ldb {Q : PUnit.{1} → sProp 𝕄} (o : Of) (k : Reg F → Pr F) :
    bAll X d ⊢ iprop((bAll X d -∗ wpd d (k (bv X d o.h o.g o.j)) Q) -∗ wpd d (ldRow bM d o k) Q) := by
  unfold bAll ldRow
  have h := wp_load_rect (defs := defs₀ (F := F)) (Γ := .empty) (Q := Q) 𝒱₀ (d : Thread nD τ) none Set.univ (m := bM) (r := rRow (o.off d) (o.inb d))
    (hl := View.loadsAt_vmem h_S32x768) (k := fun v => k (in2 v)) (q := fullShare) (f := bM.view.rep (X.b d)) (Finset.subset_univ _)
  have e : in2 ((bM.access (rRow (o.off d) (o.inb d))).read (Elt F) (bM.view.rep (X.b d))) = bv X d o.h o.g o.j := by
    rw [in2_eq, read_part]
    exact row_part_eq _ (o.off_eq d) _ _
  simp only [e] at h
  exact h

theorem wp_ldg {Q : PUnit.{1} → sProp 𝕄} (h : Fin 2) (k : Reg F → Pr F) :
    gAll X d ⊢ iprop((gAll X d -∗ wpd d (k (gv X d h)) Q)
      -∗ wpd d (.op (.load gM (Rect.unit (s := S2x768) (goff d h) S1x768.size (goff_inb d h)).toLoadRect (View.loadsAt_vmem h_S1x768))
        fun v => k (inG v)) Q) := by
  unfold gAll
  have hw := wp_load_rect (defs := defs₀ (F := F)) (Γ := .empty) (Q := Q) 𝒱₀ (d : Thread nD τ) none Set.univ (m := gM)
    (r := Rect.unit (s := S2x768) (goff d h) S1x768.size (goff_inb d h)) (hl := View.loadsAt_vmem h_S1x768)
    (k := fun v => k (inG v)) (q := fullShare) (f := gM.view.rep (X.g d)) (Finset.subset_univ _)
  simp only [read_part] at hw
  exact hw

end Cert.ResidualProof
-- ==== Proof.Sched.lean ====
/- The protocol: who pays what at which semaphore. -/
module

public import proofs.«01_k».proof.Proof.Mem

@[expose] public section

set_option maxRecDepth 16384

noncomputable section

namespace Cert.ResidualProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable [C : Call]

/-! ## Cells -/

/-- A device's entry barrier and its transfer semaphores. -/
abbrev barCell (d : Dev nD) : GSem nD τ sig := ((d : Thread nD τ), .reg barS)
abbrev dmaCell (d : Dev nD) (n : LS) : GSem nD τ sig := ((d : Thread nD τ), .dma (gs n))

/-- A transfer semaphore's number within its call. -/
def ls (n : DmaSem sig) : LS := ⟨n.val % 81, Nat.mod_lt _ (by decide)⟩
theorem ls_gs (n : LS) : ls (gs n) = n := by
  obtain ⟨k⟩ := C
  have hn := n.isLt
  cases k <;> refine Fin.ext ?_
  · exact Nat.mod_eq_of_lt hn
  · change (81 + n.val) % 81 = n.val; omega
theorem gs_inj {n n' : LS} (h : gs n = gs n') : n = n' := by rw [← ls_gs n, ← ls_gs n', h]

/-- The semaphore copy `i` raises at its sender, and the round of it that is: each is used again every fourth copy. -/
def ss (i : Fin 60) : LS := ssem (msg i).link (msg i).seq
def rnd (i : Fin 60) : Nat := (msg i).seq.val / 4
/-- The semaphore it raises at its receiver. -/
def rs (i : Fin 60) : LS := (msg i).sem
/-- The receiver. -/
def rcr (i : Fin 60) (d : Dev nD) : Dev nD := nb (msg i).link d

/-- The copy that raises a sending semaphore in a round, and the one that raises a receiving semaphore. -/
def sndOf (n : LS) (r : ℕ) : Option (Fin 60) := (List.finRange 60).find? fun i => ss i == n && rnd i == r
def rcvOf (n : LS) : Option (Fin 60) := (List.finRange 60).find? fun i => rs i == n

theorem sndOf_ss (i : Fin 60) : sndOf (ss i) (rnd i) = some i := by revert i; decide +kernel
theorem rcvOf_rs (i : Fin 60) : rcvOf (rs i) = some i := by revert i; decide +kernel
theorem ss_ne_rs (i j : Fin 60) : ss j ≠ rs i := by revert i j; decide +kernel
theorem sndOf_rs (i : Fin 60) (r : ℕ) : sndOf (rs i) r = none := by
  unfold sndOf
  rw [List.find?_eq_none]
  intro j _ h
  simp only [Bool.and_eq_true, beq_iff_eq] at h
  exact ss_ne_rs i j h.1
theorem rcvOf_ss (i : Fin 60) : rcvOf (ss i) = none := by revert i; decide +kernel

/-- How many copies raise a sending semaphore. -/
def nRounds (n : LS) : ℕ := if n.val < 4 then 0 else if n.val < 12 then 6 else
  if n.val = 12 ∨ n.val = 13 ∨ n.val = 16 ∨ n.val = 17 then 2 else if n.val < 20 then 1 else 0

theorem rnd_lt (i : Fin 60) : rnd i < nRounds (ss i) := by revert i; decide +kernel
theorem sndOf_late (n : LS) (r : ℕ) (h : nRounds n ≤ r) : sndOf n r = none := by
  unfold sndOf
  rw [List.find?_eq_none]
  intro j _ hj
  simp only [Bool.and_eq_true, beq_iff_eq] at hj
  obtain ⟨rfl, rfl⟩ := hj
  exact absurd (rnd_lt j) (by omega)

/-- A copy's credit. -/
def N : ℕ := (Ch.mem (C := call0) 0 (.pA 0)).view.dmaCredit
theorem N_pos : 0 < N := View.dmaCredit_pos _ (by decide)
theorem credit_eq (d : Dev nD) (c : Ch) : (c.mem d).view.dmaCredit = N := by
  obtain ⟨k⟩ := C; cases k <;> cases c <;> rfl

/-! ## What is handed over -/

variable (X : Inp F)

/-- The share of its source a copy holds: a quarter of a chunk of the result, which goes out up to four times; all of
    any other chunk. -/
def ssh (i : Fin 60) : PosShare TreeShare := if (isO (sch i)).isSome then qsh (msg i).share else fullShare

def sndPay (d : Dev nD) (i : Fin 60) : sProp 𝕄 := hold d ((sch i).mem d) (ssh i) (val X d (sch i))
def rcvPay (d : Dev nD) (i : Fin 60) : sProp 𝕄 := hold d ((rch i).mem d) fullShare (val X d (rch i))

/-- A list of assertions at once. -/
def star {ι : Type} (P : ι → sProp 𝕄) : List ι → sProp 𝕄
  | [] => iprop(emp)
  | a :: l => iprop(P a ∗ star P l)

/-- What device `d`'s neighbour over link `e` hands it on arrival: the chunks `d`'s copies over that link fill, and that
    the semaphores they raise have been opened. -/
def onLink (e : Fin 4) : List (Fin 60) := (List.finRange 60).filter fun i => (msg i).link == e
def barPay (d : Dev nD) (e : Fin 4) : sProp 𝕄 := star (fun i => iprop(raw (nb e d) ((rch i).mem (nb e d)) ∗ reached ER (dmaCell (nb e d) (rs i)) 0)) (onLink e)

instance hold_storable (d : Dev nD) (M : CM) (q) (v) : BI.Storable (upEmb : UEmb _ 𝕄) (hold (F := F) d M q v) := by
  unfold hold; infer_instance
instance raw_storable (d : Dev nD) (M : CM) : BI.Storable (upEmb : UEmb _ 𝕄) (raw (F := F) d M) := by
  unfold raw; infer_instance
instance star_storable {ι : Type} (P : ι → sProp 𝕄) [h : ∀ a, BI.Storable (upEmb : UEmb _ 𝕄) (P a)] (l : List ι) :
    BI.Storable (upEmb : UEmb _ 𝕄) (star P l) := by
  induction l with
  | nil => unfold star; infer_instance
  | cons a l ih => unfold star; infer_instance
instance barPay_storable (d : Dev nD) (e) : BI.Storable (upEmb : UEmb _ 𝕄) (barPay (F := F) d e) := by
  unfold barPay; infer_instance
instance sndPay_storable (d : Dev nD) (i) : BI.Storable (upEmb : UEmb _ 𝕄) (sndPay (F := F) X d i) := by
  unfold sndPay; infer_instance
instance rcvPay_storable (d : Dev nD) (i) : BI.Storable (upEmb : UEmb _ 𝕄) (rcvPay (F := F) X d i) := by
  unfold rcvPay; infer_instance

/-- The payload of a transfer semaphore's round. -/
def dmaPay (d : Dev nD) (n : LS) (r : ℕ) : sProp 𝕄 :=
  match sndOf n r with
  | some i => sndPay X d i
  | none => match rcvOf n with
    | some i => rcvPay X d i
    | none => iprop(emp)

instance dmaPay_storable (d : Dev nD) (n r) : BI.Storable (upEmb : UEmb _ 𝕄) (dmaPay (F := F) X d n r) := by
  unfold dmaPay; (repeat' split) <;> infer_instance

/-- The duties of a transfer semaphore's round. -/
def dmaDuty (n : LS) (r : ℕ) : Finset (Fin 4) := if (sndOf n r).isSome then {0} else if r = 0 ∧ (rcvOf n).isSome then {0} else ∅

/-- The schedule: the barrier's one round has a duty of one unit per link; a receiving semaphore's one round and a
    sending semaphore's rounds have the one duty of a chunk's credit. -/
def Rd : Rounds.Schedule (GSem nD τ sig) (Fin 4) 𝕄 where
  duties g r := match g.2 with
    | .reg s => if r = 0 ∧ s = barS then Finset.univ else ∅
    | .dma n => dmaDuty (ls n) r
  unitless _ := False
  amount g _ _ := match g.2 with | .reg _ => 1 | .dma _ => N
  payload g r e := match g.2 with
    | .reg _ => barPay g.1.1 e
    | .dma n => dmaPay X g.1.1 (ls n) r
  amount_pos g _ _ _ := by
    rcases g.2 with _ | _
    · exact Nat.one_pos
    · exact N_pos

instance Rd_payload_storable (g : GSem nD τ sig) (r : ℕ) (e : Fin 4) :
    BI.Storable (upEmb : UEmb _ 𝕄) ((Rd (F := F) X).payload g r e) := by
  obtain ⟨c, s⟩ := g
  cases s with
  | reg s => exact barPay_storable c.1 e
  | dma n => exact dmaPay_storable X c.1 (ls n) r

section Facts
variable (d : Dev nD) (i : Fin 60)

theorem duties_bar : (Rd X).duties (barCell d) 0 = Finset.univ := by
  change (if 0 = 0 ∧ barS = barS then Finset.univ else ∅) = _
  exact if_pos ⟨rfl, rfl⟩
theorem duties_dma (n : LS) (r : ℕ) : (Rd X).duties (dmaCell d n) r = dmaDuty n r := by
  change dmaDuty (ls (gs n)) r = _
  rw [ls_gs]
theorem payload_dma (n : LS) (r : ℕ) (e : Fin 4) : (Rd X).payload (dmaCell d n) r e = dmaPay X d n r := by
  change dmaPay X d (ls (gs n)) r = _
  rw [ls_gs]
theorem duties_snd : (Rd X).duties (dmaCell d (ss i)) (rnd i) = {0} := by
  rw [duties_dma]; unfold dmaDuty; rw [sndOf_ss]; rfl
theorem duties_rcv : (Rd X).duties (dmaCell d (rs i)) 0 = {0} := by
  rw [duties_dma]; unfold dmaDuty; rw [sndOf_rs, rcvOf_rs]; rfl
theorem duties_bar_late (r : ℕ) (h : 1 ≤ r) : (Rd X).duties (barCell d) r = ∅ := if_neg fun h' => by omega
theorem duties_snd_late (n : LS) (hn : rcvOf n = none) (r : ℕ) (h : nRounds n ≤ r) : (Rd X).duties (dmaCell d n) r = ∅ := by
  rw [duties_dma]; unfold dmaDuty
  rw [sndOf_late n r h, hn, if_neg (by decide), if_neg (by simp)]
theorem duties_rcv_late (r : ℕ) (h : 1 ≤ r) : (Rd X).duties (dmaCell d (rs i)) r = ∅ := by
  rw [duties_dma]; unfold dmaDuty
  rw [sndOf_rs, if_neg (by decide), if_neg (by omega)]

theorem payload_snd (e : Fin 4) : (Rd X).payload (dmaCell d (ss i)) (rnd i) e = sndPay X d i := by
  rw [payload_dma]; unfold dmaPay; rw [sndOf_ss]
theorem payload_rcv (e : Fin 4) : (Rd X).payload (dmaCell d (rs i)) 0 e = rcvPay X d i := by
  rw [payload_dma]; unfold dmaPay; rw [sndOf_rs, rcvOf_rs]

theorem expect_bar : (Rd X).expect (barCell d) 0 = 4 := by
  unfold Schedule.expect Schedule.amountOf
  rw [duties_bar]
  change (Finset.univ : Finset (Fin 4)).sum (fun _ => 1) = 4
  decide
theorem expect_snd : (Rd X).expect (dmaCell d (ss i)) (rnd i) = N := by
  unfold Schedule.expect Schedule.amountOf; rw [duties_snd, Finset.sum_singleton]; rfl
theorem expect_rcv : (Rd X).expect (dmaCell d (rs i)) 0 = N := by
  unfold Schedule.expect Schedule.amountOf; rw [duties_rcv, Finset.sum_singleton]; rfl

theorem rest_bar : bigSep ((Rd X).duties (barCell d) 0 \ ∅) (fun e => (Rd X).payload (barCell d) 0 e)
    = iprop(barPay d 0 ∗ barPay d 1 ∗ barPay d 2 ∗ barPay d 3) := by
  rw [Finset.sdiff_empty, duties_bar, bigSep_univ_eq_bigSepL [0, 1, 2, 3] (by decide) (by decide)]
  rfl
theorem rest_snd : bigSep ((Rd X).duties (dmaCell d (ss i)) (rnd i) \ ∅) (fun e => (Rd X).payload (dmaCell d (ss i)) (rnd i) e)
    = sndPay X d i := by
  rw [Finset.sdiff_empty, duties_snd, bigSep_singleton, payload_snd]
theorem rest_rcv : bigSep ((Rd X).duties (dmaCell d (rs i)) 0 \ ∅) (fun e => (Rd X).payload (dmaCell d (rs i)) 0 e)
    = rcvPay X d i := by
  rw [Finset.sdiff_empty, duties_rcv, bigSep_singleton, payload_rcv]

end Facts

/-! ## What is owed, and the levels -/

/-- The copies from number `n` on. -/
def from' (n : ℕ) : List (Fin 60) := (List.finRange 60).filter fun i => decide (n ≤ i.val)
/-- Beside `z`, what a device that has still to start the copies `l` owes its neighbours: their arrivals. -/
def owedL (z : CellTallies nD τ sig Unit) (d : Dev nD) : List (Fin 60) → CellTallies nD τ sig Unit
  | [] => z
  | i :: l => owedL z d l + tallyAt (dmaCell (rcr i d) (rs i)) () N
/-- What a device owes before the call beside `z`: a unit to each neighbour's barrier — the signals in order peel the last
    summand — and all the arrivals. -/
def due (z : CellTallies nD τ sig Unit) (d : Dev nD) : CellTallies nD τ sig Unit :=
  owedL z d (from' 0) + tallyAt (barCell (nb 3 d)) () 1 + tallyAt (barCell (nb 2 d)) () 1 + tallyAt (barCell (nb 0 d)) () 1
    + tallyAt (barCell (nb 1 d)) () 1

/-- What the device owes for after the call. -/
def later (d : Dev nD) : CellTallies nD τ sig Unit := match C.k with
  | false => due (C := call1) 0 d
  | true => 0

/-- What a device that has started the first `n` copies owes. -/
def owed (d : Dev nD) (n : ℕ) : CellTallies nD τ sig Unit := owedL (later d) d (from' n)

theorem from_cons (i : Fin 60) : from' i.val = i :: from' (i.val + 1) := by revert i; decide +kernel
theorem from_60 : from' 60 = [] := by decide +kernel
theorem owed_cons (d : Dev nD) (i : Fin 60) : owed d i.val = owed d (i.val + 1) + tallyAt (dmaCell (rcr i d) (rs i)) () N := by
  unfold owed; rw [from_cons]; rfl
theorem owed_60 (d : Dev nD) : owed d 60 = later d := by unfold owed; rw [from_60]; rfl

theorem owedL_add (z : CellTallies nD τ sig Unit) (d : Dev nD) : ∀ l : List (Fin 60), owedL z d l = z + owedL 0 d l
  | [] => (add_zero z).symm
  | i :: l => by unfold owedL; rw [owedL_add z d l, add_assoc]
theorem due_add (z : CellTallies nD τ sig Unit) (d : Dev nD) : due z d = z + due 0 d := by
  unfold due; rw [owedL_add z]; simp only [add_assoc]

theorem owedL_pos {z : CellTallies nD τ sig Unit} {d : Dev nD} {g : GSem nD τ sig} {u : Unit} : ∀ {l : List (Fin 60)},
    0 < owedL z d l g u → (∃ i ∈ l, g = dmaCell (rcr i d) (rs i)) ∨ 0 < z g u
  | [], h => .inr h
  | i :: l, h => by
    unfold owedL at h
    rw [Pi.add_apply, Finsupp.add_apply, tallyAt_apply] at h
    by_cases hg : g = dmaCell (rcr i d) (rs i) ∧ u = ()
    · exact .inl ⟨i, List.mem_cons_self, hg.1⟩
    · rw [if_neg hg] at h
      rcases owedL_pos (l := l) h with ⟨j, hj, e⟩ | h
      · exact .inl ⟨j, List.mem_cons_of_mem _ hj, e⟩
      · exact .inr h

theorem owed_pos {d : Dev nD} {n : ℕ} {g : GSem nD τ sig} {u : Unit} (h : 0 < owed d n g u) :
    (∃ i : Fin 60, n ≤ i.val ∧ g = dmaCell (rcr i d) (rs i)) ∨ 0 < later d g u := by
  rcases owedL_pos h with ⟨i, hi, e⟩ | h
  · exact .inl ⟨i, by simpa [from'] using hi, e⟩
  · exact .inr h

/-- What a device owes as the signals go out. -/
def owed₃ (d : Dev nD) : CellTallies nD τ sig Unit := owed d 0 + tallyAt (barCell (nb 3 d)) () 1
def owed₂ (d : Dev nD) : CellTallies nD τ sig Unit := owed₃ d + tallyAt (barCell (nb 2 d)) () 1
def owed₁ (d : Dev nD) : CellTallies nD τ sig Unit := owed₂ d + tallyAt (barCell (nb 0 d)) () 1
def owed₀ (d : Dev nD) : CellTallies nD τ sig Unit := owed₁ d + tallyAt (barCell (nb 1 d)) () 1
theorem owed₀_eq (d : Dev nD) : owed₀ d = later d + due 0 d := by rw [← due_add]; rfl

def L (g : GSem nD τ sig) : Finset Unit := if g.1.2 = .tc then {()} else ∅
/-- In the first call the barriers at 1, copy `i`'s receiving semaphore at `2 + i`; in the second call all those above the
    first's; the others at 0. -/
def lv (g : GSem nD τ sig) (_ : Unit) : ℕ := match g.2 with
  | .reg s => 100 * s.val + 1
  | .dma n => match rcvOf (ls n) with | some i => 100 * (n.val / 81) + 2 + i.val | none => 0
/-- Where the call's levels start. -/
def lvl : ℕ := match C.k with | false => 0 | true => 100

theorem L_of_ne (g : GSem nD τ sig) (h : g.1.2 ≠ .tc) : L g = ∅ := if_neg h
theorem L_tc (c : Dev nD) (sm : SemLoc sig) : L ((c : Thread nD τ), sm) = {()} := if_pos rfl
theorem lv_rs (d : Dev nD) (i : Fin 60) (u : Unit) : lv (dmaCell d (rs i)) u = lvl + 2 + i.val := by
  simp only [lv, ls_gs, rcvOf_rs]
  have h := (rs i).isLt
  obtain ⟨k⟩ := C
  cases k
  · change 100 * ((rs i).val / 81) + 2 + i.val = 0 + 2 + i.val; omega
  · change 100 * ((81 + (rs i).val) / 81) + 2 + i.val = 100 + 2 + i.val; omega
theorem lv_bar (d : Dev nD) (u : Unit) : lv (barCell d) u = lvl + 1 := by
  obtain ⟨k⟩ := C; cases k <;> rfl
theorem lv_none (d : Dev nD) (n : LS) (h : rcvOf n = none) (u : Unit) : lv (dmaCell d n) u = 0 := by
  change (match rcvOf (ls (gs n)) with | some i => 100 * ((gs n).val / 81) + 2 + i.val | none => 0) = _
  rw [ls_gs, h]

theorem due_pos {z : CellTallies nD τ sig Unit} {d : Dev nD} {g : GSem nD τ sig} {u : Unit} (h : 0 < due z d g u) :
    (∃ l, g = barCell (nb l d)) ∨ (∃ i : Fin 60, g = dmaCell (rcr i d) (rs i)) ∨ 0 < z g u := by
  unfold due at h
  simp only [Pi.add_apply, Finsupp.add_apply, tallyAt_apply] at h
  by_cases h1 : g = barCell (nb 1 d)
  · exact .inl ⟨1, h1⟩
  by_cases h0 : g = barCell (nb 0 d)
  · exact .inl ⟨0, h0⟩
  by_cases h2 : g = barCell (nb 2 d)
  · exact .inl ⟨2, h2⟩
  by_cases h3 : g = barCell (nb 3 d)
  · exact .inl ⟨3, h3⟩
  rw [if_neg (fun h => h3 h.1), if_neg (fun h => h2 h.1), if_neg (fun h => h0 h.1), if_neg (fun h => h1 h.1)] at h
  rcases owedL_pos (d := d) (g := g) (u := u) (by simpa using h) with ⟨i, _, e⟩ | h
  · exact .inr (.inl ⟨i, e⟩)
  · exact .inr (.inr h)

/-- What is owed for later is owed above all the call's levels. -/
theorem later_pos {d : Dev nD} {g : GSem nD τ sig} {u : Unit} (h : 0 < later d g u) : () ∈ L g ∧ lvl + 100 < lv g u := by
  obtain ⟨k⟩ := C
  cases k
  · rcases due_pos (C := call1) (z := 0) h with ⟨l, rfl⟩ | ⟨i, rfl⟩ | h
    · exact ⟨Finset.mem_singleton_self _, by rw [lv_bar (C := call1)]; exact Nat.lt_succ_self 100⟩
    · exact ⟨Finset.mem_singleton_self _, by rw [lv_rs (C := call1)]; change 0 + 100 < 100 + 2 + i.val; omega⟩
    · exact absurd h (Nat.lt_irrefl 0)
  · exact absurd h (Nat.lt_irrefl 0)

/-- A wait at a level of this call below those of the copies not yet started. -/
theorem mayWait (d : Dev nD) (sm : SemLoc sig) (n : ℕ) (h : lv ((d : Thread nD τ), sm) () < lvl + 2 + n)
    (h' : lv ((d : Thread nD τ), sm) () < lvl + 62) :
    (levAts L lv : sProp 𝕄) ⊢ MayWait (d : Thread nD τ) sm () (owed d n) :=
  MayOwe.of_cut (L := L) (lev := lv) (lv ((d : Thread nD τ), sm) ())
    (fun p hp => by rw [Finset.mem_singleton.mp hp, L_tc]; exact Finset.mem_singleton_self _)
    (fun g u hg => by
      rcases owed_pos hg with ⟨i, _, rfl⟩ | hl
      · exact Finset.mem_singleton_self _
      · exact (later_pos hl).1)
    (fun p hp => by rw [Finset.mem_singleton.mp hp])
    (fun g u hg => by
      rcases owed_pos hg with ⟨i, hi, rfl⟩ | hl
      · rw [lv_rs]; omega
      · have := (later_pos hl).2; omega)

theorem mayWait_bar (d : Dev nD) : (levAts L lv : sProp 𝕄) ⊢ MayWait (d : Thread nD τ) (.reg barS) () (owed d 0) :=
  mayWait d _ 0 (by rw [lv_bar]; omega) (by rw [lv_bar]; omega)
theorem mayWait_snd (d : Dev nD) (i : Fin 60) (n : ℕ) : (levAts L lv : sProp 𝕄) ⊢ MayWait (d : Thread nD τ) (.dma (gs (ss i))) () (owed d n) :=
  mayWait d _ n (by rw [lv_none d _ (rcvOf_ss i)]; omega) (by rw [lv_none d _ (rcvOf_ss i)]; omega)
theorem mayWait_rcv (d : Dev nD) (i : Fin 60) (n : ℕ) (h : i.val < n) :
    (levAts L lv : sProp 𝕄) ⊢ MayWait (d : Thread nD τ) (.dma (gs (rs i))) () (owed d n) :=
  mayWait d _ n (by rw [lv_rs]; omega) (by rw [lv_rs]; have := i.isLt; omega)

/-- Before the call and after it everything owed is above the semaphores of the launch. -/
theorem above {d : Dev nD} {g : GSem nD τ sig} {u : Unit} (h : 0 < owed₀ d g u ∨ 0 < later d g u) : u ∈ L g ∧ 0 < lv g u := by
  have hl : 0 < later d g u → u ∈ L g ∧ 0 < lv g u := fun h => ⟨(later_pos h).1, by have := (later_pos h).2; omega⟩
  rcases h with h | h
  · rcases due_pos (z := later d) h with ⟨l, rfl⟩ | ⟨i, rfl⟩ | h
    · exact ⟨Finset.mem_singleton_self _, by rw [lv_bar]; omega⟩
    · exact ⟨Finset.mem_singleton_self _, by rw [lv_rs]; omega⟩
    · exact hl h
  · exact hl h

end Cert.ResidualProof
-- ==== Proof.Machine.lean ====
/- What a device holds, as a list of items; what each instruction does to the list; and that it does. -/
module

public import proofs.«01_k».proof.Proof.Sched

@[expose] public section

set_option maxRecDepth 16384

noncomputable section

namespace Cert.ResidualProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable [C : Call]

/-! ## Items -/

/-- Something a device holds: a chunk with whatever contents, with its final contents, or a quarter of that; a chunk of
    a neighbour's that copy `i` will fill, its semaphore there opened; the credit of a copy started; the right to start a copy; the place at a sending
    semaphore; the place at a receiving semaphore, before and after the arrival. -/
inductive It
  | raw (c : Ch) | own (c : Ch) | qtr (c : Ch) (k : Fin 4)
  | peer (i : Fin 60) | crd (i : Fin 60) | tok (i : Fin 60)
  | spos (n : LS) (r : Nat) | rpos (i : Fin 60) | rdone (i : Fin 60)
  deriving DecidableEq

variable (X : Inp F)

def It.sem (d : Dev nD) : It → sProp 𝕄
  | .raw c => ResidualProof.raw d (c.mem d)
  | .own c => hold d (c.mem d) fullShare (val X d c)
  | .qtr c k => hold d (c.mem d) (qsh k) (val X d c)
  | .peer i => iprop(ResidualProof.raw (nb (msg i).link d) ((rch i).mem (nb (msg i).link d)) ∗ reached ER (dmaCell (nb (msg i).link d) (rs i)) 0)
  | .crd i => cred (tallyAt (dmaCell d (ss i)) () N)
  | .tok i => iprop(dutyTok ER (dmaCell d (ss i)) (rnd i) 0 ∗ dutyTok ER (dmaCell (rcr i d) (rs i)) 0 0)
  | .spos n r => iprop(atPos ER (dmaCell d n) r ∅ 0 ∗ reached ER (dmaCell d n) r)
  | .rpos i => iprop(atPos ER (dmaCell d (rs i)) 0 ∅ 0 ∗ cred (tallyAt (dmaCell d (rs i)) () N))
  | .rdone i => atPos ER (dmaCell d (rs i)) 1 ∅ 0

/-- Take an item off a list. -/
def pull (a : It) (l : List It) : Option (List It) := if a ∈ l then some (l.erase a) else none

theorem star_perm {ι : Type} (P : ι → sProp 𝕄) {l l' : List ι} (h : l.Perm l') : star P l ⊢ star P l' := by
  induction h with
  | nil => exact .rfl
  | cons a _ ih =>
    unfold star
    iintro ⟨Ha, Hl⟩
    isplitl [Ha]; · iexact Ha
    iapply ih; iexact Hl
  | swap a b l =>
    unfold star star
    iintro ⟨Hb, Ha, Hl⟩
    isplitl [Ha]; · iexact Ha
    isplitl [Hb]; · iexact Hb
    iexact Hl
  | trans _ _ h1 h2 => exact h1.trans h2

theorem star_append {ι : Type} (P : ι → sProp 𝕄) : ∀ l l' : List ι, star P (l ++ l') ⊣⊢ iprop(star P l ∗ star P l')
  | [], l' => by
    constructor
    · change star P l' ⊢ iprop(emp ∗ star P l')
      iintro H; isplitr; · iempintro
      iexact H
    · change iprop(emp ∗ star P l') ⊢ star P l'
      iintro ⟨-, H⟩; iexact H
  | a :: l, l' => by
    have ih := star_append P l l'
    constructor
    · change iprop(P a ∗ star P (l ++ l')) ⊢ iprop((P a ∗ star P l) ∗ star P l')
      iintro ⟨Ha, H⟩
      ihave H := ih.1 $$ H
      icases H with ⟨H1, H2⟩
      isplitr [H2]
      · isplitl [Ha] <;> iassumption
      · iexact H2
    · change iprop((P a ∗ star P l) ∗ star P l') ⊢ iprop(P a ∗ star P (l ++ l'))
      iintro ⟨⟨Ha, H1⟩, H2⟩
      isplitl [Ha]; · iexact Ha
      iapply ih.2
      isplitl [H1] <;> iassumption

theorem star_map {ι : Type} (P : ι → sProp 𝕄) {κ : Type} (f : κ → ι) : ∀ l : List κ, star P (l.map f) = star (fun a => P (f a)) l
  | [] => rfl
  | a :: l => congrArg (fun Q => iprop(P (f a) ∗ Q)) (star_map P f l)

theorem pull_sound {d : Dev nD} {a : It} {l l' : List It} (h : pull a l = some l') :
    star (It.sem X d) l ⊢ iprop(a.sem X d ∗ star (It.sem X d) l') := by
  unfold pull at h
  split at h
  · next hm =>
    cases h
    exact star_perm _ (List.perm_cons_erase hm)
  · cases h

/-- A chunk with its final contents, as held: a chunk of the result in quarters. -/
def parts (c : Ch) : List It := if (isO c).isSome then [.qtr c 0, .qtr c 1, .qtr c 2, .qtr c 3] else [.own c]
/-- What copy `i` borrows of its source. -/
def srcIt (i : Fin 60) : It := if (isO (sch i)).isSome then .qtr (sch i) (msg i).share else .own (sch i)

theorem parts_sem (d : Dev nD) (c : Ch) : hold d (c.mem d) fullShare (val X d c) ⊢ star (It.sem X d) (parts c) := by
  unfold parts
  split
  · rw [hold_quarters]
    change _ ⊢ iprop(hold d (c.mem d) (qsh 0) (val X d c) ∗ hold d (c.mem d) (qsh 1) (val X d c) ∗ hold d (c.mem d) (qsh 2) (val X d c)
      ∗ hold d (c.mem d) (qsh 3) (val X d c) ∗ emp)
    iintro ⟨H0, H1, H2, H3⟩
    isplitl [H0]; · iexact H0
    isplitl [H1]; · iexact H1
    isplitl [H2]; · iexact H2
    isplitl [H3]; · iexact H3
    iempintro
  · change _ ⊢ iprop(hold d (c.mem d) fullShare (val X d c) ∗ emp)
    iintro H
    isplitl [H]; · iexact H
    iempintro

theorem srcIt_sem (d : Dev nD) (i : Fin 60) : (srcIt i).sem X d = sndPay X d i := by
  unfold srcIt sndPay ssh
  split <;> rfl

/-! ## The machine -/

/-- The copies started, the items held, and the registers' names. -/
structure MS where
  n : Nat
  items : List It
  env : List (Option VE)

/-- One instruction. -/
def step : Ins → MS → Option MS
  | .snd i, s =>
    if s.n = i.val then
      match pull (.spos (ss i) (rnd i)) s.items with
      | none => none
      | some l0 => match pull (.peer i) l0 with
        | none => none
        | some l1 => match pull (.tok i) l1 with
          | none => none
          | some l2 => match pull (srcIt i) l2 with
            | none => none
            | some l3 => some ⟨s.n + 1, .crd i :: .spos (ss i) (rnd i) :: l3, s.env⟩
    else none
  | .wsn i, s => match pull (.crd i) s.items with
    | none => none
    | some l1 => match pull (.spos (ss i) (rnd i)) l1 with
      | none => none
      | some l2 => some ⟨s.n, srcIt i :: .spos (ss i) (rnd i + 1) :: l2, s.env⟩
  | .wrc i, s => if i.val < s.n then
      match pull (.rpos i) s.items with
      | none => none
      | some l1 => some ⟨s.n, parts (rch i) ++ .rdone i :: l1, s.env⟩
    else none
  | .ld m, s => match pull (.own m.ch) s.items with
    | some l1 => some ⟨s.n, .own m.ch :: l1, some (.v m.ch) :: s.env⟩
    | none => match pull (.raw m.ch) s.items with
      | some l1 => some ⟨s.n, .raw m.ch :: l1, none :: s.env⟩
      | none => none
  | .ldb o, s => some ⟨s.n, s.items, some (.b o.h o.g o.j) :: s.env⟩
  | .ldg h, s => some ⟨s.n, s.items, some (.g h) :: s.env⟩
  | .st m e, s => match e.sym s.env with
    | none => none
    | some x => if wr m.ch = some x then
        match pull (.raw m.ch) s.items with
        | none => none
        | some l1 => some ⟨s.n, parts m.ch ++ l1, s.env⟩
      else none

def exec : List Ins → MS → Option MS
  | [], s => some s
  | a :: l, s => match step a s with | none => none | some s' => exec l s'

/-! ## Soundness -/

/-- A transfer semaphore the kernel uses: its number among the exchange's cells; and the barrier's. -/
abbrev csem (k : Fin 78) : SemLoc sig := if h : k.val < 77 then .dma (gs ⟨4 + k.val, by omega⟩) else .reg barS
abbrev kcell (e : Dev nD × Fin 78) : GSem nD τ sig := ((e.1 : Thread nD τ), csem e.2)

/-- Every cell's invariant, and that each barrier has been opened. -/
def recs (K : Dev nD × Fin 78 → ℕ) : sProp 𝕄 :=
  iprop((bigSep Finset.univ fun e : Dev nD × Fin 78 => cellInv ER (Rd X) (K e) (kcell e))
    ∗ bigSep Finset.univ fun d : Dev nD => reached ER (barCell d) 0)

instance recs_persistent (K : Dev nD × Fin 78 → ℕ) : BI.Persistent (recs X K) := by unfold recs; infer_instance

theorem recs_at (K : Dev nD × Fin 78 → ℕ) (e : Dev nD × Fin 78) : recs X K ⊢ cellInv ER (Rd X) (K e) (kcell e) := by
  unfold recs
  exact BI.Entails.trans (show _ ⊢ (bigSep Finset.univ fun e : Dev nD × Fin 78 => cellInv ER (Rd X) (K e) (kcell e)) by
    iintro ⟨H, -⟩; iexact H) (bigSep_elim (Finset.mem_univ e))
theorem recs_open (K : Dev nD × Fin 78 → ℕ) (d : Dev nD) : recs X K ⊢ reached ER (barCell d) 0 := by
  unfold recs
  exact BI.Entails.trans (show _ ⊢ (bigSep Finset.univ fun d : Dev nD => (reached ER (barCell d) 0 : sProp 𝕄)) by
    iintro ⟨-, H⟩; iexact H) (bigSep_elim (Finset.mem_univ d))

/-- A semaphore's number among the exchange's cells. -/
def kix (n : LS) : Fin 78 := ⟨n.val - 4, by have := n.isLt; omega⟩

theorem csem_kix (n : LS) (h : 4 ≤ n.val) : csem (kix n) = .dma (gs n) := by
  have hn := n.isLt
  unfold csem kix
  rw [dif_pos (by change n.val - 4 < 77; omega)]
  exact congrArg (fun n => SemLoc.dma (gs n)) (Fin.ext (by change 4 + (n.val - 4) = n.val; omega))

theorem recs_dma (K : Dev nD × Fin 78 → ℕ) (d : Dev nD) (n : LS) (h : 4 ≤ n.val) :
    recs X K ⊢ cellInv ER (Rd X) (K (d, kix n)) (dmaCell d n) := by
  have := recs_at X K (d, kix n)
  have e : kcell (d, kix n) = dmaCell d n := congrArg (Prod.mk _) (csem_kix n h)
  rwa [e] at this

theorem ss_ge (i : Fin 60) : 4 ≤ (ss i).val := by revert i; decide +kernel
theorem rs_ge (i : Fin 60) : 4 ≤ (rs i).val := by revert i; decide +kernel

/-- What the device holds in a state of the machine. -/
def Holds (d : Dev nD) (s : MS) : sProp 𝕄 :=
  iprop(bAll X d ∗ gAll X d ∗ (∃ W, owes (d : Thread nD τ) (owed d s.n) W) ∗ star (It.sem X d) s.items)

variable (K : Dev nD × Fin 78 → ℕ)

/-- Starting copy `i`, its operands given up to equality. -/
theorem wp_copy {Q : PUnit.{1} → sProp 𝕄} (d n : Dev nD) (i : Fin 60) (hn : n = nb (msg i).link d) (M M' : CM)
    (hM : M = (sch i).mem d) (hM' : M' = (rch i).mem (nb (msg i).link d))
    {hsc : M'.view.ref.isScScratch = false} {hsrc : M.view.WordExact} {hdst : M'.view.WordExact}
    {hsem : DmaTarget.Typed .vmem (.dma (gs (rs i))) (.remote (Dev.tc n : Thread nD τ) M' (.dma (gs (ss i))) hsc)}
    (k : PUnit → Pr F) (v : Reg F) (W : Waits sig Unit) :
    iprop(cellInv ER (Rd X) (K (d, kix (ss i))) (dmaCell d (ss i)) ∗ cellInv ER (Rd X) (K (rcr i d, kix (rs i))) (dmaCell (rcr i d) (rs i))
        ∗ sndPay X d i ∗ hold (nb (msg i).link d) ((rch i).mem (nb (msg i).link d)) fullShare v
        ∗ owes (d : Thread nD τ) (owed d i.val) W
        ∗ dutyTok ER (dmaCell d (ss i)) (rnd i) 0 ∗ reached ER (dmaCell d (ss i)) (rnd i)
        ∗ dutyTok ER (dmaCell (rcr i d) (rs i)) 0 0 ∗ reached ER (dmaCell (rcr i d) (rs i)) 0)
      ⊢ iprop(((cred (tallyAt (dmaCell d (ss i)) () N) ∗ owes (d : Thread nD τ) (owed d (i.val + 1)) W) -∗ wpd d (k ⟨⟩) Q)
          -∗ wpd d (.op (.enqueueDma M (.remote (Dev.tc n) M' (.dma (gs (ss i))) hsc) (.dma (gs (rs i))) hsrc hdst hsem) k) Q) := by
  subst hn hM hM'
  unfold sndPay hold
  refine Rounds.wp_send_pointsTo 𝒱₀ ER (Rd X) (d : Thread nD τ) none (κ₁ := K (d, kix (ss i))) (κ₂ := K (rcr i d, kix (rs i)))
    (r₁ := rnd i) (r₂ := 0) (d₁ := 0) (d₂ := 0) (fd := ((rch i).mem (nb (msg i).link d)).view.rep v)
    (by rw [duties_snd]; exact Finset.mem_singleton_self _)
    (show (0 : Fin 4) ∈ (Rd X).duties (dmaCell (rcr i d) (rs i)) 0 by rw [duties_rcv]; exact Finset.mem_singleton_self _)
    () () N (credit_eq _ _) rfl rfl (owed d (i.val + 1)) (owed_cons d i) (W := W) ?_ ?_
  · rw [payload_snd]; unfold sndPay hold; exact .rfl
  · change _ ⊢ (Rd X).payload (dmaCell (rcr i d) (rs i)) 0 0
    rw [payload_rcv]
    unfold rcvPay
    rw [hold_of, View.read_write_univ, View.read_rep]
    change _ ⊢ hold (nb (msg i).link d) ((rch i).mem (nb (msg i).link d)) fullShare (val X (nb (msg i).link d) (rch i))
    rw [val_msg]
    exact .rfl

theorem mr_credit (d : Dev nD) (m : MR) : (m.mem d).view.dmaCredit = N := by rw [MR.mem_eq]; exact credit_eq _ _

/-- Waiting until copy `i` has been read. -/
theorem wp_read {Q : PUnit.{1} → sProp 𝕄} (d : Dev nD) (i : Fin 60) (n : ℕ) (k : PUnit → Pr F) (W : Waits sig Unit) :
    iprop(cellInv ER (Rd X) (K (d, kix (ss i))) (dmaCell d (ss i)) ∗ cred (tallyAt (dmaCell d (ss i)) () N)
        ∗ owes (d : Thread nD τ) (owed d n) W ∗ levAts L lv ∗ atPos ER (dmaCell d (ss i)) (rnd i) ∅ 0)
      ⊢ iprop(((owes (d : Thread nD τ) (owed d n) (insert (SemLoc.dma (gs (ss i)), ()) W) ∗ atPos ER (dmaCell d (ss i)) (rnd i + 1) ∅ 0
            ∗ reached ER (dmaCell d (ss i)) (rnd i + 1) ∗ sndPay X d i) -∗ wpd d (k ⟨⟩) Q)
          -∗ wpd d (.op (waitSndOp d i) k) Q) := by
  have h := Rounds.wp_wait_rest_token (Q := Q) (k := k) 𝒱₀ ER (Rd X) (d : Thread nD τ) none (κ := K (d, kix (ss i)))
    (wpE_waitDma2_eq (defs := defs₀ (F := F)) 𝒱₀ (d : Thread nD τ) none Set.univ (sem := gs (ss i)) (src := (msg i).src.mem d) (dst := (msg i).dst.mem d)
      (hsrc := MR.words d _) (hdst := MR.words d _)) (Set.mem_univ _) () (O := owed d n) (W := W) (R := rnd i) (m := 0) (T := ∅)
    (by rw [Nat.zero_add, mr_credit, expect_snd])
  rw [mr_credit, rest_snd] at h
  iintro ⟨HI, Hc, HO, Hl, Ha⟩
  iapply h $$ [HI Hc HO Hl Ha]
  isplitl [HI]; · iexact HI
  isplitl [Hc]; · iexact Hc
  isplitl [HO]; · iexact HO
  isplitl [Hl]; · iapply (mayWait_snd d i n); iexact Hl
  iexact Ha

/-- Waiting until copy `i` to this device has arrived. -/
theorem wp_arrive {Q : PUnit.{1} → sProp 𝕄} (d : Dev nD) (i : Fin 60) (n : ℕ) (hi : i.val < n) (k : PUnit → Pr F) (W : Waits sig Unit) :
    iprop(cellInv ER (Rd X) (K (d, kix (rs i))) (dmaCell d (rs i)) ∗ cred (tallyAt (dmaCell d (rs i)) () N)
        ∗ owes (d : Thread nD τ) (owed d n) W ∗ levAts L lv ∗ atPos ER (dmaCell d (rs i)) 0 ∅ 0)
      ⊢ iprop(((owes (d : Thread nD τ) (owed d n) (insert (SemLoc.dma (gs (rs i)), ()) W) ∗ atPos ER (dmaCell d (rs i)) (0 + 1) ∅ 0
            ∗ reached ER (dmaCell d (rs i)) (0 + 1) ∗ rcvPay X d i) -∗ wpd d (k ⟨⟩) Q)
          -∗ wpd d (.op (waitRcvOp d i) k) Q) := by
  have h := Rounds.wp_wait_rest_token (Q := Q) (k := k) 𝒱₀ ER (Rd X) (d : Thread nD τ) none (κ := K (d, kix (rs i)))
    (wpE_waitDma2_eq (defs := defs₀ (F := F)) 𝒱₀ (d : Thread nD τ) none Set.univ (sem := gs (rs i)) (src := (msg i).rcv.mem d) (dst := (msg i).rcv.mem d)
      (hsrc := MR.words d _) (hdst := MR.words d _)) (Set.mem_univ _) () (O := owed d n) (W := W) (R := 0) (m := 0) (T := ∅)
    (by rw [Nat.zero_add, mr_credit, expect_rcv])
  rw [mr_credit, rest_rcv] at h
  iintro ⟨HI, Hc, HO, Hl, Ha⟩
  iapply h $$ [HI Hc HO Hl Ha]
  isplitl [HI]; · iexact HI
  isplitl [Hc]; · iexact Hc
  isplitl [HO]; · iexact HO
  isplitl [Hl]; · iapply (mayWait_rcv d i n hi); iexact Hl
  iexact Ha

/-! What each item stands for. -/
theorem sem_raw (d : Dev nD) (c : Ch) : It.sem X d (.raw c) ⊢ iprop(∃ v, hold d (c.mem d) fullShare v) := .rfl
theorem sem_raw' (d : Dev nD) (c : Ch) : iprop(∃ v, hold d (c.mem d) fullShare v) ⊢ It.sem X d (.raw c) := .rfl
theorem sem_own (d : Dev nD) (c : Ch) : It.sem X d (.own c) ⊢ hold d (c.mem d) fullShare (val X d c) := .rfl
theorem sem_peer (d : Dev nD) (i : Fin 60) :
    It.sem X d (.peer i) ⊢ iprop((∃ v, hold (nb (msg i).link d) ((rch i).mem (nb (msg i).link d)) fullShare v)
      ∗ reached ER (dmaCell (rcr i d) (rs i)) 0) := .rfl
theorem sem_crd (d : Dev nD) (i : Fin 60) : It.sem X d (.crd i) ⊢ cred (tallyAt (dmaCell d (ss i)) () N) := .rfl
theorem sem_tok (d : Dev nD) (i : Fin 60) :
    It.sem X d (.tok i) ⊢ iprop(dutyTok ER (dmaCell d (ss i)) (rnd i) 0 ∗ dutyTok ER (dmaCell (rcr i d) (rs i)) 0 0) := .rfl
theorem sem_spos (d : Dev nD) (n : LS) (r : ℕ) :
    It.sem X d (.spos n r) ⊢ iprop(atPos ER (dmaCell d n) r ∅ 0 ∗ reached ER (dmaCell d n) r) := .rfl
theorem sem_rpos (d : Dev nD) (i : Fin 60) :
    It.sem X d (.rpos i) ⊢ iprop(atPos ER (dmaCell d (rs i)) 0 ∅ 0 ∗ cred (tallyAt (dmaCell d (rs i)) () N)) := .rfl
theorem sem_rdone (d : Dev nD) (i : Fin 60) : It.sem X d (.rdone i) ⊢ atPos ER (dmaCell d (rs i)) 1 ∅ 0 := .rfl

theorem sem_own' (d : Dev nD) (c : Ch) : hold d (c.mem d) fullShare (val X d c) ⊢ It.sem X d (.own c) := .rfl
theorem sem_crd' (d : Dev nD) (i : Fin 60) : cred (tallyAt (dmaCell d (ss i)) () N) ⊢ It.sem X d (.crd i) := .rfl
theorem sem_spos' (d : Dev nD) (n : LS) (r : ℕ) :
    iprop(atPos ER (dmaCell d n) r ∅ 0 ∗ reached ER (dmaCell d n) r) ⊢ It.sem X d (.spos n r) := .rfl
theorem sem_rdone' (d : Dev nD) (i : Fin 60) : atPos ER (dmaCell d (rs i)) (0 + 1) ∅ 0 ⊢ It.sem X d (.rdone i) := .rfl

/-- Putting an item on the list. -/
theorem put {d : Dev nD} (a : It) (l : List It) {P : sProp 𝕄} (h : P ⊢ a.sem X d) :
    iprop(P ∗ star (It.sem X d) l) ⊢ star (It.sem X d) (a :: l) := by
  change _ ⊢ iprop(a.sem X d ∗ star (It.sem X d) l)
  iintro ⟨HP, Hl⟩
  isplitl [HP]; · iapply h; iexact HP
  iexact Hl

theorem sem_src (d : Dev nD) (i : Fin 60) : (srcIt i).sem X d ⊢ sndPay X d i := by rw [srcIt_sem]

theorem hold_mr (d : Dev nD) (m : MR) (q : PosShare TreeShare) (v : Reg F) :
    (hold d (m.mem d) q v : sProp 𝕄) = hold d (m.ch.mem d) q v := by rw [MR.mem_eq]
theorem raw_mr (d : Dev nD) (m : MR) : iprop(∃ v, hold d (m.ch.mem d) fullShare v) ⊢ (raw d (m.mem d) : sProp 𝕄) := by
  rw [MR.mem_eq]; exact .rfl

/-- Starting copy `i`. -/
theorem snd_sound {Q : PUnit.{1} → sProp 𝕄} (d : Dev nD) (i : Fin 60) {n : ℕ} (hn : n = i.val) {l l0 l1 l2 l3 : List It}
    (h0 : pull (.spos (ss i) (rnd i)) l = some l0) (h1 : pull (.peer i) l0 = some l1) (h2 : pull (.tok i) l1 = some l2)
    (h3 : pull (srcIt i) l2 = some l3) (k : PUnit → Pr F) (e : List (Option VE)) :
    iprop(recs X K ∗ levAts L lv ∗ Holds X d ⟨n, l, e⟩)
      ⊢ iprop((Holds X d ⟨n + 1, .crd i :: .spos (ss i) (rnd i) :: l3, e⟩ -∗ wpd d (k ⟨⟩) Q) -∗ wpd d (.op (sendOp d i) k) Q) := by
  subst hn
  unfold Holds
  iintro ⟨#Hr, -, Hb, Hg, ⟨%W, HO⟩, Hl⟩ Hk
  ihave Hl := pull_sound X h0 $$ Hl
  icases Hl with ⟨Hs, Hl⟩
  ihave Hl := pull_sound X h1 $$ Hl
  icases Hl with ⟨Hp, Hl⟩
  ihave Hl := pull_sound X h2 $$ Hl
  icases Hl with ⟨Ht, Hl⟩
  ihave Hl := pull_sound X h3 $$ Hl
  icases Hl with ⟨Hsrc, Hl⟩
  ihave Hsrc := sem_src X d i $$ Hsrc
  ihave Hs := sem_spos X d _ _ $$ Hs
  ihave Hp := sem_peer X d i $$ Hp
  ihave Ht := sem_tok X d i $$ Ht
  icases Hs with ⟨Ha, #Hre⟩
  icases Hp with ⟨⟨%v, Hp⟩, #H2r⟩
  icases Ht with ⟨Ht1, Ht2⟩
  ihave #H1 := recs_dma X K d (ss i) (ss_ge i) $$ Hr
  ihave #H2 := recs_dma X K (rcr i d) (rs i) (rs_ge i) $$ Hr
  iapply (wp_copy X K d (tgt i d) i (tgt_eq i d) _ _ (src_mem i d) (dst_mem i d) k v W) $$ [Hsrc Hp HO Ht1 Ht2]
  · isplitr; · iexact H1
    isplitr; · iexact H2
    isplitl [Hsrc]; · iexact Hsrc
    isplitl [Hp]; · iexact Hp
    isplitl [HO]; · iexact HO
    isplitl [Ht1]; · iexact Ht1
    isplitr; · iexact Hre
    isplitl [Ht2]; · iexact Ht2
    iexact H2r
  iintro ⟨Hc, HO⟩
  iapply Hk
  isplitl [Hb]; · iexact Hb
  isplitl [Hg]; · iexact Hg
  isplitl [HO]; · iexists W; iexact HO
  iapply (put X (.crd i) (.spos (ss i) (rnd i) :: l3) (sem_crd' X d i))
  isplitl [Hc]; · iexact Hc
  iapply (put X (.spos (ss i) (rnd i)) l3 (sem_spos' X d _ _))
  isplitl [Ha]
  · isplitl [Ha]; · iexact Ha
    iexact Hre
  iexact Hl

/-- Waiting until copy `i` has been read. -/
theorem wsn_sound {Q : PUnit.{1} → sProp 𝕄} (d : Dev nD) (i : Fin 60) {n : ℕ} {l l1 l2 : List It}
    (h1 : pull (.crd i) l = some l1) (h2 : pull (.spos (ss i) (rnd i)) l1 = some l2) (k : PUnit → Pr F) (e : List (Option VE)) :
    iprop(recs X K ∗ levAts L lv ∗ Holds X d ⟨n, l, e⟩)
      ⊢ iprop((Holds X d ⟨n, srcIt i :: .spos (ss i) (rnd i + 1) :: l2, e⟩ -∗ wpd d (k ⟨⟩) Q) -∗ wpd d (.op (waitSndOp d i) k) Q) := by
  unfold Holds
  iintro ⟨#Hr, Hlv, Hb, Hg, ⟨%W, HO⟩, Hl⟩ Hk
  ihave Hl := pull_sound X h1 $$ Hl
  icases Hl with ⟨Hc, Hl⟩
  ihave Hl := pull_sound X h2 $$ Hl
  icases Hl with ⟨Hs, Hl⟩
  ihave Hc := sem_crd X d i $$ Hc
  ihave Hs := sem_spos X d _ _ $$ Hs
  icases Hs with ⟨Ha, -⟩
  ihave #H1 := recs_dma X K d (ss i) (ss_ge i) $$ Hr
  iapply (wp_read X K d i n k W) $$ [Hc HO Hlv Ha]
  · isplitr; · iexact H1
    isplitl [Hc]; · iexact Hc
    isplitl [HO]; · iexact HO
    isplitl [Hlv]; · iexact Hlv
    iexact Ha
  iintro ⟨HO, Ha, Hre, Hp⟩
  iapply Hk
  isplitl [Hb]; · iexact Hb
  isplitl [Hg]; · iexact Hg
  isplitl [HO]; · iexists _; iexact HO
  iapply (put X (srcIt i) (.spos (ss i) (rnd i + 1) :: l2) (BIBase.Entails.of_eq (srcIt_sem X d i).symm))
  isplitl [Hp]; · iexact Hp
  iapply (put X (.spos (ss i) (rnd i + 1)) l2 (sem_spos' X d _ _))
  isplitl [Ha Hre]
  · isplitl [Ha]; · iexact Ha
    iexact Hre
  iexact Hl

/-- Waiting until copy `i` to this device has arrived. -/
theorem wrc_sound {Q : PUnit.{1} → sProp 𝕄} (d : Dev nD) (i : Fin 60) {n : ℕ} (hi : i.val < n) {l l1 : List It}
    (h1 : pull (.rpos i) l = some l1) (k : PUnit → Pr F) (e : List (Option VE)) :
    iprop(recs X K ∗ levAts L lv ∗ Holds X d ⟨n, l, e⟩)
      ⊢ iprop((Holds X d ⟨n, parts (rch i) ++ .rdone i :: l1, e⟩ -∗ wpd d (k ⟨⟩) Q) -∗ wpd d (.op (waitRcvOp d i) k) Q) := by
  unfold Holds
  iintro ⟨#Hr, Hlv, Hb, Hg, ⟨%W, HO⟩, Hl⟩ Hk
  ihave Hl := pull_sound X h1 $$ Hl
  icases Hl with ⟨Hs, Hl⟩
  ihave Hs := sem_rpos X d i $$ Hs
  icases Hs with ⟨Ha, Hc⟩
  ihave #H1 := recs_dma X K d (rs i) (rs_ge i) $$ Hr
  iapply (wp_arrive X K d i n hi k W) $$ [Hc HO Hlv Ha]
  · isplitr; · iexact H1
    isplitl [Hc]; · iexact Hc
    isplitl [HO]; · iexact HO
    isplitl [Hlv]; · iexact Hlv
    iexact Ha
  iintro ⟨HO, Ha, -, Hp⟩
  iapply Hk
  isplitl [Hb]; · iexact Hb
  isplitl [Hg]; · iexact Hg
  isplitl [HO]; · iexists _; iexact HO
  iapply (star_append _ _ _).2
  isplitl [Hp]; · iapply parts_sem; unfold rcvPay; iexact Hp
  iapply (put X (.rdone i) l1 (sem_rdone' X d i))
  isplitl [Ha]; · iexact Ha
  iexact Hl

/-- Reading a chunk this device has with its final contents. -/
theorem ld_sound {Q : PUnit.{1} → sProp 𝕄} (d : Dev nD) (m : MR) {n : ℕ} {l l1 : List It}
    (h1 : pull (.own m.ch) l = some l1) (k : Reg F → Pr F) (e e' : List (Option VE)) :
    Holds X d ⟨n, l, e⟩ ⊢ iprop((Holds X d ⟨n, .own m.ch :: l1, e'⟩ -∗ wpd d (k (val X d m.ch)) Q) -∗ wpd d (m.load d k) Q) := by
  unfold Holds
  iintro ⟨Hb, Hg, HO, Hl⟩ Hk
  ihave Hl := pull_sound X h1 $$ Hl
  icases Hl with ⟨Hc, Hl⟩
  ihave Hc := sem_own X d _ $$ Hc
  iapply (wp_ld (q := fullShare) (v := val X d m.ch) m k) $$ [Hc]
  · iapply BIBase.Entails.of_eq (hold_mr d m _ _).symm; iexact Hc
  iintro Hc
  ihave Hc := BIBase.Entails.of_eq (hold_mr d m _ _) $$ Hc
  iapply Hk
  isplitl [Hb]; · iexact Hb
  isplitl [Hg]; · iexact Hg
  isplitl [HO]; · iexact HO
  iapply (put X (.own m.ch) l1 (sem_own' X d m.ch))
  isplitl [Hc] <;> iassumption

/-- Reading a chunk with whatever contents. -/
theorem ldr_sound {Q : PUnit.{1} → sProp 𝕄} (d : Dev nD) (m : MR) {n : ℕ} {l l1 : List It}
    (h1 : pull (.raw m.ch) l = some l1) (k : Reg F → Pr F) (e e' : List (Option VE)) :
    Holds X d ⟨n, l, e⟩ ⊢ iprop((∀ v, Holds X d ⟨n, .raw m.ch :: l1, e'⟩ -∗ wpd d (k v) Q) -∗ wpd d (m.load d k) Q) := by
  unfold Holds
  iintro ⟨Hb, Hg, HO, Hl⟩ Hk
  ihave Hl := pull_sound X h1 $$ Hl
  icases Hl with ⟨Hc, Hl⟩
  ihave Hc := sem_raw X d _ $$ Hc
  icases Hc with ⟨%v, Hc⟩
  iapply (wp_ld (q := fullShare) (v := v) m k) $$ [Hc]
  · iapply BIBase.Entails.of_eq (hold_mr d m _ _).symm; iexact Hc
  iintro Hc
  ihave Hc := BIBase.Entails.of_eq (hold_mr d m _ _) $$ Hc
  iapply Hk
  isplitl [Hb]; · iexact Hb
  isplitl [Hg]; · iexact Hg
  isplitl [HO]; · iexact HO
  iapply (put X (.raw m.ch) l1 (sem_raw' X d m.ch))
  isplitl [Hc]; · iexists v; iexact Hc
  iexact Hl

/-- Reading the base array or the gate. -/
theorem ldb_sound {Q : PUnit.{1} → sProp 𝕄} (d : Dev nD) (o : Of) {n : ℕ} {l : List It} (k : Reg F → Pr F) (e e' : List (Option VE)) :
    Holds X d ⟨n, l, e⟩ ⊢ iprop((Holds X d ⟨n, l, e'⟩ -∗ wpd d (k (bv X d o.h o.g o.j)) Q) -∗ wpd d (ldRow bM d o k) Q) := by
  unfold Holds
  iintro ⟨Hb, Hg, HO, Hl⟩ Hk
  iapply (wp_ldb X o k) $$ [Hb]; · iexact Hb
  iintro Hb
  iapply Hk
  isplitl [Hb]; · iexact Hb
  isplitl [Hg]; · iexact Hg
  isplitl [HO] <;> iassumption

theorem ldg_sound {Q : PUnit.{1} → sProp 𝕄} (d : Dev nD) (h : Fin 2) {n : ℕ} {l : List It} (k : Reg F → Pr F) (e e' : List (Option VE)) :
    Holds X d ⟨n, l, e⟩ ⊢ iprop((Holds X d ⟨n, l, e'⟩ -∗ wpd d (k (gv X d h)) Q)
      -∗ wpd d (.op (.load gM (Rect.unit (s := S2x768) (goff d h) S1x768.size (goff_inb d h)).toLoadRect (View.loadsAt_vmem h_S1x768))
          fun v => k (inG v)) Q) := by
  unfold Holds
  iintro ⟨Hb, Hg, HO, Hl⟩ Hk
  iapply (wp_ldg X h k) $$ [Hg]; · iexact Hg
  iintro Hg
  iapply Hk
  isplitl [Hb]; · iexact Hb
  isplitl [Hg]; · iexact Hg
  isplitl [HO] <;> iassumption

/-- Writing a chunk's final contents. -/
theorem st_sound {Q : PUnit.{1} → sProp 𝕄} (d : Dev nD) (m : MR) {n : ℕ} {l l1 : List It}
    (h1 : pull (.raw m.ch) l = some l1) (k : Pr F) (e : List (Option VE)) (w : Reg F) (hw : w = val X d m.ch) :
    Holds X d ⟨n, l, e⟩ ⊢ iprop((Holds X d ⟨n, parts m.ch ++ l1, e⟩ -∗ wpd d k Q) -∗ wpd d (m.store d w k) Q) := by
  subst hw
  unfold Holds
  iintro ⟨Hb, Hg, HO, Hl⟩ Hk
  ihave Hl := pull_sound X h1 $$ Hl
  icases Hl with ⟨Hc, Hl⟩
  ihave Hc := sem_raw X d _ $$ Hc
  iapply (wp_st m (val X d m.ch) k) $$ [Hc]
  · iapply raw_mr; iexact Hc
  iintro Hc
  ihave Hc := BIBase.Entails.of_eq (hold_mr d m _ _) $$ Hc
  iapply Hk
  isplitl [Hb]; · iexact Hb
  isplitl [Hg]; · iexact Hg
  isplitl [HO]; · iexact HO
  iapply (star_append _ _ _).2
  isplitl [Hc]; · iapply parts_sem; iexact Hc
  iexact Hl

/-- A list of instructions the machine runs from `s` to `s'` takes the device from what it holds in `s` to what it holds in
    `s'`. -/
theorem exec_sound {Q : PUnit.{1} → sProp 𝕄} (d : Dev nD) (z : Reg F) : ∀ (l : List Ins) (s s' : MS) (env : List (Reg F)),
    exec l s = some s' → EnvOk X d env s.env →
    iprop(recs X K ∗ levAts L lv ∗ Holds X d s) ⊢ iprop((Holds X d s' -∗ |={Set.univ}=> Q ⟨⟩) -∗ wpd d (run z d l env) Q)
  | [], s, s', env, h, _ => by
    cases h
    iintro ⟨-, -, H⟩ Hk
    iapply BIBase.Entails.of_eq (wp_ret _ _ _ _ _).symm
    iapply Hk $$ H
  | a :: l, s, s', env, h, henv => by
    unfold exec at h
    split at h
    · cases h
    next s1 hs =>
    have ih := fun env' => exec_sound (Q := Q) d z l s1 s' env' h
    obtain ⟨n, li, e⟩ := s
    cases a with
    | snd i =>
      simp only [step] at hs
      repeat' split at hs
      all_goals first | (cases hs; done) | skip
      next hn _ l0 h0 _ l1 h1 _ l2 h2 _ l3 h3 =>
      cases hs
      iintro ⟨#Hr, #Hv, H⟩ Hk
      iapply (snd_sound X K d i hn h0 h1 h2 h3 (fun _ => run z d l env) e) $$ [H]
      · isplitr; · iexact Hr
        isplitr; · iexact Hv
        iexact H
      iintro H
      iapply (ih env henv) $$ [H] Hk
      isplitr; · iexact Hr
      isplitr; · iexact Hv
      iexact H
    | wsn i =>
      simp only [step] at hs
      repeat' split at hs
      all_goals first | (cases hs; done) | skip
      next _ l1 h1 _ l2 h2 =>
      cases hs
      iintro ⟨#Hr, #Hv, H⟩ Hk
      iapply (wsn_sound X K d i h1 h2 (fun _ => run z d l env) e) $$ [H]
      · isplitr; · iexact Hr
        isplitr; · iexact Hv
        iexact H
      iintro H
      iapply (ih env henv) $$ [H] Hk
      isplitr; · iexact Hr
      isplitr; · iexact Hv
      iexact H
    | wrc i =>
      simp only [step] at hs
      repeat' split at hs
      all_goals first | (cases hs; done) | skip
      next hi _ l1 h1 =>
      cases hs
      iintro ⟨#Hr, #Hv, H⟩ Hk
      iapply (wrc_sound X K d i hi h1 (fun _ => run z d l env) e) $$ [H]
      · isplitr; · iexact Hr
        isplitr; · iexact Hv
        iexact H
      iintro H
      iapply (ih env henv) $$ [H] Hk
      isplitr; · iexact Hr
      isplitr; · iexact Hv
      iexact H
    | ld m =>
      simp only [step] at hs
      split at hs
      · next l1 h1 =>
        cases hs
        iintro ⟨#Hr, #Hv, H⟩ Hk
        iapply (ld_sound X d m h1 (fun v => run z d l (v :: env)) e (some (.v m.ch) :: e)) $$ H
        iintro H
        iapply (ih (val X d m.ch :: env) (.cons (fun x hx => by cases hx; rfl) henv)) $$ [H] Hk
        isplitr; · iexact Hr
        isplitr; · iexact Hv
        iexact H
      · split at hs
        · next l1 h1 =>
          cases hs
          iintro ⟨#Hr, #Hv, H⟩ Hk
          iapply (ldr_sound X d m h1 (fun v => run z d l (v :: env)) e (none :: e)) $$ H
          iintro %v H
          iapply (ih (v :: env) (.cons (fun x hx => by cases hx) henv)) $$ [H] Hk
          isplitr; · iexact Hr
          isplitr; · iexact Hv
          iexact H
        · cases hs
    | ldb o =>
      cases hs
      iintro ⟨#Hr, #Hv, H⟩ Hk
      iapply (ldb_sound X d o (fun v => run z d l (v :: env)) e (some (.b o.h o.g o.j) :: e)) $$ H
      iintro H
      iapply (ih (bv X d o.h o.g o.j :: env) (.cons (fun x hx => by cases hx; rfl) henv)) $$ [H] Hk
      isplitr; · iexact Hr
      isplitr; · iexact Hv
      iexact H
    | ldg q =>
      cases hs
      iintro ⟨#Hr, #Hv, H⟩ Hk
      iapply (ldg_sound X d q (fun v => run z d l (v :: env)) e (some (.g q) :: e)) $$ H
      iintro H
      iapply (ih (gv X d q :: env) (.cons (fun x hx => by cases hx; rfl) henv)) $$ [H] Hk
      isplitr; · iexact Hr
      isplitr; · iexact Hv
      iexact H
    | st m x =>
      simp only [step] at hs
      repeat' split at hs
      all_goals first | (cases hs; done) | skip
      next _ y hy hw _ l1 h1 =>
      cases hs
      iintro ⟨#Hr, #Hv, H⟩ Hk
      iapply (st_sound X d m h1 (run z d l env) e (x.eval z env)
        ((x.sym_eval X henv z y hy).trans (val_wr X d _ _ hw))) $$ H
      iintro H
      iapply (ih env henv) $$ [H] Hk
      isplitr; · iexact Hr
      isplitr; · iexact Hv
      iexact H

end Cert.ResidualProof
-- ==== Proof.Run.lean ====
/- What a device holds after the entry barrier and at the end, and that the instructions take it from the one to the other. -/
module

public import proofs.«01_k».proof.Proof.Machine

@[expose] public section

set_option maxRecDepth 16384

noncomputable section

namespace Cert.ResidualProof

open Cert.KernelIdeal Cert.KernelIdeal.Gen
open Idealize.ShloMosaic

/-! ## Chunks by buffer -/

def chP : List Ch := (List.finRange 2).flatMap fun h => (List.finRange 4).flatMap fun g => (List.finRange 4).map fun j => .p h g j
def chO : List Ch := (List.finRange 2).flatMap fun h => (List.finRange 4).flatMap fun g => (List.finRange 4).map fun j => .o h g j
def chpA : List Ch := (List.finRange 12).map .pA
def chpB : List Ch := (List.finRange 12).map .pB
def chzb : List Ch := (List.finRange 3).flatMap fun a => (List.finRange 2).map fun b => .zb a b
def chsA : List Ch := (List.finRange 8).map .sA
def chsB : List Ch := (List.finRange 8).map .sB
def chzs : List Ch := (List.finRange 3).flatMap fun a => (List.finRange 2).map fun b => .zs a b

/-- The sending semaphores. -/
def sSems : List LS := (List.finRange 16).map fun q => (⟨4 + q.val, by omega⟩ : Fin 81)

/-- The chunks of the result no copy to this device fills. -/
def chMine : List Ch := [.o 0 1 1, .o 1 3 1]

/-- What a device holds after the entry barrier. -/
def start : List It :=
  chP.map .own ++ chsA.map .raw ++ chsB.map .raw ++ chzs.map .raw ++ chMine.map .raw
    ++ (List.finRange 60).map .peer ++ (List.finRange 60).map .tok ++ (List.finRange 60).map .rpos ++ sSems.map fun n => .spos n 0

/-- What a device holds at the end. -/
def fin : List It :=
  chP.map .own ++ chO.flatMap parts ++ chpA.map .own ++ chpB.map .own ++ chzb.map .own
    ++ (chsA.take 4).map .own ++ (chsA.drop 4).map .raw ++ (chsB.take 4).map .own ++ (chsB.drop 4).map .raw ++ chzs.map .own
    ++ (List.finRange 60).map .rdone ++ sSems.map fun n => .spos n (nRounds n)

theorem body_runs : (exec body ⟨0, start, []⟩).any (fun s => s.n == 60 && s.items.isPerm fin) = true := by decide +kernel

end Cert.ResidualProof
-- ==== Proof.Tiles.lean ====
/- A buffer held whole, chunk by chunk. -/
module

public import proofs.«01_k».proof.Proof.Run

@[expose] public section

set_option maxRecDepth 16384

noncomputable section

namespace Cert.ResidualProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Lists and finite families -/

/-- A family over a list without repeats. -/
theorem star_toFinset {ι : Type} [DecidableEq ι] (P : ι → sProp 𝕄) : ∀ l : List ι, l.Nodup → star P l = bigSep l.toFinset P
  | [], _ => by rw [List.toFinset_nil, bigSep_empty]; rfl
  | a :: l, h => by
    obtain ⟨h1, h2⟩ := List.nodup_cons.mp h
    rw [List.toFinset_cons, bigSep_insert (by rw [List.mem_toFinset]; exact h1), ← star_toFinset P l h2]
    rfl

theorem star_univ (n : ℕ) (P : Fin n → sProp 𝕄) : bigSep Finset.univ P = star P (List.finRange n) := by
  rw [star_toFinset P _ (List.nodup_finRange n)]
  congr 1
  ext x
  simp

theorem star_mono {ι : Type} {P R : ι → sProp 𝕄} : ∀ l : List ι, (∀ a ∈ l, P a ⊢ R a) → star P l ⊢ star R l
  | [], _ => .rfl
  | a :: l, h => by
    change iprop(P a ∗ star P l) ⊢ iprop(R a ∗ star R l)
    iintro ⟨H1, H2⟩
    isplitl [H1]; · iapply h a List.mem_cons_self; iexact H1
    iapply star_mono l fun b hb => h b (List.mem_cons_of_mem a hb)
    iexact H2

/-! ## The tilings -/

/-- The chunks of the arrays and of the scratch buffers, numbered. -/
def cP (n : Fin 32) : Ch := .p ⟨n.val / 16, by omega⟩ ⟨n.val / 4 % 4, Nat.mod_lt _ (by decide)⟩ ⟨n.val % 4, Nat.mod_lt _ (by decide)⟩
def cO (n : Fin 32) : Ch := .o ⟨n.val / 16, by omega⟩ ⟨n.val / 4 % 4, Nat.mod_lt _ (by decide)⟩ ⟨n.val % 4, Nat.mod_lt _ (by decide)⟩
def czb (n : Fin 6) : Ch := .zb ⟨n.val / 2, by omega⟩ ⟨n.val % 2, Nat.mod_lt _ (by decide)⟩
def czs (n : Fin 6) : Ch := .zs ⟨n.val / 2, by omega⟩ ⟨n.val % 2, Nat.mod_lt _ (by decide)⟩

theorem chP_eq : chP = (List.finRange 32).map cP := by decide +kernel
theorem chO_eq : chO = (List.finRange 32).map cO := by decide +kernel
theorem chzb_eq : chzb = (List.finRange 6).map czb := by decide +kernel
theorem chzs_eq : chzs = (List.finRange 6).map czs := by decide +kernel

/-- Which block of 32 rows the array's chunk `n` is, on device `d`. -/
def sg (d : Dev nD) (n : Fin 32) : Fin 32 :=
  ⟨blk d ⟨n.val / 16, by omega⟩ ⟨n.val / 4 % 4, Nat.mod_lt _ (by decide)⟩ ⟨n.val % 4, Nat.mod_lt _ (by decide)⟩, blk_lt _ _ _ _⟩

theorem sg_inj (d : Dev nD) : Function.Injective (sg d) := by revert d; unfold Function.Injective; decide +kernel
theorem sg_surj (d : Dev nD) : Function.Surjective (sg d) := Finite.injective_iff_surjective.mp (sg_inj d)

/-- The rows of block `k`, and those of the chunks. -/
def rowSet (k : Fin 32) : Finset (S1024x768.Idx) := (rRow (rowOff k.val) (row_inb k.val k.isLt)).set

theorem rowSet_disj (k k' : Fin 32) (h : k ≠ k') : Disjoint (rowSet k) (rowSet k') :=
  Ring.lead_disjoint (s := S1024x768) 0 32 (fun k : Fin 32 => rowOff k.val) S32x768.size (fun k => row_inb k.val k.isLt)
    (fun _ => rfl) rfl k k' h

theorem rowSet_cover : Finset.univ.biUnion rowSet = Finset.univ :=
  Ring.lead_cover (s := S1024x768) 0 32 (fun k : Fin 32 => rowOff k.val) S32x768.size (fun k => row_inb k.val k.isLt)
    (fun _ => rfl) (fun b a h => by fin_cases a; exact absurd rfl h; rfl) rfl (fun a h => by fin_cases a; exact absurd rfl h; rfl) rfl

theorem sgSet_disj (d : Dev nD) (n n' : Fin 32) (h : n ≠ n') : Disjoint (rowSet (sg d n)) (rowSet (sg d n')) :=
  rowSet_disj _ _ fun e => h (sg_inj d e)
theorem sgSet_cover (d : Dev nD) : Finset.univ.biUnion (fun n => rowSet (sg d n)) = Finset.univ := by
  rw [← rowSet_cover]
  ext x
  simp only [Finset.mem_biUnion, Finset.mem_univ, true_and]
  constructor
  · rintro ⟨n, h⟩; exact ⟨_, h⟩
  · rintro ⟨k, h⟩; obtain ⟨n, rfl⟩ := sg_surj d k; exact ⟨n, h⟩

theorem s12_disj (n n' : Fin 12) (h : n ≠ n') : Disjoint (r12 n).set (r12 n').set :=
  Ring.lead_disjoint (s := S12x32x768) 0 1 (fun k : Fin 12 => ![k.val, 0, 0]) S1x32x768.size inb12 (fun b => (Nat.one_mul _).symm) rfl n n' h
theorem s12_cover : Finset.univ.biUnion (fun n => (r12 n).set) = Finset.univ :=
  Ring.lead_cover (s := S12x32x768) 0 1 (fun k : Fin 12 => ![k.val, 0, 0]) S1x32x768.size inb12 (fun b => (Nat.one_mul _).symm)
    (fun b a h => by fin_cases a; exact absurd rfl h; rfl; rfl) rfl (fun a h => by fin_cases a; exact absurd rfl h; rfl; rfl) rfl
theorem s8_disj (n n' : Fin 8) (h : n ≠ n') : Disjoint (r8 n).set (r8 n').set :=
  Ring.lead_disjoint (s := S8x32x768) 0 1 (fun k : Fin 8 => ![k.val, 0, 0]) S1x32x768.size inb8 (fun b => (Nat.one_mul _).symm) rfl n n' h
theorem s8_cover : Finset.univ.biUnion (fun n => (r8 n).set) = Finset.univ :=
  Ring.lead_cover (s := S8x32x768) 0 1 (fun k : Fin 8 => ![k.val, 0, 0]) S1x32x768.size inb8 (fun b => (Nat.one_mul _).symm)
    (fun b a h => by fin_cases a; exact absurd rfl h; rfl; rfl) rfl (fun a h => by fin_cases a; exact absurd rfl h; rfl; rfl) rfl

def r6 (n : Fin 6) : Rect S3x2x32x768 := r32 ⟨n.val / 2, by omega⟩ ⟨n.val % 2, Nat.mod_lt _ (by decide)⟩

theorem mem_r6 (n : Fin 6) (i : S3x2x32x768.Idx) : i ∈ (r6 n).set ↔ (i 0).val = n.val / 2 ∧ (i 1).val = n.val % 2 := by
  unfold r6
  rw [Rect.mem_set_unit]
  constructor
  · intro h
    have h0 := h 0; have h1 := h 1
    change n.val / 2 ≤ _ ∧ _ < n.val / 2 + 1 at h0
    change n.val % 2 ≤ _ ∧ _ < n.val % 2 + 1 at h1
    omega
  · rintro ⟨h0, h1⟩ a
    have h2 := (i 2).isLt; have h3 := (i 3).isLt
    fin_cases a
    · change n.val / 2 ≤ _ ∧ _ < n.val / 2 + 1; exact ⟨h0.ge, Nat.lt_succ_of_le h0.le⟩
    · change n.val % 2 ≤ _ ∧ _ < n.val % 2 + 1; exact ⟨h1.ge, Nat.lt_succ_of_le h1.le⟩
    · change 0 ≤ _ ∧ _ < 0 + 32; exact ⟨Nat.zero_le _, by rw [Nat.zero_add]; exact h2⟩
    · change 0 ≤ _ ∧ _ < 0 + 768; exact ⟨Nat.zero_le _, by rw [Nat.zero_add]; exact h3⟩

theorem s6_disj (n n' : Fin 6) (h : n ≠ n') : Disjoint (r6 n).set (r6 n').set := by
  rw [Finset.disjoint_left]
  intro i h1 h2
  rw [mem_r6] at h1 h2
  exact h (Fin.ext (by omega))
theorem s6_cover : Finset.univ.biUnion (fun n => (r6 n).set) = Finset.univ := by
  ext i
  simp only [Finset.mem_biUnion, Finset.mem_univ, true_and, iff_true]
  have h0 : (i 0).val < 3 := (i 0).isLt
  have h1 : (i 1).val < 2 := (i 1).isLt
  exact ⟨⟨2 * (i 0).val + (i 1).val, by omega⟩, (mem_r6 _ _).mpr ⟨by change _ = (2 * (i 0).val + (i 1).val) / 2; omega, by change _ = (2 * (i 0).val + (i 1).val) % 2; omega⟩⟩

/-- A family of sets of a buffer's elements is a tiling. -/
abbrev Tiles (ℓ : Loc nD τ sig) {n : ℕ} (J : Fin n → Finset (Idx ℓ)) : Prop :=
  (∀ a b, a ≠ b → Disjoint (J a) (J b)) ∧ Finset.univ.biUnion J = Finset.univ

theorem Tiles.of {ℓ : Loc nD τ sig} {n : ℕ} {J J' : Fin n → Finset (Idx ℓ)} (h : ∀ k, J k = J' k)
    (hd : ∀ a b, a ≠ b → Disjoint (J' a) (J' b)) (hc : Finset.univ.biUnion J' = Finset.univ) : Tiles ℓ J := by
  obtain rfl : J = J' := funext h
  exact ⟨hd, hc⟩

variable [C : Call]

/-- The elements of the chunks of a buffer tile it. -/
theorem p_tiles (d : Dev nD) : Tiles (pM.view.loc (d : Thread nD τ)) fun n => ((cP n).mem d).view.set := by
  obtain ⟨k⟩ := C
  cases k <;> exact Tiles.of (fun _ => View.set_slice_whole _ _) (sgSet_disj d) (sgSet_cover d)
theorem o_tiles (d : Dev nD) : Tiles (oM.view.loc (d : Thread nD τ)) fun n => ((cO n).mem d).view.set := by
  obtain ⟨k⟩ := C
  cases k <;> exact Tiles.of (fun _ => View.set_slice_whole _ _) (sgSet_disj d) (sgSet_cover d)
theorem pA_tiles (d : Dev nD) : Tiles (pAM.view.loc (d : Thread nD τ)) fun n => ((Ch.pA n).mem d).view.set := by
  obtain ⟨k⟩ := C
  cases k <;> exact Tiles.of (fun _ => (View.set_reshape _ _).trans (View.set_slice_whole _ _)) s12_disj s12_cover
theorem pB_tiles (d : Dev nD) : Tiles (pBM.view.loc (d : Thread nD τ)) fun n => ((Ch.pB n).mem d).view.set := by
  obtain ⟨k⟩ := C
  cases k <;> exact Tiles.of (fun _ => (View.set_reshape _ _).trans (View.set_slice_whole _ _)) s12_disj s12_cover
theorem sA_tiles (d : Dev nD) : Tiles (sAM.view.loc (d : Thread nD τ)) fun n => ((Ch.sA n).mem d).view.set := by
  obtain ⟨k⟩ := C
  cases k <;> exact Tiles.of (fun _ => (View.set_reshape _ _).trans (View.set_slice_whole _ _)) s8_disj s8_cover
theorem sB_tiles (d : Dev nD) : Tiles (sBM.view.loc (d : Thread nD τ)) fun n => ((Ch.sB n).mem d).view.set := by
  obtain ⟨k⟩ := C
  cases k <;> exact Tiles.of (fun _ => (View.set_reshape _ _).trans (View.set_slice_whole _ _)) s8_disj s8_cover
theorem zb_tiles (d : Dev nD) : Tiles (zbM.view.loc (d : Thread nD τ)) fun n => ((czb n).mem d).view.set := by
  obtain ⟨k⟩ := C
  cases k <;> exact Tiles.of (fun _ => (View.set_reshape _ _).trans (View.set_slice_whole _ _)) s6_disj s6_cover
theorem zs_tiles (d : Dev nD) : Tiles (zsM.view.loc (d : Thread nD τ)) fun n => ((czs n).mem d).view.set := by
  obtain ⟨k⟩ := C
  cases k <;> exact Tiles.of (fun _ => (View.set_reshape _ _).trans (View.set_slice_whole _ _)) s6_disj s6_cover

/-! ## Whole and in chunks -/

theorem raw_of (d : Dev nD) (M : CM) (f : Buf (Elt F) (M.view.loc (d : Thread nD τ))) :
    ((M.view.loc (d : Thread nD τ)) ↦[M.view.set]{fullShare} f : sProp 𝕄) ⊢ raw d M := by
  rw [hold_of]; exact hold_raw d M _

theorem raw_to (d : Dev nD) (M : CM) :
    (raw d M : sProp 𝕄) ⊢ iprop(∃ f : Buf (Elt F) (M.view.loc (d : Thread nD τ)), (M.view.loc (d : Thread nD τ)) ↦[M.view.set]{fullShare} f) := by
  unfold raw hold
  iintro ⟨%v, H⟩; iexists _; iexact H

/-- A buffer with whatever contents is its chunks with whatever contents. -/
theorem split_raw {n : ℕ} {ℓ : Loc nD τ sig} {J : Fin n → Finset (Idx ℓ)} (ht : Tiles ℓ J) (R : Fin n → sProp 𝕄)
    (h : ∀ b (f : Buf (Elt F) ℓ), (ℓ ↦[J b]{fullShare} f : sProp 𝕄) ⊢ R b) :
    iprop(∃ f : Buf (Elt F) ℓ, ℓ ↦{fullShare} f) ⊢ star R (List.finRange n) := by
  rw [← star_univ]
  have h1 : ∀ f : Buf (Elt F) ℓ, (ℓ ↦{fullShare} f : sProp 𝕄) ⊢ bigSep Finset.univ R := fun f => by
    rw [Ring.pointsTo_blocks J ht.1 ht.2 f]
    exact bigSep_mono fun b _ => h b f
  iintro ⟨%f, H⟩
  iapply h1 f
  iexact H

theorem join_raw {n : ℕ} {ℓ : Loc nD τ sig} {J : Fin n → Finset (Idx ℓ)} (ht : Tiles ℓ J) (f₀ : Buf (Elt F) ℓ) (R : Fin n → sProp 𝕄)
    (h : ∀ b, R b ⊢ iprop(∃ f : Buf (Elt F) ℓ, ℓ ↦[J b]{fullShare} f)) :
    star R (List.finRange n) ⊢ iprop(∃ f : Buf (Elt F) ℓ, ℓ ↦{fullShare} f) := by
  rw [← star_univ]
  exact (bigSep_mono fun b _ => h b).trans (Ring.pointsTo_blocks_join_exists J ht.1 ht.2 f₀)

/-- Every chunk of a list, with whatever contents. -/
abbrev raws (d : Dev nD) (l : List Ch) : sProp 𝕄 := star (fun c => raw d (c.mem d)) l

/-- A buffer held whole with whatever contents. -/
abbrev some_ {s : Shape} (d : Dev nD) (M : Memref sig .tc .vmem s .f32) : sProp 𝕄 :=
  iprop(∃ f : Buf (Elt F) (M.view.loc (d : Thread nD τ)), (M.view.loc (d : Thread nD τ)) ↦{fullShare} f)

theorem pA_split (d : Dev nD) : some_ (F := F) d pAM ⊢ raws d chpA := by
  unfold raws; unfold chpA; rw [star_map]
  exact split_raw (pA_tiles d) _ fun b f => raw_of d ((Ch.pA b).mem d) f
theorem pA_join (d : Dev nD) (f₀ : Buf (Elt F) (pAM.view.loc (d : Thread nD τ))) : raws d chpA ⊢ some_ (F := F) d pAM := by
  unfold raws; unfold chpA; rw [star_map]
  exact join_raw (pA_tiles d) f₀ _ fun b => raw_to d ((Ch.pA b).mem d)
theorem pB_split (d : Dev nD) : some_ (F := F) d pBM ⊢ raws d chpB := by
  unfold raws; unfold chpB; rw [star_map]
  exact split_raw (pB_tiles d) _ fun b f => raw_of d ((Ch.pB b).mem d) f
theorem pB_join (d : Dev nD) (f₀ : Buf (Elt F) (pBM.view.loc (d : Thread nD τ))) : raws d chpB ⊢ some_ (F := F) d pBM := by
  unfold raws; unfold chpB; rw [star_map]
  exact join_raw (pB_tiles d) f₀ _ fun b => raw_to d ((Ch.pB b).mem d)
theorem zb_split (d : Dev nD) : some_ (F := F) d zbM ⊢ raws d chzb := by
  unfold raws; rw [chzb_eq]; rw [star_map]
  exact split_raw (zb_tiles d) _ fun b f => raw_of d ((czb b).mem d) f
theorem zb_join (d : Dev nD) (f₀ : Buf (Elt F) (zbM.view.loc (d : Thread nD τ))) : raws d chzb ⊢ some_ (F := F) d zbM := by
  unfold raws; rw [chzb_eq]; rw [star_map]
  exact join_raw (zb_tiles d) f₀ _ fun b => raw_to d ((czb b).mem d)
theorem sA_split (d : Dev nD) : some_ (F := F) d sAM ⊢ raws d chsA := by
  unfold raws; unfold chsA; rw [star_map]
  exact split_raw (sA_tiles d) _ fun b f => raw_of d ((Ch.sA b).mem d) f
theorem sA_join (d : Dev nD) (f₀ : Buf (Elt F) (sAM.view.loc (d : Thread nD τ))) : raws d chsA ⊢ some_ (F := F) d sAM := by
  unfold raws; unfold chsA; rw [star_map]
  exact join_raw (sA_tiles d) f₀ _ fun b => raw_to d ((Ch.sA b).mem d)
theorem sB_split (d : Dev nD) : some_ (F := F) d sBM ⊢ raws d chsB := by
  unfold raws; unfold chsB; rw [star_map]
  exact split_raw (sB_tiles d) _ fun b f => raw_of d ((Ch.sB b).mem d) f
theorem sB_join (d : Dev nD) (f₀ : Buf (Elt F) (sBM.view.loc (d : Thread nD τ))) : raws d chsB ⊢ some_ (F := F) d sBM := by
  unfold raws; unfold chsB; rw [star_map]
  exact join_raw (sB_tiles d) f₀ _ fun b => raw_to d ((Ch.sB b).mem d)
theorem zs_split (d : Dev nD) : some_ (F := F) d zsM ⊢ raws d chzs := by
  unfold raws; rw [chzs_eq]; rw [star_map]
  exact split_raw (zs_tiles d) _ fun b f => raw_of d ((czs b).mem d) f
theorem zs_join (d : Dev nD) (f₀ : Buf (Elt F) (zsM.view.loc (d : Thread nD τ))) : raws d chzs ⊢ some_ (F := F) d zsM := by
  unfold raws; rw [chzs_eq]; rw [star_map]
  exact join_raw (zs_tiles d) f₀ _ fun b => raw_to d ((czs b).mem d)
theorem o_split (d : Dev nD) : some_ (F := F) d oM ⊢ raws d chO := by
  unfold raws; rw [chO_eq, star_map]
  exact split_raw (o_tiles d) _ fun b f => raw_of d ((cO b).mem d) f

/-- The partial sums held whole are their chunks. -/
theorem p_split (X : Inp F) (d : Dev nD) :
    ((pM.view.loc (d : Thread nD τ)) ↦{fullShare} pM.view.rep (X.p d) : sProp 𝕄) = star (fun c => hold d (c.mem d) fullShare (val X d c)) chP := by
  rw [chP_eq, star_map, ← star_univ]
  refine (Ring.pointsTo_blocks (ℓ := pM.view.loc (d : Thread nD τ)) (fun n => ((cP n).mem d).view.set) (p_tiles d).1 (p_tiles d).2 (pM.view.rep (X.p d))).trans ?_
  refine bigSep_congr fun n _ => ?_
  refine (hold_of d ((cP n).mem d) fullShare (pM.view.rep (X.p d))).trans ?_
  exact congrArg (hold d ((cP n).mem d) fullShare) (read_part pM (cRow d _ _ _) (X.p d))

/-- The devices that compute the two halves' blocks: that of block `k`. -/
def ownA (k : Nat) : Dev nD := dv 0 (q4 (k % 4 + 3)) (q4 (k / 8 + 3))
def ownB (k : Nat) : Dev nD := dv 0 (q4 (k % 4 + 3)) (q4 (k / 8 + 1))

/-- Block `k` of the result. -/
def outBlk (X : Inp F) (k : Nat) : Reg F := if k / 4 % 2 = 0 then ra X (ownA k) else rb X (ownB k)

theorem outBlk_sg (X : Inp F) (d : Dev nD) (n : Fin 32) : outBlk X (sg d n).val = val X d (cO n) := by
  have key : ∀ (d : Dev nD) (n : Fin 32), (((sg d n).val / 4 % 2 = 0) ↔ ((⟨n.val / 16, by omega⟩ : Fin 2) = 0))
      ∧ ownA (sg d n).val = dv d (⟨n.val % 4, Nat.mod_lt _ (by decide)⟩ + 3) (⟨n.val / 4 % 4, Nat.mod_lt _ (by decide)⟩ + 3)
      ∧ ownB (sg d n).val = dv d (⟨n.val % 4, Nat.mod_lt _ (by decide)⟩ + 3) (⟨n.val / 4 % 4, Nat.mod_lt _ (by decide)⟩ + 1) := by
    decide +kernel
  obtain ⟨h1, h2, h3⟩ := key d n
  unfold outBlk cO
  rw [val_o_eq, h2, h3]
  exact if_congr h1 rfl rfl

/-- The place in its block of an element of the result. -/
def inBlk (i : S1024x768.Idx) : S32x768.Idx := fun a => match a with
  | ⟨0, _⟩ => ⟨(i 0).val % 32, Nat.mod_lt _ (by decide)⟩
  | ⟨1, _⟩ => i 1

/-- The result: each block of rows is its owner's. -/
def outAt (X : Inp F) : Vec F S1024x768 .f32 := fun i => outBlk X ((i 0).val / 32) (inBlk i)

theorem row_emb (k : Nat) (hk : k < 32) (i : S32x768.Idx) :
    (((rRow (rowOff k) (row_inb k hk)).emb i) 0).val / 32 = k ∧ inBlk ((rRow (rowOff k) (row_inb k hk)).emb i) = i := by
  have e0 : (((rRow (rowOff k) (row_inb k hk)).emb i) 0).val = 32 * k + (i 0).val := by
    rw [Rect.emb_apply]
    change 32 * k + 1 * (i 0).val = _
    rw [Nat.one_mul]
  have h0 : (i 0).val < 32 := (i 0).isLt
  refine ⟨by omega, funext fun a => Fin.ext ?_⟩
  fin_cases a
  · change (((rRow (rowOff k) (row_inb k hk)).emb i) 0).val % 32 = (i 0).val
    omega
  · change (((rRow (rowOff k) (row_inb k hk)).emb i) 1).val = (i 1).val
    rw [Rect.emb_apply]
    change 0 + 1 * (i 1).val = _
    omega

theorem outAt_read (X : Inp F) (d : Dev nD) (n : Fin 32) : ((cO n).mem d).view.read (Elt F) (oM.view.rep (outAt X)) = val X d (cO n) := by
  rw [← outBlk_sg]
  refine (read_part oM (cRow d _ _ _) (outAt X)).trans ?_
  funext i
  change outBlk X ((((rRow (rowOff (sg d n).val) (row_inb _ (sg d n).isLt)).emb i) 0).val / 32)
    (inBlk ((rRow (rowOff (sg d n).val) (row_inb _ (sg d n).isLt)).emb i)) = _
  rw [(row_emb _ (sg d n).isLt i).1, (row_emb _ (sg d n).isLt i).2]

theorem o_whole (X : Inp F) (d : Dev nD) :
    star (fun c => hold d (c.mem d) fullShare (val X d c)) chO = ((oM.view.loc (d : Thread nD τ)) ↦{fullShare} oM.view.rep (outAt X) : sProp 𝕄) := by
  rw [chO_eq, star_map, ← star_univ]
  refine Eq.trans ?_ (Ring.pointsTo_blocks (ℓ := oM.view.loc (d : Thread nD τ)) (fun n => ((cO n).mem d).view.set) (o_tiles d).1 (o_tiles d).2 (oM.view.rep (outAt X))).symm
  refine bigSep_congr fun n _ => ?_
  rw [← outAt_read]
  exact (hold_of d ((cO n).mem d) fullShare (oM.view.rep (outAt X))).symm

end Cert.ResidualProof
-- ==== Proof.Entry.lean ====
/- What a device starts from and ends with, as items and as whole buffers and semaphores. -/
module

public import proofs.«01_k».proof.Proof.Tiles

@[expose] public section

set_option maxRecDepth 16384

noncomputable section

namespace Cert.ResidualProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable [C : Call]

/-! ## Families over lists -/

theorem star_with {ι : Type} {R : sProp 𝕄} [BI.Persistent R] {P S : ι → sProp 𝕄} :
    ∀ l : List ι, (∀ a ∈ l, iprop(R ∗ P a) ⊢ S a) → iprop(R ∗ star P l) ⊢ star S l
  | [], _ => by
    change iprop(R ∗ emp) ⊢ (emp : sProp 𝕄)
    iintro ⟨-, H⟩; iexact H
  | a :: l, h => by
    have h1 := h a List.mem_cons_self
    have ih := star_with l fun b hb => h b (List.mem_cons_of_mem _ hb)
    change iprop(R ∗ (P a ∗ star P l)) ⊢ iprop(S a ∗ star S l)
    iintro ⟨#HR, Ha, Hl⟩
    isplitl [Ha]
    · iapply h1
      isplitr; · iexact HR
      iexact Ha
    · iapply ih
      isplitr; · iexact HR
      iexact Hl

theorem star_sep {ι : Type} {P R : ι → sProp 𝕄} : ∀ l : List ι, iprop(star P l ∗ star R l) ⊢ star (fun a => iprop(P a ∗ R a)) l
  | [] => by
    change iprop(emp ∗ emp) ⊢ (emp : sProp 𝕄)
    iintro ⟨-, H⟩; iexact H
  | a :: l => by
    have ih := star_sep (P := P) (R := R) l
    change iprop((P a ∗ star P l) ∗ (R a ∗ star R l)) ⊢ iprop((P a ∗ R a) ∗ star (fun a => iprop(P a ∗ R a)) l)
    iintro ⟨⟨H1, H2⟩, H3, H4⟩
    isplitl [H1 H3]
    · isplitl [H1] <;> iassumption
    · iapply ih
      isplitl [H2] <;> iassumption

theorem star_fupd {ι : Type} {P : ι → sProp 𝕄} : ∀ l : List ι, star (fun a => iprop(|={Set.univ}=> P a)) l ⊢ |={Set.univ}=> star P l
  | [] => by
    change (emp : sProp 𝕄) ⊢ |={Set.univ}=> (emp : sProp 𝕄)
    iintro H; imodintro; iexact H
  | a :: l => by
    have ih := star_fupd (P := P) l
    change iprop((|={Set.univ}=> P a) ∗ star (fun a => iprop(|={Set.univ}=> P a)) l) ⊢ |={Set.univ}=> iprop(P a ∗ star P l)
    iintro ⟨H1, H2⟩
    imod (ih) $$ H2 with H2
    imod H1
    imodintro
    isplitl [H1] <;> iassumption

theorem star_flatMap {ι κ : Type} {P : ι → sProp 𝕄} (f : κ → List ι) : ∀ l : List κ, star P (l.flatMap f) ⊢ star (fun a => star P (f a)) l
  | [] => .rfl
  | a :: l => by
    have ih := star_flatMap (P := P) f l
    rw [List.flatMap_cons]
    refine (star_append P _ _).1.trans ?_
    change _ ⊢ iprop(star P (f a) ∗ star (fun a => star P (f a)) l)
    iintro ⟨H1, H2⟩
    isplitl [H1]; · iexact H1
    iapply ih; iexact H2

/-! ## The exchange's cells, by role -/

/-- The exchange's cells but the barrier's and the one no copy uses: the sending ones, then the receiving ones. -/
theorem cells_perm : (List.finRange 78).Perm (77 :: 16 :: (sSems.map kix ++ (List.finRange 60).map fun i => kix (rs i))) :=
  List.isPerm_iff.mp (by decide +kernel)

theorem cells_split (P : Fin 78 → sProp 𝕄) :
    bigSep Finset.univ P ⊢ iprop(P 77 ∗ P 16 ∗ star (fun n => P (kix n)) sSems ∗ star (fun i => P (kix (rs i))) (List.finRange 60)) := by
  rw [star_univ]
  refine (star_perm P cells_perm).trans ?_
  have h := (star_append P (sSems.map kix) ((List.finRange 60).map fun i => kix (rs i))).1
  rw [star_map, star_map] at h
  change iprop(P 77 ∗ P 16 ∗ star P (sSems.map kix ++ (List.finRange 60).map fun i => kix (rs i))) ⊢ _
  iintro ⟨H1, H2, H⟩
  isplitl [H1]; · iexact H1
  isplitl [H2]; · iexact H2
  iapply h; iexact H

theorem cells_join (P : Fin 78 → sProp 𝕄) :
    iprop(P 77 ∗ P 16 ∗ star (fun n => P (kix n)) sSems ∗ star (fun i => P (kix (rs i))) (List.finRange 60)) ⊢ bigSep Finset.univ P := by
  rw [star_univ]
  refine BIBase.Entails.trans ?_ (star_perm P cells_perm.symm)
  have h := (star_append P (sSems.map kix) ((List.finRange 60).map fun i => kix (rs i))).2
  rw [star_map, star_map] at h
  change _ ⊢ iprop(P 77 ∗ P 16 ∗ star P (sSems.map kix ++ (List.finRange 60).map fun i => kix (rs i)))
  iintro ⟨H1, H2, H⟩
  isplitl [H1]; · iexact H1
  isplitl [H2]; · iexact H2
  iapply h; iexact H

theorem kcell_kix (d : Dev nD) (n : LS) (h : 4 ≤ n.val) : kcell (d, kix n) = dmaCell d n := congrArg (Prod.mk _) (csem_kix n h)
theorem kcell_bar (d : Dev nD) : kcell (d, 77) = barCell d := rfl
theorem sSems_ge (n : LS) (h : n ∈ sSems) : 4 ≤ n.val ∧ rcvOf n = none := by revert n; decide +kernel
/-- The transfer semaphore no copy uses. -/
def idle : LS := 20
theorem kcell_idle (d : Dev nD) : kcell (d, 16) = dmaCell d idle := rfl

variable (X : Inp F) (K : Dev nD × Fin 78 → ℕ)

theorem recs_bar (d : Dev nD) : recs X K ⊢ iprop(cellInv ER (Rd X) (K (d, 77)) (barCell d) ∗ reached ER (barCell d) 0) := by
  have h1 := recs_at X K (d, 77)
  have h2 := recs_open X K d
  iintro #H
  isplitr
  · iapply h1; iexact H
  · iapply h2; iexact H

/-! ## The start -/

theorem sem_rpos' (d : Dev nD) (i : Fin 60) :
    iprop(atPos ER (dmaCell d (rs i)) 0 ∅ 0 ∗ cred (tallyAt (dmaCell d (rs i)) () N)) ⊢ It.sem X d (.rpos i) := .rfl
theorem sem_tok' (d : Dev nD) (i : Fin 60) :
    iprop(dutyTok ER (dmaCell d (ss i)) (rnd i) 0 ∗ dutyTok ER (dmaCell (rcr i d) (rs i)) 0 0) ⊢ It.sem X d (.tok i) := .rfl
theorem sem_peer' (d : Dev nD) (i : Fin 60) :
    iprop(raw (nb (msg i).link d) ((rch i).mem (nb (msg i).link d)) ∗ reached ER (dmaCell (nb (msg i).link d) (rs i)) 0)
      ⊢ It.sem X d (.peer i) := .rfl

/-- The places a device starts from, its cells all opened. -/
def places (d : Dev nD) : sProp 𝕄 :=
  bigSep Finset.univ fun k : Fin 78 => iprop(atPos ER (kcell (d, k)) 0 ∅ 0 ∗ reached ER (kcell (d, k)) 0)
/-- The device's receiving semaphores are open. -/
def rcvOpen (d : Dev nD) : sProp 𝕄 := bigSep Finset.univ fun i : Fin 60 => reached ER (dmaCell d (rs i)) 0
instance rcvOpen_persistent (d : Dev nD) : BI.Persistent (rcvOpen (F := F) d) := by unfold rcvOpen; infer_instance
/-- Its credits. -/
def dues (d : Dev nD) : sProp 𝕄 :=
  iprop(cred (tallyAt (barCell d) () 4) ∗ star (fun i => cred (tallyAt (dmaCell d (rs i)) () N)) (List.finRange 60))
/-- The rights it spends: one signal to each neighbour, and the copies. -/
def rights (d : Dev nD) : sProp 𝕄 :=
  iprop((dutyTok ER (barCell (nb 1 d)) 0 (opp 1) ∗ dutyTok ER (barCell (nb 0 d)) 0 (opp 0) ∗ dutyTok ER (barCell (nb 2 d)) 0 (opp 2)
      ∗ dutyTok ER (barCell (nb 3 d)) 0 (opp 3))
    ∗ star (fun i => iprop(dutyTok ER (dmaCell d (ss i)) (rnd i) 0 ∗ dutyTok ER (dmaCell (rcr i d) (rs i)) 0 0)) (List.finRange 60))

theorem spos_start (d : Dev nD) :
    star (fun n => (iprop(atPos ER (kcell (d, kix n)) 0 ∅ 0 ∗ reached ER (kcell (d, kix n)) 0) : sProp 𝕄)) sSems
      ⊢ star (It.sem X d) (sSems.map fun n => .spos n 0) := by
  rw [star_map]
  refine star_mono _ fun n hn => ?_
  rw [kcell_kix d n (sSems_ge n hn).1]
  exact sem_spos' X d n 0

theorem star_unsep {ι : Type} {P R : ι → sProp 𝕄} : ∀ l : List ι, star (fun a => iprop(P a ∗ R a)) l ⊢ iprop(star P l ∗ star R l)
  | [] => by
    change (emp : sProp 𝕄) ⊢ iprop(emp ∗ emp)
    iintro H
    isplitl [H]; · iexact H
    iempintro
  | a :: l => by
    have ih := star_unsep (P := P) (R := R) l
    change iprop((P a ∗ R a) ∗ star (fun a => iprop(P a ∗ R a)) l) ⊢ iprop((P a ∗ star P l) ∗ (R a ∗ star R l))
    iintro ⟨⟨H1, H2⟩, H⟩
    ihave H := ih $$ H
    icases H with ⟨H3, H4⟩
    isplitl [H1 H3]
    · isplitl [H1] <;> iassumption
    · isplitl [H2] <;> iassumption

theorem rcv_open (d : Dev nD) :
    star (fun i => (iprop(atPos ER (kcell (d, kix (rs i))) 0 ∅ 0 ∗ reached ER (kcell (d, kix (rs i))) 0) : sProp 𝕄)) (List.finRange 60)
      ⊢ iprop(star (fun i => (atPos ER (kcell (d, kix (rs i))) 0 ∅ 0 : sProp 𝕄)) (List.finRange 60) ∗ rcvOpen d) := by
  have e : rcvOpen (F := F) d = star (fun i => (reached ER (kcell (d, kix (rs i))) 0 : sProp 𝕄)) (List.finRange 60) := by
    unfold rcvOpen
    rw [star_univ]
    exact congrArg (fun P => star P (List.finRange 60)) (funext fun i => by rw [kcell_kix d (rs i) (rs_ge i)])
  rw [e]
  exact star_unsep _

theorem rpos_start (d : Dev nD) :
    iprop(star (fun i => (atPos ER (kcell (d, kix (rs i))) 0 ∅ 0 : sProp 𝕄)) (List.finRange 60)
        ∗ star (fun i => cred (tallyAt (dmaCell d (rs i)) () N)) (List.finRange 60))
      ⊢ star (It.sem X d) ((List.finRange 60).map .rpos) := by
  rw [star_map]
  refine (star_sep _).trans (star_mono _ fun i _ => ?_)
  rw [kcell_kix d (rs i) (rs_ge i)]
  exact sem_rpos' X d i

theorem toks_start (d : Dev nD) :
    star (fun i => (iprop(dutyTok ER (dmaCell d (ss i)) (rnd i) 0 ∗ dutyTok ER (dmaCell (rcr i d) (rs i)) 0 0) : sProp 𝕄)) (List.finRange 60)
      ⊢ star (It.sem X d) ((List.finRange 60).map .tok) := by
  rw [star_map]; exact star_mono _ fun i _ => sem_tok' X d i

theorem raws_items (d : Dev nD) (l : List Ch) : raws d l ⊢ star (It.sem X d) (l.map .raw) := by
  rw [star_map]; unfold raws; exact star_mono _ fun c _ => sem_raw' X d c
theorem own_items (d : Dev nD) (l : List Ch) : star (fun c => hold d (c.mem d) fullShare (val X d c)) l ⊢ star (It.sem X d) (l.map .own) := by
  rw [star_map]; exact star_mono _ fun c _ => sem_own' X d c

/-! ## The chunks lent over the entry barrier -/

/-- A device's own chunks that the copies of its neighbour over link `opp l` will fill. -/
def gift (d : Dev nD) (l : Fin 4) : sProp 𝕄 :=
  star (fun i => iprop(raw d ((rch i).mem d) ∗ reached ER (dmaCell d (rs i)) 0)) (onLink (opp l))
/-- The chunks alone. -/
def gift' (d : Dev nD) (l : Fin 4) : sProp 𝕄 := star (fun i => raw d ((rch i).mem d)) (onLink (opp l))

theorem gift_of (d : Dev nD) (l : Fin 4) : iprop(rcvOpen d ∗ gift' d l) ⊢ gift (F := F) d l := by
  unfold gift gift'
  refine star_with _ fun i _ => ?_
  have h : rcvOpen (F := F) d ⊢ reached ER (dmaCell d (rs i)) 0 := by unfold rcvOpen; exact bigSep_elim (Finset.mem_univ i)
  iintro ⟨#H, Hr⟩
  isplitl [Hr]; · iexact Hr
  iapply h; iexact H

theorem gift_pay (d : Dev nD) (l : Fin 4) : gift d l ⊢ barPay (F := F) (nb l d) (opp l) := by
  unfold gift barPay; rw [nb_opp]

theorem lend_perm : (chpA ++ (chpB ++ (chzb ++ chO))).Perm
    (chMine ++ ((onLink (opp 1)).map rch ++ ((onLink (opp 0)).map rch ++ ((onLink (opp 2)).map rch ++ (onLink (opp 3)).map rch)))) :=
  List.isPerm_iff.mp (by decide +kernel)

theorem lend (d : Dev nD) :
    iprop(raws (F := F) d chpA ∗ raws d chpB ∗ raws d chzb ∗ raws d chO) ⊢ iprop(raws d chMine ∗ gift' d 1 ∗ gift' d 0 ∗ gift' d 2 ∗ gift' d 3) := by
  have h := star_perm (fun c : Ch => raw (F := F) d (c.mem d)) lend_perm
  have e (l : Fin 4) : gift' (F := F) d l = star (fun c : Ch => raw d (c.mem d)) ((onLink (opp l)).map rch) := by rw [star_map]; rfl
  rw [e, e, e, e]
  unfold raws
  have j := fun l l' => star_append (fun c : Ch => raw (F := F) d (c.mem d)) l l'
  iintro ⟨H1, H2, H3, H4⟩
  ihave H := (j _ _).2 $$ [H3 H4]
  · isplitl [H3] <;> iassumption
  ihave H := (j _ _).2 $$ [H2 H]
  · isplitl [H2] <;> iassumption
  ihave H := (j _ _).2 $$ [H1 H]
  · isplitl [H1] <;> iassumption
  ihave H := h $$ H
  ihave H := (j _ _).1 $$ H
  icases H with ⟨G0, H⟩
  ihave H := (j _ _).1 $$ H
  icases H with ⟨G1, H⟩
  ihave H := (j _ _).1 $$ H
  icases H with ⟨G2, H⟩
  ihave H := (j _ _).1 $$ H
  icases H with ⟨G3, G4⟩
  isplitl [G0]; · iexact G0
  isplitl [G1]; · iexact G1
  isplitl [G2]; · iexact G2
  isplitl [G3] <;> iassumption

theorem link_perm : (onLink 0 ++ (onLink 1 ++ (onLink 2 ++ onLink 3))).Perm (List.finRange 60) := List.isPerm_iff.mp (by decide +kernel)
theorem onLink_link (e : Fin 4) (i : Fin 60) (h : i ∈ onLink e) : (msg i).link = e := by
  unfold onLink at h
  simpa using (List.mem_filter.mp h).2

theorem peer_of (d : Dev nD) (e : Fin 4) : barPay (F := F) d e ⊢ star (fun i => (It.peer i).sem X d) (onLink e) := by
  unfold barPay
  refine star_mono _ fun i hi => ?_
  obtain rfl := onLink_link e i hi
  exact sem_peer' X d i

theorem peers (d : Dev nD) : iprop(barPay (F := F) d 0 ∗ barPay d 1 ∗ barPay d 2 ∗ barPay d 3) ⊢ star (It.sem X d) ((List.finRange 60).map .peer) := by
  rw [star_map]
  refine BIBase.Entails.trans ?_ (star_perm _ link_perm)
  have j := fun l l' => (star_append (fun i => (It.peer i).sem X d) l l').2
  iintro ⟨H0, H1, H2, H3⟩
  iapply j
  isplitl [H0]; · iapply peer_of; iexact H0
  iapply j
  isplitl [H1]; · iapply peer_of; iexact H1
  iapply j
  isplitl [H2]; · iapply peer_of; iexact H2
  iapply peer_of; iexact H3

/-- The items after the entry barrier. -/
theorem start_items (d : Dev nD) :
    iprop(star (fun c => hold d (c.mem d) fullShare (val X d c)) chP ∗ raws d chsA ∗ raws d chsB ∗ raws d chzs ∗ raws d chMine
        ∗ star (It.sem X d) ((List.finRange 60).map .peer) ∗ star (It.sem X d) ((List.finRange 60).map .tok)
        ∗ star (It.sem X d) ((List.finRange 60).map .rpos) ∗ star (It.sem X d) (sSems.map fun n => .spos n 0))
      ⊢ star (It.sem X d) start := by
  unfold start
  have j := fun l l' => (star_append (It.sem X d) l l').2
  iintro ⟨H1, H2, H3, H4, H5, H6, H7, H8, H9⟩
  iapply j; isplitr [H9]
  on_goal 2 => iexact H9
  iapply j; isplitr [H8]
  on_goal 2 => iexact H8
  iapply j; isplitr [H7]
  on_goal 2 => iexact H7
  iapply j; isplitr [H6]
  on_goal 2 => iexact H6
  iapply j; isplitr [H5]
  on_goal 2 => (iapply raws_items; iexact H5)
  iapply j; isplitr [H4]
  on_goal 2 => (iapply raws_items; iexact H4)
  iapply j; isplitr [H3]
  on_goal 2 => (iapply raws_items; iexact H3)
  iapply j; isplitr [H2]
  on_goal 2 => (iapply raws_items; iexact H2)
  iapply own_items; iexact H1

/-! ## The end -/

theorem own_raws (d : Dev nD) (l : List Ch) : star (It.sem X d) (l.map .own) ⊢ raws d l := by
  rw [star_map]; unfold raws
  exact star_mono _ fun c _ => (sem_own X d c).trans (hold_raw d (c.mem d) (val X d c))
theorem items_raws (d : Dev nD) (l : List Ch) : star (It.sem X d) (l.map .raw) ⊢ raws d l := by
  rw [star_map]; unfold raws
  exact star_mono _ fun c _ => sem_raw X d c
theorem items_own (d : Dev nD) (l : List Ch) : star (It.sem X d) (l.map .own) ⊢ star (fun c => hold d (c.mem d) fullShare (val X d c)) l := by
  rw [star_map]; exact star_mono _ fun c _ => sem_own X d c

theorem sem_parts (d : Dev nD) (c : Ch) : star (It.sem X d) (parts c) ⊢ hold d (c.mem d) fullShare (val X d c) := by
  unfold parts
  split
  · rw [hold_quarters]
    change iprop(hold d (c.mem d) (qsh 0) (val X d c) ∗ hold d (c.mem d) (qsh 1) (val X d c) ∗ hold d (c.mem d) (qsh 2) (val X d c)
      ∗ hold d (c.mem d) (qsh 3) (val X d c) ∗ emp) ⊢ _
    iintro ⟨H0, H1, H2, H3, -⟩
    isplitl [H0]; · iexact H0
    isplitl [H1]; · iexact H1
    isplitl [H2] <;> iassumption
  · change iprop(hold d (c.mem d) fullShare (val X d c) ∗ emp) ⊢ _
    iintro ⟨H, -⟩; iexact H

theorem items_o (d : Dev nD) : star (It.sem X d) (chO.flatMap parts) ⊢ ((oM.view.loc (d : Thread nD τ)) ↦{fullShare} oM.view.rep (outAt X) : sProp 𝕄) := by
  refine (star_flatMap _ _).trans ((star_mono _ fun c _ => sem_parts X d c).trans ?_)
  rw [o_whole]

theorem take_drop (d : Dev nD) (l : List Ch) (n : ℕ) : iprop(raws (F := F) d (l.take n) ∗ raws d (l.drop n)) ⊢ raws d l := by
  have h := (star_append (fun c : Ch => raw (F := F) d (c.mem d)) (l.take n) (l.drop n)).2
  rw [List.take_append_drop] at h
  exact h

/-- The items at the end, by buffer. -/
theorem fin_items (d : Dev nD) :
    star (It.sem X d) fin ⊢ iprop(star (fun c => hold d (c.mem d) fullShare (val X d c)) chP ∗ ((oM.view.loc (d : Thread nD τ)) ↦{fullShare} oM.view.rep (outAt X))
      ∗ (raws d chpA ∗ raws d chpB ∗ raws d chzb ∗ raws d chsA ∗ raws d chsB ∗ raws d chzs)
      ∗ star (It.sem X d) ((List.finRange 60).map .rdone) ∗ star (It.sem X d) (sSems.map fun n => .spos n (nRounds n))) := by
  unfold fin
  have j := fun l l' => (star_append (It.sem X d) l l').1
  iintro H
  ihave H := (j _ _) $$ H
  icases H with ⟨H, G12⟩
  ihave H := (j _ _) $$ H
  icases H with ⟨H, G11⟩
  ihave H := (j _ _) $$ H
  icases H with ⟨H, G10⟩
  ihave H := (j _ _) $$ H
  icases H with ⟨H, G9⟩
  ihave H := (j _ _) $$ H
  icases H with ⟨H, G8⟩
  ihave H := (j _ _) $$ H
  icases H with ⟨H, G7⟩
  ihave H := (j _ _) $$ H
  icases H with ⟨H, G6⟩
  ihave H := (j _ _) $$ H
  icases H with ⟨H, G5⟩
  ihave H := (j _ _) $$ H
  icases H with ⟨H, G4⟩
  ihave H := (j _ _) $$ H
  icases H with ⟨H, G3⟩
  ihave H := (j _ _) $$ H
  icases H with ⟨G1, G2⟩
  isplitl [G1]; · iapply items_own; iexact G1
  isplitl [G2]; · iapply items_o; iexact G2
  isplitr [G11 G12]
  · isplitl [G3]; · iapply (own_raws X d); iexact G3
    isplitl [G4]; · iapply (own_raws X d); iexact G4
    isplitl [G5]; · iapply (own_raws X d); iexact G5
    isplitl [G6 G7]
    · iapply (take_drop d chsA 4)
      isplitl [G6]; · iapply (own_raws X d); iexact G6
      iapply (items_raws X d); iexact G7
    isplitl [G8 G9]
    · iapply (take_drop d chsB 4)
      isplitl [G8]; · iapply (own_raws X d); iexact G8
      iapply (items_raws X d); iexact G9
    iapply (own_raws X d); iexact G10
  · isplitl [G11] <;> iassumption

/-- A sending semaphore after its last round closes at zero. -/
theorem close_snd (d : Dev nD) :
    iprop(recs X K ∗ star (It.sem X d) (sSems.map fun n => .spos n (nRounds n)))
      ⊢ |={Set.univ}=> star (fun n => (semVal (kcell (d, kix n)) 0 : sProp 𝕄)) sSems := by
  rw [star_map]
  refine BIBase.Entails.trans (star_with _ fun n hn => ?_) (star_fupd _)
  obtain ⟨h4, hr⟩ := sSems_ge n hn
  rw [kcell_kix d n h4]
  have h := recs_dma X K d n h4
  iintro ⟨#H, Ha⟩
  ihave Ha := (sem_spos X d n (nRounds n)) $$ Ha
  icases Ha with ⟨Ha, -⟩
  ihave HI := h $$ H
  iapply (Rounds.cell_close ER (Rd X) (Set.mem_univ (K (d, kix n))) (fun h => h) (R := nRounds n) (duties_snd_late X d n hr))
  isplitl [HI] <;> iassumption

theorem close_rcv (d : Dev nD) :
    iprop(recs X K ∗ star (It.sem X d) ((List.finRange 60).map .rdone))
      ⊢ |={Set.univ}=> star (fun i => (semVal (kcell (d, kix (rs i))) 0 : sProp 𝕄)) (List.finRange 60) := by
  rw [star_map]
  refine BIBase.Entails.trans (star_with _ fun i _ => ?_) (star_fupd _)
  rw [kcell_kix d (rs i) (rs_ge i)]
  have h := recs_dma X K d (rs i) (rs_ge i)
  iintro ⟨#H, Ha⟩
  ihave Ha := (sem_rdone X d i) $$ Ha
  ihave HI := h $$ H
  iapply (Rounds.cell_close ER (Rd X) (Set.mem_univ (K (d, kix (rs i)))) (fun h => h) (R := 1) (duties_rcv_late X d i))
  isplitl [HI] <;> iassumption

/-- The idle semaphore has no rounds. -/
theorem duties_idle (d : Dev nD) (r : ℕ) (h : 0 ≤ r) : (Rd X).duties (dmaCell d idle) r = ∅ :=
  duties_snd_late X d idle (by decide +kernel) r (by
    have : nRounds idle = 0 := by decide +kernel
    omega)

/-- Every counter of the exchange's, at zero. -/
def zeros (d : Dev nD) : sProp 𝕄 := bigSep Finset.univ fun k : Fin 78 => semVal (kcell (d, k)) 0

theorem close_all (d : Dev nD) :
    iprop(recs X K ∗ atPos ER (barCell d) 1 ∅ 0 ∗ atPos ER (dmaCell d idle) 0 ∅ 0 ∗ star (It.sem X d) ((List.finRange 60).map .rdone)
        ∗ star (It.sem X d) (sSems.map fun n => .spos n (nRounds n)))
      ⊢ |={Set.univ}=> zeros (F := F) d := by
  unfold zeros
  refine BIBase.Entails.trans ?_ (BI.fupd_mono (cells_join _))
  have h0 := recs_bar X K d
  have h1 := recs_dma X K d idle (by decide)
  iintro ⟨#H, Hb, Hi, Hr, Hs⟩
  ihave HB := h0 $$ H
  icases HB with ⟨HB, -⟩
  ihave HI := h1 $$ H
  imod (Rounds.cell_close ER (Rd X) (Set.mem_univ (K (d, 77))) (fun h => h) (R := 1) (duties_bar_late X d)) $$ [HB Hb] with Hb
  · isplitl [HB] <;> iassumption
  imod (Rounds.cell_close ER (Rd X) (Set.mem_univ (K (d, kix idle))) (fun h => h) (R := 0) (duties_idle X d)) $$ [HI Hi] with Hi
  · isplitl [HI] <;> iassumption
  imod (close_rcv X K d) $$ [Hr] with Hr
  · isplitr; · iexact H
    iexact Hr
  imod (close_snd X K d) $$ [Hs] with Hs
  · isplitr; · iexact H
    iexact Hs
  imodintro
  isplitl [Hb]; · iexact Hb
  isplitl [Hi]; · iexact Hi
  isplitl [Hs] <;> iassumption

end Cert.ResidualProof

end
-- ==== Proof.Body.lean ====
/- The kernel's body on one device: the entry barrier, the exchange, and the counters closed. -/
module

public import proofs.«01_k».proof.Proof.Entry

@[expose] public section

set_option maxRecDepth 16384

noncomputable section

namespace Cert.ResidualProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable [C : Call] (X : Inp F) (K : Dev nD × Fin 78 → ℕ)

/-- The kernel's scratch buffers, whatever they hold. -/
def six (d : Dev nD) : sProp 𝕄 :=
  iprop(some_ d pAM ∗ some_ d pBM ∗ some_ d zbM ∗ some_ d sAM ∗ some_ d sBM ∗ some_ d zsM)

theorem some_ne {s : Shape} (d : Dev nD) (M : Memref sig .tc .vmem s .f32) :
    some_ (F := F) d M ⊢ iprop(⌜Nonempty (Buf (Elt F) (M.view.loc (d : Thread nD τ)))⌝ ∗ some_ d M) := by
  unfold some_
  iintro ⟨%f, H⟩
  isplitr; · ipureintro; exact ⟨f⟩
  iexists f; iexact H

/-- A signal to a neighbour's barrier, lending it the chunks its copies will fill. -/
theorem wp_enter {Q : PUnit.{1} → sProp 𝕄} (d n : Dev nD) (l : Fin 4) (hn : n = nb l d) (O O' : CellTallies nD τ sig Unit)
    (hO : O' = O + tallyAt (barCell (nb l d)) () 1) (k : PUnit → Pr F) (W : Waits sig Unit) :
    iprop(recs X K ∗ owes (d : Thread nD τ) O' W ∗ dutyTok ER (barCell (nb l d)) 0 (opp l) ∗ gift d l)
      ⊢ iprop((owes (d : Thread nD τ) O W -∗ wpd d (k ⟨⟩) Q) -∗ wpd d (.op (.semSignal (Dev.tc n) barS (1#32).toInt) k) Q) := by
  subst hn
  have hr := recs_bar X K (nb l d)
  have hg : gift (F := F) d l ⊢ (Rd X).payload ((nb l d : Thread nD τ), SemLoc.reg barS) 0 (opp l) := gift_pay d l
  iintro ⟨#HR, HO, Ht, Hg⟩ Hk
  ihave H := hr $$ HR
  icases H with ⟨HI, Hreach⟩
  ihave Hg := hg $$ Hg
  iapply (Rounds.wp_signal 𝒱₀ ER (Rd X) (d : Thread nD τ) none (dst := (nb l d : Thread nD τ)) (κ := K (nb l d, 77))
      (d := opp l) (by rw [duties_bar]; exact Finset.mem_univ _) (by rfl) () O hO) $$ [HI HO Ht Hg Hreach]
  · isplitl [HI]; · iexact HI
    isplitl [HO]; · iexact HO
    isplitl [Ht]; · iexact Ht
    isplitl [Hg]; · iexact Hg
    iexact Hreach
  iexact Hk

/-- The wait for all four neighbours. -/
theorem wp_entered {Q : PUnit.{1} → sProp 𝕄} (d : Dev nD) (k : PUnit → Pr F) (W : Waits sig Unit) :
    iprop(recs X K ∗ levAts L lv ∗ cred (tallyAt (barCell d) () 4) ∗ owes (d : Thread nD τ) (owed d 0) W ∗ atPos ER (barCell d) 0 ∅ 0)
      ⊢ iprop(((owes (d : Thread nD τ) (owed d 0) (insert (SemLoc.reg barS, ()) W) ∗ atPos ER (barCell d) 1 ∅ 0
            ∗ star (It.sem X d) ((List.finRange 60).map .peer)) -∗ wpd d (k ⟨⟩) Q)
          -∗ wpd d (.op (.semWait barS (4#32).toInt) k) Q) := by
  have hr := recs_bar X K d
  have hp := (BIBase.Entails.of_eq (rest_bar X d)).trans (peers X d)
  iintro ⟨#HR, #Hlev, Hc, HO, Hat⟩ Hk
  ihave H := hr $$ HR
  icases H with ⟨HI, -⟩
  iapply (Rounds.wp_wait_rest_token 𝒱₀ ER (Rd X) (d : Thread nD τ) none (κ := K (d, 77))
      (wpE_semWait_eq 𝒱₀ (d : Thread nD τ) none Set.univ) (Set.mem_univ _) () (O := owed d 0) (W := W) (R := 0) (m := 0) (T := ∅)
      (by rw [expect_bar]; decide)) $$ [HI Hc HO Hat]
  · isplitl [HI]; · iexact HI
    isplitl [Hc]; · iexact Hc
    isplitl [HO]; · iexact HO
    isplitr; · iapply (mayWait_bar d); iexact Hlev
    iexact Hat
  iintro ⟨HO, Hat, -, Hpay⟩
  ihave Hp := hp $$ Hpay
  iapply Hk
  isplitl [HO]; · iexact HO
  isplitl [Hat]; · iexact Hat
  iexact Hp

/-- What a device holds when its body starts, and when it ends. -/
def before (d : Dev nD) : sProp 𝕄 :=
  iprop(recs X K ∗ levAts L lv ∗ places d ∗ dues d ∗ rights d ∗ six d ∗ (∃ W, owes (d : Thread nD τ) (owed₀ d) W)
    ∗ (pM.view.loc (d : Thread nD τ) ↦{fullShare} pM.view.rep (X.p d)) ∗ bAll X d ∗ gAll X d ∗ some_ d oM)
def after (d : Dev nD) : sProp 𝕄 :=
  iprop(zeros d ∗ six d ∗ (∃ W, owes (d : Thread nD τ) (later d) W)
    ∗ (pM.view.loc (d : Thread nD τ) ↦{fullShare} pM.view.rep (X.p d)) ∗ bAll X d ∗ gAll X d ∗ (oM.view.loc (d : Thread nD τ) ↦{fullShare} oM.view.rep (outAt X)))

theorem body_ends : ∃ s' : MS, exec body ⟨0, start, []⟩ = some s' ∧ s'.n = 60 ∧ s'.items.Perm fin := by
  have h := body_runs
  cases hs : exec body ⟨0, start, []⟩ with
  | none => rw [hs] at h; cases h
  | some s' =>
    rw [hs, Option.any_some, Bool.and_eq_true] at h
    exact ⟨s', rfl, eq_of_beq h.1, List.isPerm_iff.mp h.2⟩

/-- The buffers at the end, from their chunks. -/
theorem six_join (d : Dev nD) (h0 : Nonempty (Buf (Elt F) (pAM.view.loc (d : Thread nD τ)))) (h1 : Nonempty (Buf (Elt F) (pBM.view.loc (d : Thread nD τ))))
    (h2 : Nonempty (Buf (Elt F) (zbM.view.loc (d : Thread nD τ)))) (h3 : Nonempty (Buf (Elt F) (sAM.view.loc (d : Thread nD τ))))
    (h4 : Nonempty (Buf (Elt F) (sBM.view.loc (d : Thread nD τ)))) (h5 : Nonempty (Buf (Elt F) (zsM.view.loc (d : Thread nD τ)))) :
    iprop(raws (F := F) d chpA ∗ raws d chpB ∗ raws d chzb ∗ raws d chsA ∗ raws d chsB ∗ raws d chzs) ⊢ six d := by
  unfold six
  iintro ⟨H0, H1, H2, H3, H4, H5⟩
  isplitl [H0]; · iapply (pA_join d (Classical.choice h0)); iexact H0
  isplitl [H1]; · iapply (pB_join d (Classical.choice h1)); iexact H1
  isplitl [H2]; · iapply (zb_join d (Classical.choice h2)); iexact H2
  isplitl [H3]; · iapply (sA_join d (Classical.choice h3)); iexact H3
  isplitl [H4]; · iapply (sB_join d (Classical.choice h4)); iexact H4
  iapply (zs_join d (Classical.choice h5)); iexact H5

theorem owes_end (d : Dev nD) (n : ℕ) (h : n = 60) :
    iprop(∃ W, owes (d : Thread nD τ) (owed d n) W) ⊢ (iprop(∃ W, owes (d : Thread nD τ) (later d) W) : sProp 𝕄) := by
  subst h; rw [owed_60]

theorem places_split (d : Dev nD) :
    places (F := F) d ⊢ iprop(atPos ER (barCell d) 0 ∅ 0 ∗ atPos ER (dmaCell d idle) 0 ∅ 0
      ∗ star (It.sem X d) (sSems.map fun n => .spos n 0)
      ∗ star (fun i => (atPos ER (kcell (d, kix (rs i))) 0 ∅ 0 : sProp 𝕄)) (List.finRange 60) ∗ rcvOpen d) := by
  unfold places
  have h1 := cells_split (F := F) fun k => iprop(atPos ER (kcell (d, k)) 0 ∅ 0 ∗ reached ER (kcell (d, k)) 0)
  have h2 := spos_start X d
  have h3 := rcv_open (F := F) d
  iintro H
  ihave H := h1 $$ H
  icases H with ⟨⟨Hb, -⟩, ⟨Hi, -⟩, Hs, Hr⟩
  isplitl [Hb]; · iexact Hb
  isplitl [Hi]; · iexact Hi
  isplitl [Hs]; · iapply h2; iexact Hs
  iapply h3; iexact Hr

set_option maxHeartbeats 1600000 in
/-- The body, from what a device holds at its start to what it holds at its end. -/
theorem body_sound {Q : PUnit.{1} → sProp 𝕄} (d : Dev nD) (z : Reg F) :
    before X K d ⊢ iprop((after X d -∗ Q ⟨⟩) -∗ wpd d (whole z) Q) := by
  obtain ⟨s', hs, hn, hp⟩ := body_ends
  have hP := BIBase.Entails.of_eq (p_split X d)
  have hP' := BIBase.Entails.of_eq (p_split X d).symm
  unfold whole
  simp only [wp_deviceId, sig1_eq, sig2_eq, sig3_eq, sig4_eq]
  unfold before dues rights six
  iintro ⟨#HR, #Hlev, Hpl, ⟨Hcb, Hcr⟩, ⟨⟨Ht1, Ht0, Ht2, Ht3⟩, Htk⟩, ⟨S0, S1, S2, S3, S4, S5⟩, ⟨%W, HO⟩, Hp, Hb, Hg, Ho⟩ Hk
  ihave S0 := (some_ne d pAM) $$ S0
  icases S0 with ⟨%e0, S0⟩
  ihave S1 := (some_ne d pBM) $$ S1
  icases S1 with ⟨%e1, S1⟩
  ihave S2 := (some_ne d zbM) $$ S2
  icases S2 with ⟨%e2, S2⟩
  ihave S3 := (some_ne d sAM) $$ S3
  icases S3 with ⟨%e3, S3⟩
  ihave S4 := (some_ne d sBM) $$ S4
  icases S4 with ⟨%e4, S4⟩
  ihave S5 := (some_ne d zsM) $$ S5
  icases S5 with ⟨%e5, S5⟩
  ihave S0 := (pA_split d) $$ S0
  ihave S1 := (pB_split d) $$ S1
  ihave S2 := (zb_split d) $$ S2
  ihave S3 := (sA_split d) $$ S3
  ihave S4 := (sB_split d) $$ S4
  ihave S5 := (zs_split d) $$ S5
  ihave Ho := (o_split d) $$ Ho
  ihave HL := (lend d) $$ [S0 S1 S2 Ho]
  · isplitl [S0]; · iexact S0
    isplitl [S1]; · iexact S1
    isplitl [S2] <;> iassumption
  icases HL with ⟨Hmine, G1, G0, G2, G3⟩
  ihave Hpl := (places_split X d) $$ Hpl
  icases Hpl with ⟨Hab, Hai, Hsp, Hrp, #Hop⟩
  ihave G1 := (gift_of d 1) $$ [G1]
  · isplitr; · iexact Hop
    iexact G1
  ihave G0 := (gift_of d 0) $$ [G0]
  · isplitr; · iexact Hop
    iexact G0
  ihave G2 := (gift_of d 2) $$ [G2]
  · isplitr; · iexact Hop
    iexact G2
  ihave G3 := (gift_of d 3) $$ [G3]
  · isplitr; · iexact Hop
    iexact G3
  iapply (wp_enter X K d _ 1 rfl (owed₁ d) (owed₀ d) rfl _ W) $$ [HO Ht1 G1]
  · isplitr; · iexact HR
    isplitl [HO]; · iexact HO
    isplitl [Ht1] <;> iassumption
  iintro HO
  iapply (wp_enter X K d _ 0 rfl (owed₂ d) (owed₁ d) rfl _ W) $$ [HO Ht0 G0]
  · isplitr; · iexact HR
    isplitl [HO]; · iexact HO
    isplitl [Ht0] <;> iassumption
  iintro HO
  iapply (wp_enter X K d _ 2 rfl (owed₃ d) (owed₂ d) rfl _ W) $$ [HO Ht2 G2]
  · isplitr; · iexact HR
    isplitl [HO]; · iexact HO
    isplitl [Ht2] <;> iassumption
  iintro HO
  iapply (wp_enter X K d _ 3 rfl (owed d 0) (owed₃ d) rfl _ W) $$ [HO Ht3 G3]
  · isplitr; · iexact HR
    isplitl [HO]; · iexact HO
    isplitl [Ht3] <;> iassumption
  iintro HO
  iapply (wp_entered X K d _ W) $$ [HO Hcb Hab]
  · isplitr; · iexact HR
    isplitr; · iexact Hlev
    isplitl [Hcb]; · iexact Hcb
    isplitl [HO] <;> iassumption
  iintro ⟨HO, Hab, Hpeers⟩
  ihave Hp := hP $$ Hp
  ihave Htk := (toks_start X d) $$ Htk
  ihave Hrp := (rpos_start X d) $$ [Hrp Hcr]
  · isplitl [Hrp] <;> iassumption
  ihave Hit := (start_items X d) $$ [Hp S3 S4 S5 Hmine Hpeers Htk Hrp Hsp]
  · isplitl [Hp]; · iexact Hp
    isplitl [S3]; · iexact S3
    isplitl [S4]; · iexact S4
    isplitl [S5]; · iexact S5
    isplitl [Hmine]; · iexact Hmine
    isplitl [Hpeers]; · iexact Hpeers
    isplitl [Htk]; · iexact Htk
    isplitl [Hrp] <;> iassumption
  iapply (exec_sound X K d z body ⟨0, start, []⟩ s' [] hs .nil) $$ [Hb Hg HO Hit]
  · isplitr; · iexact HR
    isplitr; · iexact Hlev
    unfold Holds
    isplitl [Hb]; · iexact Hb
    isplitl [Hg]; · iexact Hg
    isplitl [HO]; · iexists _; iexact HO
    iexact Hit
  unfold Holds
  iintro ⟨Hb, Hg, HO, Hit⟩
  ihave HO := (owes_end d s'.n hn) $$ HO
  ihave Hit := (star_perm (It.sem X d) hp) $$ Hit
  ihave Hit := (fin_items X d) $$ Hit
  icases Hit with ⟨Hp, Ho, Hraw, Hdone, Hsnd⟩
  imod (close_all X K d) $$ [Hab Hai Hdone Hsnd] with Hz
  · isplitr; · iexact HR
    isplitl [Hab]; · iexact Hab
    isplitl [Hai]; · iexact Hai
    isplitl [Hdone] <;> iassumption
  imodintro
  iapply Hk
  unfold after
  isplitl [Hz]; · iexact Hz
  isplitl [Hraw]; · iapply (six_join d e0 e1 e2 e3 e4 e5); iexact Hraw
  isplitl [HO]; · iexact HO
  isplitl [Hp]; · iapply hP'; iexact Hp
  isplitl [Hb]; · iexact Hb
  isplitl [Hg] <;> iassumption

end Cert.ResidualProof

end
-- ==== Proof.Ghost.lean ====
/- The launch's part of the exchange: every device's counters become cells, and the rights go to the devices that spend them. -/
module

public import proofs.«01_k».proof.Proof.Body

@[expose] public section

set_option maxRecDepth 16384

noncomputable section

namespace Cert.ResidualProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable [C : Call] (X : Inp F)

/-! ## The cells -/

theorem csem_injective : Function.Injective (csem : Fin 78 → SemLoc sig) := by
  obtain ⟨k⟩ := C
  cases k
  · have h : ∀ k k' : Fin 78, csem (C := call0) k = csem (C := call0) k' → k = k' := by decide +kernel
    exact fun k k' => h k k'
  · have h : ∀ k k' : Fin 78, csem (C := call1) k = csem (C := call1) k' → k = k' := by decide +kernel
    exact fun k k' => h k k'
theorem kcell_injective : Function.Injective (kcell : Dev nD × Fin 78 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- The barriers' cells, open from the launch. -/
def barEmb : Dev nD ↪ GSem nD τ sig := ⟨fun c => kcell (c, 77), fun c c' h => congrArg Prod.fst (kcell_injective h)⟩
def barCells : Finset (GSem nD τ sig) := Finset.univ.map barEmb
/-- The cells of the transfers' semaphores, opened as the call starts. -/
def dmaEmb : Dev nD × Fin 77 ↪ GSem nD τ sig :=
  ⟨fun e => kcell (e.1, e.2.castSucc), fun e e' h => by
    have h := kcell_injective h
    exact Prod.ext (congrArg (fun x : Dev nD × Fin 78 => x.1) h) (Fin.castSucc_injective _ (congrArg (fun x : Dev nD × Fin 78 => x.2) h))⟩
def dmaCells : Finset (GSem nD τ sig) := Finset.univ.map dmaEmb

theorem cells_disjoint : Disjoint (barCells : Finset (GSem nD τ sig)) dmaCells := by
  rw [Finset.disjoint_left]
  intro g h1 h2
  obtain ⟨c, -, rfl⟩ := Finset.mem_map.mp h1
  obtain ⟨e, -, h⟩ := Finset.mem_map.mp h2
  have h : e.2.castSucc = (77 : Fin 78) := congrArg (fun x : Dev nD × Fin 78 => x.2) (kcell_injective h)
  have h' := congrArg Fin.val h
  have hl := e.2.isLt
  change e.2.val = 77 at h'
  omega

theorem last_or (k : Fin 78) : k = 77 ∨ ∃ k' : Fin 77, k = k'.castSucc := by
  by_cases h : k.val < 77
  · exact .inr ⟨⟨k.val, h⟩, rfl⟩
  · exact .inl (Fin.ext (by have := k.isLt; change k.val = 77; omega))

theorem kcell_mem (e : Dev nD × Fin 78) : kcell e ∈ barCells ∪ (dmaCells : Finset (GSem nD τ sig)) := by
  obtain ⟨c, k⟩ := e
  rcases last_or k with rfl | ⟨k', rfl⟩
  · exact Finset.mem_union_left _ (Finset.mem_map_of_mem barEmb (Finset.mem_univ c))
  · exact Finset.mem_union_right _ (Finset.mem_map_of_mem dmaEmb (Finset.mem_univ (c, k')))

/-- The call's own transfer semaphores. -/
abbrev osem (k : Fin 77) : SemLoc sig := .dma (gs ⟨4 + k.val, by change _ < 81; omega⟩)

theorem cells_own : List.finRange 78 = (List.finRange 77).map Fin.castSucc ++ [77] := by decide +kernel
theorem csem_own (k : Fin 77) : csem k.castSucc = osem k := dif_pos k.isLt

theorem ownSems0_eq (c : Dev nD) : (Pipeline.ownSems0 (Ix := Unit) (Name := ℕ) (U := UU) (Lvl := ℕ) (Val := Elt F) (τ := τ) osem c : sProp 𝕄)
    = bigSep Finset.univ fun k : Fin 77 => semVal (kcell (c, k.castSucc)) 0 := by
  unfold Pipeline.ownSems0
  exact bigSep_congr fun k _ => by rw [show kcell (c, k.castSucc) = ((c : Thread nD τ), osem k) from congrArg (Prod.mk _) (csem_own k)]

/-- A family over a device's cells: that of the transfers' semaphores, and the barrier's. -/
theorem cells_barrier (Φ : Fin 78 → sProp 𝕄) :
    bigSep Finset.univ Φ ⊢ iprop((bigSep Finset.univ fun k : Fin 77 => Φ k.castSucc) ∗ Φ 77) := by
  rw [star_univ, cells_own, star_univ]
  refine (star_append _ _ _).1.trans ?_
  rw [star_map]
  change iprop(star (fun k : Fin 77 => Φ k.castSucc) (List.finRange 77) ∗ (Φ 77 ∗ emp)) ⊢ _
  iintro ⟨H1, H2, -⟩
  isplitl [H1] <;> iassumption
theorem cells_barrier' (Φ : Fin 78 → sProp 𝕄) :
    iprop((bigSep Finset.univ fun k : Fin 77 => Φ k.castSucc) ∗ Φ 77) ⊢ bigSep Finset.univ Φ := by
  rw [star_univ, star_univ, cells_own]
  refine BIBase.Entails.trans ?_ (star_append _ _ _).2
  rw [star_map]
  change _ ⊢ iprop(star (fun k : Fin 77 => Φ k.castSucc) (List.finRange 77) ∗ (Φ 77 ∗ emp))
  iintro ⟨H1, H2⟩
  isplitl [H1]; · iexact H1
  isplitl [H2]; · iexact H2
  iempintro

theorem zeros_elim (c : Dev nD) : zeros (F := F) c
    ⊢ iprop(Pipeline.ownSems0 (Ix := Unit) (Name := ℕ) (U := UU) (Lvl := ℕ) (Val := Elt F) (τ := τ) osem c ∗ semVal (barCell c) 0) := by
  rw [ownSems0_eq]
  exact cells_barrier fun k => semVal (kcell (c, k)) 0

/-! ## The rights -/

/-- The rights to pay into a device's own cells, one after the other: its barrier's four, its copies' sending ones, its arrivals. -/
def tokS (k : Fin 124) : SemLoc sig × ℕ × Fin 4 :=
  if h : k.val < 4 then (.reg barS, 0, ⟨k.val, h⟩)
  else if h' : k.val < 64 then (.dma (gs (ss ⟨k.val - 4, by omega⟩)), rnd ⟨k.val - 4, by omega⟩, 0)
  else (.dma (gs (rs ⟨k.val - 64, by omega⟩)), 0, 0)
theorem tokS_injective : ∀ k k' : Fin 124, tokS k = tokS k' → k = k' := by
  obtain ⟨k⟩ := C
  cases k
  · exact (by decide +kernel : ∀ k k' : Fin 124, tokS (C := call0) k = tokS (C := call0) k' → k = k')
  · exact (by decide +kernel : ∀ k k' : Fin 124, tokS (C := call1) k = tokS (C := call1) k' → k = k')
abbrev tokOf (e : Dev nD × Fin 124) : GSem nD τ sig × ℕ × Fin 4 := (((e.1 : Thread nD τ), (tokS e.2).1), (tokS e.2).2.1, (tokS e.2).2.2)
theorem tokOf_injective : Function.Injective (tokOf : Dev nD × Fin 124 → GSem nD τ sig × ℕ × Fin 4) := by
  rintro ⟨c, k⟩ ⟨c', k'⟩ h
  have h1 : c = c' := congrArg (fun x : GSem nD τ sig × ℕ × Fin 4 => x.1.1.1) h
  subst h1
  have h2 : k = k' := tokS_injective k k' (congrArg (fun x : GSem nD τ sig × ℕ × Fin 4 => (x.1.2, x.2.1, x.2.2)) h)
  subst h2; rfl
def exToks : Finset (GSem nD τ sig × ℕ × Fin 4) := Finset.univ.map ⟨tokOf, tokOf_injective⟩

/-- The rights to pay into a device's own cells. -/
def toks (c : Dev nD) : sProp 𝕄 := bigSep Finset.univ fun k : Fin 124 => dutyTok ER (tokOf (c, k)).1 (tokOf (c, k)).2.1 (tokOf (c, k)).2.2

def tB (e : Fin 4) : Fin 124 := ⟨e.val, by omega⟩
def tS (i : Fin 60) : Fin 124 := ⟨4 + i.val, by omega⟩
def tR (i : Fin 60) : Fin 124 := ⟨64 + i.val, by omega⟩
theorem toks_perm : (List.finRange 124).Perm
    (tB (opp 1) :: tB (opp 0) :: tB (opp 2) :: tB (opp 3) :: ((List.finRange 60).map tS ++ (List.finRange 60).map tR)) :=
  List.isPerm_iff.mp (by decide +kernel)
theorem tokS_tB (e : Fin 4) : tokS (tB e) = (.reg barS, 0, e) := by
  revert e
  obtain ⟨k⟩ := C
  cases k
  · exact (by decide +kernel : ∀ e : Fin 4, tokS (C := call0) (tB e) = (.reg (barS (C := call0)), 0, e))
  · exact (by decide +kernel : ∀ e : Fin 4, tokS (C := call1) (tB e) = (.reg (barS (C := call1)), 0, e))
theorem tokS_tS (i : Fin 60) : tokS (tS i) = (.dma (gs (ss i)), rnd i, 0) := by
  revert i
  obtain ⟨k⟩ := C
  cases k
  · exact (by decide +kernel : ∀ i : Fin 60, tokS (C := call0) (tS i) = (.dma (gs (C := call0) (ss i)), rnd i, 0))
  · exact (by decide +kernel : ∀ i : Fin 60, tokS (C := call1) (tS i) = (.dma (gs (C := call1) (ss i)), rnd i, 0))
theorem tokS_tR (i : Fin 60) : tokS (tR i) = (.dma (gs (rs i)), 0, 0) := by
  revert i
  obtain ⟨k⟩ := C
  cases k
  · exact (by decide +kernel : ∀ i : Fin 60, tokS (C := call0) (tR i) = (.dma (gs (C := call0) (rs i)), 0, 0))
  · exact (by decide +kernel : ∀ i : Fin 60, tokS (C := call1) (tR i) = (.dma (gs (C := call1) (rs i)), 0, 0))

theorem tok_bar (c : Dev nD) (e : Fin 4) :
    (dutyTok ER (tokOf (c, tB e)).1 (tokOf (c, tB e)).2.1 (tokOf (c, tB e)).2.2 : sProp 𝕄) = dutyTok ER (barCell c) 0 e := by
  change dutyTok ER ((c : Thread nD τ), (tokS (tB e)).1) (tokS (tB e)).2.1 (tokS (tB e)).2.2 = _
  rw [tokS_tB]
theorem tok_snd (c : Dev nD) (i : Fin 60) :
    (dutyTok ER (tokOf (c, tS i)).1 (tokOf (c, tS i)).2.1 (tokOf (c, tS i)).2.2 : sProp 𝕄) = dutyTok ER (dmaCell c (ss i)) (rnd i) 0 := by
  change dutyTok ER ((c : Thread nD τ), (tokS (tS i)).1) (tokS (tS i)).2.1 (tokS (tS i)).2.2 = _
  rw [tokS_tS]
theorem tok_rcv (c : Dev nD) (i : Fin 60) :
    (dutyTok ER (tokOf (c, tR i)).1 (tokOf (c, tR i)).2.1 (tokOf (c, tR i)).2.2 : sProp 𝕄) = dutyTok ER (dmaCell c (rs i)) 0 0 := by
  change dutyTok ER ((c : Thread nD τ), (tokS (tR i)).1) (tokS (tR i)).2.1 (tokS (tR i)).2.2 = _
  rw [tokS_tR]

theorem toks_split (c : Dev nD) : toks (F := F) c ⊢
    iprop((dutyTok ER (barCell c) 0 (opp 1) ∗ dutyTok ER (barCell c) 0 (opp 0) ∗ dutyTok ER (barCell c) 0 (opp 2) ∗ dutyTok ER (barCell c) 0 (opp 3))
      ∗ star (fun i => (dutyTok ER (dmaCell c (ss i)) (rnd i) 0 : sProp 𝕄)) (List.finRange 60)
      ∗ star (fun i => (dutyTok ER (dmaCell c (rs i)) 0 0 : sProp 𝕄)) (List.finRange 60)) := by
  unfold toks
  rw [star_univ]
  refine (star_perm _ toks_perm).trans ?_
  have h := (star_append (fun k : Fin 124 => (dutyTok ER (tokOf (c, k)).1 (tokOf (c, k)).2.1 (tokOf (c, k)).2.2 : sProp 𝕄))
    ((List.finRange 60).map tS) ((List.finRange 60).map tR)).1
  rw [star_map, star_map] at h
  simp only [tok_snd, tok_rcv] at h
  unfold star star star star
  rw [tok_bar, tok_bar, tok_bar, tok_bar]
  iintro ⟨H1, H2, H3, H4, H⟩
  isplitr [H]
  · isplitl [H1]; · iexact H1
    isplitl [H2]; · iexact H2
    isplitl [H3] <;> iassumption
  · iapply h; iexact H

/-- The neighbours over a link, as a permutation of the devices. -/
def link (l : Fin 4) : Dev nD ≃ Dev nD := ⟨nb l, nb (opp l), nb_opp l, nb_opp' l⟩

theorem bigSep_star {ι κ : Type} (s : Finset ι) (Φ : ι → κ → sProp 𝕄) :
    ∀ l : List κ, bigSep s (fun a => star (Φ a) l) = star (fun b => bigSep s fun a => Φ a b) l
  | [] => by
    change bigSep s (fun _ => (iprop(emp) : sProp 𝕄)) = iprop(emp)
    exact bigSep_emp_const s
  | b :: l => by
    change bigSep s (fun a => iprop(Φ a b ∗ star (Φ a) l)) = iprop((bigSep s fun a => Φ a b) ∗ star (fun b => bigSep s fun a => Φ a b) l)
    rw [bigSep_sep', bigSep_star s Φ l]

theorem star_congr {ι : Type} {P R : ι → sProp 𝕄} (l : List ι) (h : ∀ a, P a = R a) : star P l = star R l := by
  rw [show P = R from funext h]

/-- The rights, dealt to the neighbours. -/
theorem toks_around : (bigSep Finset.univ fun c : Dev nD => toks (F := F) c) ⊢ bigSep Finset.univ fun c : Dev nD => rights (F := F) c := by
  refine BIBase.Entails.trans (bigSep_mono fun c _ => toks_split c) ?_
  have hb (l : Fin 4) : (bigSep Finset.univ fun c : Dev nD => (dutyTok ER (barCell c) 0 (opp l) : sProp 𝕄))
      = bigSep Finset.univ fun c : Dev nD => dutyTok ER (barCell (nb l c)) 0 (opp l) := bigSep_univ_equiv (link l) (fun c : Dev nD => (dutyTok ER (barCell c) 0 (opp l) : sProp 𝕄))
  have hr : (star (fun i => bigSep Finset.univ fun c : Dev nD => (dutyTok ER (dmaCell c (rs i)) 0 0 : sProp 𝕄)) (List.finRange 60))
      = bigSep Finset.univ fun c : Dev nD => star (fun i => (dutyTok ER (dmaCell (rcr i c) (rs i)) 0 0 : sProp 𝕄)) (List.finRange 60) := by
    rw [bigSep_star]
    exact star_congr _ fun i => bigSep_univ_equiv (link (msg i).link) (fun c : Dev nD => (dutyTok ER (dmaCell c (rs i)) 0 0 : sProp 𝕄))
  have hj : iprop((bigSep Finset.univ fun c : Dev nD => star (fun i => (dutyTok ER (dmaCell c (ss i)) (rnd i) 0 : sProp 𝕄)) (List.finRange 60))
        ∗ bigSep Finset.univ fun c : Dev nD => star (fun i => (dutyTok ER (dmaCell (rcr i c) (rs i)) 0 0 : sProp 𝕄)) (List.finRange 60))
      ⊢ bigSep Finset.univ fun c : Dev nD =>
          star (fun i => (iprop(dutyTok ER (dmaCell c (ss i)) (rnd i) 0 ∗ dutyTok ER (dmaCell (rcr i c) (rs i)) 0 0) : sProp 𝕄)) (List.finRange 60) := by
    rw [← bigSep_sep']
    exact bigSep_mono fun c _ => star_sep _
  unfold rights
  simp only [bigSep_sep']
  rw [hb 1, hb 0, hb 2, hb 3, bigSep_star Finset.univ (fun (c : Dev nD) i => (dutyTok ER (dmaCell c (rs i)) 0 0 : sProp 𝕄)), hr]
  iintro ⟨⟨H1, H0, H2, H3⟩, H4, H5⟩
  isplitr [H4 H5]
  · isplitl [H1]; · iexact H1
    isplitl [H0]; · iexact H0
    isplitl [H2] <;> iassumption
  · iapply hj
    isplitl [H4] <;> iassumption

/-! ## The launch of a call's cells -/

/-- What a device keeps of the launch until the call starts. -/
def kept (c : Dev nD) : sProp 𝕄 :=
  iprop(∃ K, recs X K ∗ atPos ER (barCell c) 0 ∅ 0 ∗ (bigSep Finset.univ fun k : Fin 77 => openTok ER (kcell (c, k.castSucc))) ∗ rights c)

/-- What it makes of that as the call starts. -/
def opened (c : Dev nD) : sProp 𝕄 := iprop(∃ K, recs X K ∗ places c ∗ rights c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The call's own counters, at zero as it starts, become the cells of its transfers. -/
theorem open_cells (c : Dev nD) :
    iprop(kept X c ∗ Pipeline.ownSems0 (Ix := Unit) (Name := ℕ) (U := UU) (Lvl := ℕ) (Val := Elt F) (τ := τ) osem c)
      ⊢ |={Set.univ}=> opened X c := by
  have h1 (K) : iprop(recs X K ∗ bigSep Finset.univ fun k : Fin 77 => iprop(openTok ER (kcell (c, k.castSucc)) ∗ semVal (kcell (c, k.castSucc)) 0))
      ⊢ (|={Set.univ}=> bigSep Finset.univ fun k : Fin 77 =>
          iprop(atPos ER (kcell (c, k.castSucc)) 0 ∅ 0 ∗ reached ER (kcell (c, k.castSucc)) 0) : sProp 𝕄) := by
    refine (with_persistent (R := recs X K) fun k _ => ?_).trans (bigSep_fupd _ _)
    have hi := recs_at X K (c, k.castSucc)
    have ho := Rounds.cell_open ER (Rd X) (g := kcell (c, k.castSucc)) (Set.mem_univ (K (c, k.castSucc)))
    iintro ⟨#H, Ht, Hv⟩
    iapply ho
    isplitr; · iapply hi; iexact H
    isplitl [Ht] <;> iassumption
  have h2 (K) := recs_open X K c
  have h3 := cells_barrier' (F := F) fun k => iprop(atPos ER (kcell (c, k)) 0 ∅ 0 ∗ reached ER (kcell (c, k)) 0)
  have h4 : iprop((bigSep Finset.univ fun k : Fin 77 => openTok ER (kcell (c, k.castSucc)))
      ∗ bigSep Finset.univ fun k : Fin 77 => semVal (kcell (c, k.castSucc)) 0)
      ⊢ (bigSep Finset.univ fun k : Fin 77 => iprop(openTok ER (kcell (c, k.castSucc)) ∗ semVal (kcell (c, k.castSucc)) 0) : sProp 𝕄) := by
    rw [bigSep_sep']
  rw [ownSems0_eq]
  unfold kept opened places
  iintro ⟨⟨%K, #HR, Hb, Ht, Hri⟩, Hv⟩
  ihave Ht := h4 $$ [Ht Hv]
  · isplitl [Ht] <;> iassumption
  imod (h1 K) $$ [Ht] with Hp
  · isplitr; · iexact HR
    iexact Ht
  imodintro
  iexists K
  isplitr; · iexact HR
  isplitr [Hri]
  · iapply h3
    isplitl [Hp]; · iexact Hp
    isplitl [Hb]; · iexact Hb
    iapply (h2 K); iexact HR
  iexact Hri

/-- The call's element of the launch. -/
def launchEl : UB := launchOf barCells dmaCells exToks

theorem recs_intro (κ : GSem nD τ sig → ℕ) :
    iprop((bigSep (barCells ∪ dmaCells) fun g => cellInv ER (Rd X) (κ g) g) ∗ bigSep barCells fun g => reached ER g 0)
      ⊢ recs X fun e => κ (kcell e) := by
  have h1 : (bigSep (barCells ∪ dmaCells) fun g => cellInv ER (Rd X) (κ g) g)
      ⊢ bigSep Finset.univ fun e : Dev nD × Fin 78 => cellInv ER (Rd X) (κ (kcell e)) (kcell e) := by
    refine BIBase.Entails.trans ?_ (with_persistent (R := bigSep (barCells ∪ dmaCells) fun g => cellInv ER (Rd X) (κ g) g)
      (Φ := fun _ => iprop(emp)) fun e _ => ?_)
    · rw [show (bigSep Finset.univ fun _ : Dev nD × Fin 78 => (iprop(emp) : sProp 𝕄)) = iprop(emp) from bigSep_emp_const _]
      iintro H
      isplitl [H]; · iexact H
      iempintro
    · refine BIBase.Entails.trans ?_ (bigSep_elim (Φ := fun g => cellInv ER (Rd X) (κ g) g) (kcell_mem e))
      iintro ⟨H, -⟩; iexact H
  have h2 : (bigSep barCells fun g => (reached ER g 0 : sProp 𝕄)) ⊢ bigSep Finset.univ fun d : Dev nD => reached ER (barCell d) 0 := by
    unfold barCells; rw [bigSep_map]; exact BI.Entails.refl _
  unfold recs
  iintro ⟨H1, H2⟩
  isplitl [H1]; · iapply h1; iexact H1
  iapply h2; iexact H2

theorem kept_intro (κ : GSem nD τ sig → ℕ) (c : Dev nD) :
    iprop(recs X (fun e => κ (kcell e)) ∗ (atPos ER (barCell c) 0 ∅ 0
      ∗ (bigSep Finset.univ fun k : Fin 77 => openTok ER (kcell (c, k.castSucc))) ∗ rights c)) ⊢ kept X c := by
  unfold kept
  iintro H
  iexists _; iexact H

/-- The barriers' counters become cells, and every device is dealt its part. -/
theorem deal : iprop((bigSep Finset.univ fun c : Dev nD => semVal (barCell c) 0) ∗ BI.own (ER launchEl))
    ⊢ (|={Set.univ}=> bigSep Finset.univ (kept X) : sProp 𝕄) := by
  have hb (Φ : GSem nD τ sig → sProp 𝕄) : bigSep barCells Φ = bigSep Finset.univ fun c : Dev nD => Φ (barCell c) := by
    unfold barCells; rw [bigSep_map]; rfl
  have hd (Φ : GSem nD τ sig → sProp 𝕄) : bigSep dmaCells Φ = bigSep Finset.univ fun c : Dev nD => bigSep Finset.univ fun k : Fin 77 => Φ (kcell (c, k.castSucc)) := by
    unfold dmaCells; rw [bigSep_map, bigSep_univ_prod]; rfl
  have ht : bigSep exToks (fun x => (dutyTok ER x.1 x.2.1 x.2.2 : sProp 𝕄)) = bigSep Finset.univ fun c : Dev nD => toks c := by
    unfold exToks toks; rw [bigSep_map, bigSep_univ_prod]; rfl
  have hv := Entails.of_eq (hb fun g => semVal g 0).symm
  have ha := Entails.of_eq (hb fun g => atPos ER g 0 ∅ 0)
  have ho := Entails.of_eq (hd fun g => openTok ER g)
  have ht := (Entails.of_eq ht).trans (toks_around (F := F))
  have hlin : iprop((bigSep Finset.univ fun c : Dev nD => atPos ER (barCell c) 0 ∅ 0)
      ∗ (bigSep Finset.univ fun c : Dev nD => bigSep Finset.univ fun k : Fin 77 => openTok ER (kcell (c, k.castSucc)))
      ∗ bigSep Finset.univ fun c : Dev nD => rights (F := F) c)
      ⊢ bigSep Finset.univ fun c : Dev nD => iprop(atPos ER (barCell c) 0 ∅ 0
        ∗ (bigSep Finset.univ fun k : Fin 77 => openTok ER (kcell (c, k.castSucc))) ∗ rights (F := F) c) := by
    rw [bigSep_sep', bigSep_sep']
  unfold launchEl
  iintro ⟨Hv, Hu⟩
  ihave Hv := hv $$ Hv
  imod (Rounds.fund_launch ER (Rd X) cells_disjoint (fun g _ h => h) exToks) $$ [Hv Hu] with ⟨%κ, -, Hinv, Hr, Hat, Hopen, Htok⟩
  · isplitl [Hv] <;> iassumption
  imodintro
  iapply (with_persistent (R := recs X fun e => κ (kcell e)) fun c _ => kept_intro X κ c)
  isplitl [Hinv Hr]
  · iapply (recs_intro X κ)
    isplitl [Hinv] <;> iassumption
  iapply hlin
  isplitl [Hat]; · iapply ha; iexact Hat
  isplitl [Hopen]; · iapply ho; iexact Hopen
  iapply ht; iexact Htok

/-! ## The credits -/

theorem dev_eq_of_bar {a b : Dev nD} (h : barCell a = barCell b) : a = b := congrArg (fun g : GSem nD τ sig => g.1.1) h
theorem dev_eq_of_dma {a b : Dev nD} {n n' : LS} (h : dmaCell a n = dmaCell b n') : a = b := congrArg (fun g : GSem nD τ sig => g.1.1) h
theorem rs_injective : ∀ i j : Fin 60, rs i = rs j → i = j := by decide +kernel

theorem tally_bar (a c : Dev nD) : (tallyAt (barCell a) () 1 : CellTallies nD τ sig Unit) (barCell c) () = if a = c then 1 else 0 := by
  rw [tallyAt_apply]
  by_cases h : a = c
  · subst h; rw [if_pos ⟨rfl, rfl⟩, if_pos rfl]
  · rw [if_neg (fun h' => h (dev_eq_of_bar h'.1).symm), if_neg h]
theorem tally_bar_dma (a c : Dev nD) (n : LS) : (tallyAt (barCell a) () 1 : CellTallies nD τ sig Unit) (dmaCell c n) () = 0 := by
  rw [tallyAt_apply, if_neg (fun h => by cases h.1)]

theorem owedL_bar (d c : Dev nD) : ∀ l : List (Fin 60), owedL 0 d l (barCell c) () = 0
  | [] => rfl
  | i :: l => by
    unfold owedL
    rw [Pi.add_apply, Finsupp.add_apply, tallyAt_apply, owedL_bar d c l, if_neg (fun h => by cases h.1)]

theorem owedL_rcv (d c : Dev nD) (i : Fin 60) : ∀ l : List (Fin 60), l.Nodup →
    owedL 0 d l (dmaCell c (rs i)) () = if i ∈ l ∧ rcr i d = c then N else 0
  | [], _ => by rw [if_neg (fun h => List.not_mem_nil h.1)]; rfl
  | j :: l, h => by
    obtain ⟨hj, hl⟩ := List.nodup_cons.mp h
    unfold owedL
    rw [Pi.add_apply, Finsupp.add_apply, tallyAt_apply, owedL_rcv d c i l hl]
    by_cases hij : i = j
    · subst hij
      rw [if_neg (fun h => hj h.1), Nat.zero_add]
      by_cases hc : rcr i d = c
      · rw [if_pos ⟨by rw [hc], rfl⟩, if_pos ⟨List.mem_cons_self, hc⟩]
      · rw [if_neg (fun h => hc (dev_eq_of_dma h.1).symm), if_neg (fun h => hc h.2)]
    · have hne : ¬(dmaCell c (rs i) = dmaCell (rcr j d) (rs j) ∧ () = ()) := fun h =>
        hij (rs_injective i j (gs_inj (by have := congrArg Prod.snd h.1; injection this)))
      rw [if_neg hne, Nat.add_zero]
      by_cases hm : i ∈ l ∧ rcr i d = c
      · rw [if_pos hm, if_pos ⟨List.mem_cons_of_mem _ hm.1, hm.2⟩]
      · rw [if_neg hm, if_neg (fun h => hm ⟨(List.mem_cons.mp h.1).resolve_left hij, h.2⟩)]

theorem from_zero : from' 0 = List.finRange 60 := by decide +kernel

theorem due_bar (d c : Dev nD) : due 0 d (barCell c) () =
    (if nb 3 d = c then 1 else 0) + (if nb 2 d = c then 1 else 0) + (if nb 0 d = c then 1 else 0) + (if nb 1 d = c then 1 else 0) := by
  unfold due
  simp only [Pi.add_apply, Finsupp.add_apply, tally_bar, owedL_bar, Nat.zero_add]
theorem due_rcv (d c : Dev nD) (i : Fin 60) : due 0 d (dmaCell c (rs i)) () = if d = nb (opp (msg i).link) c then N else 0 := by
  unfold due
  simp only [Pi.add_apply, Finsupp.add_apply, tally_bar_dma, Nat.add_zero]
  rw [owedL_rcv d c i _ (by rw [from_zero]; exact List.nodup_finRange 60), from_zero]
  by_cases h : d = nb (opp (msg i).link) c
  · subst h
    rw [if_pos rfl, if_pos ⟨List.mem_finRange i, nb_opp' _ _⟩]
  · rw [if_neg h, if_neg (fun h' => h (by rw [← h'.2]; exact (nb_opp _ _).symm))]

theorem sum_bar (c : Dev nD) : (∑ d : Dev nD, ((if nb 3 d = c then 1 else 0) + (if nb 2 d = c then 1 else 0) + (if nb 0 d = c then 1 else 0) + (if nb 1 d = c then 1 else 0))) = 4 := by
  revert c; decide +kernel

/-- The call a cell belongs to. -/
def callOf (g : GSem nD τ sig) : Bool := match g.2 with
  | .reg s => decide (s.val = 1)
  | .dma n => decide (81 ≤ n.val)
theorem callOf_bar (c : Dev nD) : callOf (barCell c) = C.k := by
  obtain ⟨k⟩ := C; cases k <;> rfl
theorem callOf_dma (c : Dev nD) (n : LS) : callOf (dmaCell c n) = C.k := by
  have hn := n.isLt
  obtain ⟨k⟩ := C
  cases k
  · exact decide_eq_false (show ¬81 ≤ n.val by omega)
  · exact decide_eq_true (show 81 ≤ 81 + n.val by omega)
theorem due_other (d : Dev nD) (g : GSem nD τ sig) (u : Unit) (h : callOf g ≠ C.k) : due 0 d g u = 0 := by
  by_contra hn
  rcases due_pos (Nat.pos_of_ne_zero hn) with ⟨l, rfl⟩ | ⟨i, rfl⟩ | hz
  · exact h (callOf_bar _)
  · exact h (callOf_dma _ _)
  · exact absurd hz (lt_irrefl 0)

/-- What a device owes at the launch of the program: both calls' signals and arrivals. -/
abbrev owedAll (d : Dev nD) : CellTallies nD τ sig Unit := owed₀ (C := call0) d

theorem owedAll_own (d : Dev nD) (g : GSem nD τ sig) (u : Unit) (h : callOf g = C.k) : owedAll d g u = due 0 d g u := by
  unfold owedAll
  rw [owed₀_eq (C := call0)]
  obtain ⟨k⟩ := C
  change due (C := call1) 0 d g u + due (C := call0) 0 d g u = _
  cases k
  · rw [due_other (C := call1) d g u (by rw [h]; decide), Nat.zero_add]
  · rw [due_other (C := call0) d g u (by rw [h]; decide), Nat.add_zero]

theorem launch_bar (c : Dev nD) :
    tallyOn (barCell c) (launchCredit (Pipeline.owing owedAll) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => (owedAll_own d _ _ (callOf_bar c)).trans (due_bar d c)]
  exact sum_bar c
theorem launch_rcv (c : Dev nD) (i : Fin 60) :
    tallyOn (dmaCell c (rs i)) (launchCredit (Pipeline.owing owedAll) 0 (dmaCell c (rs i))) = (tallyAt (dmaCell c (rs i)) () N : CellTallies nD τ sig Unit) := by
  unfold tallyAt; refine congrArg _ (Finsupp.ext fun u => ?_); cases u
  rw [Pipeline.launchCredit_owing, Finsupp.single_eq_same, Finset.sum_congr rfl fun d _ => (owedAll_own d _ _ (callOf_dma c _)).trans (due_rcv d c i),
    Finset.sum_ite_eq' Finset.univ (nb (opp (msg i).link) c) fun _ => N, if_pos (Finset.mem_univ _)]

/-- The semaphores others raise at a device. -/
def raised : List (SemLoc sig) := SemLoc.reg barS :: (List.finRange 60).map fun i => SemLoc.dma (gs (rs i))

theorem dues_of (c : Dev nD) :
    star (fun sm => (cred (tallyOn ((c : Thread nD τ), sm) (launchCredit (Pipeline.owing owedAll) 0 ((c : Thread nD τ), sm))) : sProp 𝕄)) raised ⊢ dues c := by
  unfold raised star
  rw [star_map]
  change iprop(cred (tallyOn (barCell c) _) ∗ star (fun i => cred (tallyOn (dmaCell c (rs i)) _)) (List.finRange 60)) ⊢ _
  rw [launch_bar, star_congr _ fun i => by rw [launch_rcv c i]]
  exact BI.Entails.refl _

omit C in
theorem raised_nodup : (raised (C := call0) ++ raised (C := call1)).Nodup := by decide +kernel

omit C in
/-- The launch's credits, split between the calls. -/
theorem dues_intro (c : Dev nD) : (Pipeline.launchCred owedAll c : sProp 𝕄) ⊢ iprop(dues (C := call0) c ∗ dues (C := call1) c) := by
  have h0 := dues_of (F := F) (C := call0) c
  have h1 := dues_of (F := F) (C := call1) c
  unfold Pipeline.launchCred
  refine (bigSep_subset (Finset.subset_univ (raised (C := call0) ++ raised (C := call1)).toFinset)).trans ?_
  rw [← star_toFinset _ _ raised_nodup]
  refine (star_append (C := call0) _ _ _).1.trans ?_
  exact Idealize.SL.BI.sep_mono h0 h1

end Cert.ResidualProof

end
-- ==== Proof.Main.lean ====
/- The run of the whole program on sixteen devices: the operations before, between and after the two calls, and the calls. -/
module

public import proofs.«01_k».proof.Proof.Ghost
public import proofs.«01_k».proof.Proof.Gen.KernelIdeal.Points
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Quiescent

@[expose] public section

set_option maxRecDepth 16384

noncomputable section

namespace Cert.ResidualProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F]

local notation "𝕄" => MT nD τ sig Unit (Elt F) ℕ UU ℕ

/-! ## A call's body on a device -/

/-- A buffer held whole, at known contents. -/
abbrev own {s : Shape} (c : Dev nD) (M : Memref sig .tc .vmem s .f32) (x : Vec F s .f32) : sProp 𝕄 :=
  owns (Ix := Unit) (Name := ℕ) (U := UU) (Lvl := ℕ) (c : Thread nD τ) M fullShare x

theorem rep_whole (b : Ref sig .tc) (x : b.ty.Contents (Elt F)) : (Memref.whole b).view.rep x = x := by
  have h := (Memref.whole b).view.read_rep (Val := Elt F) x
  rwa [Memref.view_whole, View.read_whole] at h

theorem owns_some (c : Dev nD) (b : Ref sig .tc) (x : b.ty.Contents (Elt F)) :
    (owns (Ix := Unit) (Name := ℕ) (U := UU) (Lvl := ℕ) (c : Thread nD τ) (Memref.whole b) fullShare x : sProp 𝕄)
      = iprop(∃ f : Buf (Elt F) (((c : Dev nD) : Thread nD τ).loc b), ⌜f = x⌝ ∗ (((c : Thread nD τ).loc b) ↦{fullShare} f)) := by
  unfold owns; simp only [Memref.view_whole, View.read_whole, View.set_whole]
theorem some_eq (c : Dev nD) (b : Ref sig .tc) (x : b.ty.Contents (Elt F)) :
    iprop(∃ f : Buf (Elt F) (((c : Dev nD) : Thread nD τ).loc b), ⌜f = x⌝ ∗ (((c : Thread nD τ).loc b) ↦{fullShare} f))
      = ((((c : Thread nD τ).loc b) ↦{fullShare} x) : sProp 𝕄) := by
  have h1 : iprop(∃ f : Buf (Elt F) (((c : Dev nD) : Thread nD τ).loc b), ⌜f = x⌝ ∗ (((c : Thread nD τ).loc b) ↦{fullShare} f))
      ⊢ ((((c : Thread nD τ).loc b) ↦{fullShare} x) : sProp 𝕄) := by
    iintro ⟨%f, %h, H⟩
    subst h
    iexact H
  have h2 : ((((c : Thread nD τ).loc b) ↦{fullShare} x) : sProp 𝕄)
      ⊢ iprop(∃ f : Buf (Elt F) (((c : Dev nD) : Thread nD τ).loc b), ⌜f = x⌝ ∗ (((c : Thread nD τ).loc b) ↦{fullShare} f)) := by
    iintro H
    iexists x
    isplitr; · (ipureintro; rfl)
    iexact H
  exact equiv_iff.mp ⟨h1, h2⟩

theorem owns_whole (c : Dev nD) (b : Ref sig .tc) (x : b.ty.Contents (Elt F)) :
    (owns (Ix := Unit) (Name := ℕ) (U := UU) (Lvl := ℕ) (c : Thread nD τ) (Memref.whole b) fullShare x : sProp 𝕄)
      = ((Memref.whole b).view.loc (c : Thread nD τ) ↦{fullShare} (Memref.whole b).view.rep x) :=
  (owns_some c b x).trans ((some_eq c b x).trans (by rw [rep_whole]))

section
variable [C : Call] (X : Inp F)

theorem own_p (c : Dev nD) (x : Vec F S1024x768 .f32) : own c pM x = ((pM.view.loc (c : Thread nD τ)) ↦{fullShare} pM.view.rep x) := by
  obtain ⟨k⟩ := C; cases k; exacts [owns_whole c cc0_stg0_0 x, owns_whole c cc1_stg0_0 x]
theorem own_b (c : Dev nD) (x : Vec F S1024x768 .f32) : own c bM x = ((bM.view.loc (c : Thread nD τ)) ↦{fullShare} bM.view.rep x) := by
  obtain ⟨k⟩ := C; cases k; exacts [owns_whole c cc0_stg1_0 x, owns_whole c cc1_stg1_0 x]
theorem own_g (c : Dev nD) (x : Vec F S2x768 .f32) : own c gM x = ((gM.view.loc (c : Thread nD τ)) ↦{fullShare} gM.view.rep x) := by
  obtain ⟨k⟩ := C; cases k; exacts [owns_whole c cc0_stg2_0 x, owns_whole c cc1_stg2_0 x]
theorem own_o (c : Dev nD) (x : Vec F S1024x768 .f32) : own c oM x = ((oM.view.loc (c : Thread nD τ)) ↦{fullShare} oM.view.rep x) := by
  obtain ⟨k⟩ := C; cases k; exacts [owns_whole c cc0_stg3_0 x, owns_whole c cc1_stg3_0 x]

/-- What the body starts from. -/
def bodyPre (c : Dev nD) : sProp 𝕄 :=
  iprop((opened X c ∗ levAts L lv ∗ dues c) ∗ six c ∗ (∃ W, owes (c : Thread nD τ) (owed₀ c) W)
    ∗ own c pM (X.p c) ∗ own c bM (X.b c) ∗ own c gM (X.g c) ∗ ∃ x, own c oM x)
/-- What it ends with. -/
def bodyPost (c : Dev nD) : sProp 𝕄 :=
  iprop(zeros c ∗ six c ∗ (∃ W, owes (c : Thread nD τ) (later c) W)
    ∗ own c pM (X.p c) ∗ own c bM (X.b c) ∗ own c gM (X.g c) ∗ own c oM (outAt X))

theorem body_holds {Q : PUnit.{1} → sProp 𝕄} (c : Dev nD) (z : Reg F) : bodyPre X c ⊢ iprop((bodyPost X c -∗ Q ⟨⟩) -∗ wpd c (whole z) Q) := by
  have h := fun K => body_sound (Q := Q) X K c z
  have ho (x : Vec F S1024x768 .f32) : ((oM.view.loc (c : Thread nD τ)) ↦{fullShare} oM.view.rep x : sProp 𝕄) ⊢ some_ c oM := by
    unfold some_
    iintro H
    iexists _; iexact H
  unfold bodyPre bodyPost opened
  simp only [own_p, own_b, own_g, own_o]
  unfold before after bAll gAll at h
  iintro ⟨⟨⟨%K, Hrec, Hpl, Hri⟩, Hlev, Hdu⟩, Hsix, HO, Hp, Hb, Hg, ⟨%x, Hx⟩⟩ Hk
  iapply (h K) $$ [Hrec Hpl Hri Hlev Hdu Hsix HO Hp Hb Hg Hx]
  · isplitl [Hrec]; · iexact Hrec
    isplitl [Hlev]; · iexact Hlev
    isplitl [Hpl]; · iexact Hpl
    isplitl [Hdu]; · iexact Hdu
    isplitl [Hri]; · iexact Hri
    isplitl [Hsix]; · iexact Hsix
    isplitl [HO]; · iexact HO
    isplitl [Hp]; · iexact Hp
    isplitl [Hb]; · iexact Hb
    isplitl [Hg]; · iexact Hg
    iapply (ho x); iexact Hx
  iexact Hk

/-- What a call's body has before its one point, and after it. -/
def Xk (c : Dev nD) : sProp 𝕄 := iprop(opened X c ∗ levAts L lv ∗ dues c)

theorem hopen (c : Dev nD) : iprop((kept X c ∗ dues c)
      ∗ Pipeline.ownSems0 (Ix := Unit) (Name := ℕ) (U := UU) (Lvl := ℕ) (Val := Elt F) (τ := τ) osem c ∗ levAts L lv) ⊢ |={Set.univ}=> Xk X c := by
  have h := open_cells X c
  unfold Xk
  iintro ⟨⟨Hk, Hd⟩, Hs, Hl⟩
  imod h $$ [Hk Hs] with Ho
  · isplitl [Hk] <;> iassumption
  imodintro
  isplitl [Ho]; · iexact Ho
  isplitl [Hl] <;> iassumption
end

theorem owes_in {cfg : Pipeline.Cfg sig Λ₀} {c : Dev nD} (D : Dat τ (Elt F) Unit ℕ UU ℕ cfg c) (t : Fin (cfg.N + 1)) :
    D.owesAt () t ⊢ iprop(∃ W, owes (c : Thread nD τ) (D.owed t) W) := by
  unfold Dat.owesAt Pipeline.owesWithin
  iintro ⟨%W, -, H⟩
  iexists W; iexact H
theorem owes_out {cfg : Pipeline.Cfg sig Λ₀} {c : Dev nD} (D : Dat τ (Elt F) Unit ℕ UU ℕ cfg c) (t : Fin (cfg.N + 1))
    (h : D.recorded t = Set.univ) : iprop(∃ W, owes (c : Thread nD τ) (D.owed t) W) ⊢ D.owesAt () t := by
  unfold Dat.owesAt Pipeline.owesWithin
  iintro ⟨%W, H⟩
  iexists W
  isplitr
  · ipureintro
    intro x _
    unfold Dat.bound
    rw [h]; exact Or.inl trivial
  iexact H

/-- The scratch buffers of a call among the buffers no window of it stages. -/
theorem six_0 (c : Dev nD) : (Pipeline.scopedRest (Ix := Unit) (Name := ℕ) (U := UU) (Lvl := ℕ) (Val := Elt F) spec0 c : sProp 𝕄)
    ⊢ iprop(six (C := call0) c ∗ (six (C := call0) c -∗ Pipeline.scopedRest spec0 c)) := by
  rw [scopedRest0_eq]
  unfold six some_
  iintro ⟨H0, H1, H2, H3, H4, H5, HR⟩
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [H0]; · iexact H0
  isplitl [H1]; · iexact H1
  isplitl [H2]; · iexact H2
  isplitl [H3]; · iexact H3
  isplitl [H4]; · iexact H4
  isplitl [H5]; · iexact H5
  iexact HR
theorem six_1 (c : Dev nD) : (Pipeline.scopedRest (Ix := Unit) (Name := ℕ) (U := UU) (Lvl := ℕ) (Val := Elt F) spec1 c : sProp 𝕄)
    ⊢ iprop(six (C := call1) c ∗ (six (C := call1) c -∗ Pipeline.scopedRest spec1 c)) := by
  rw [scopedRest1_eq]
  unfold six some_
  iintro ⟨HA, HB, HC, HD, HE, HF, HG, HH, HI, HJ, HR⟩
  isplitl [HR]; · iexact HR
  iintro HR
  isplitl [HA]; · iexact HA
  isplitl [HB]; · iexact HB
  isplitl [HC]; · iexact HC
  isplitl [HD]; · iexact HD
  isplitl [HE]; · iexact HE
  isplitl [HF]; · iexact HF
  isplitl [HG]; · iexact HG
  isplitl [HH]; · iexact HH
  isplitl [HI]; · iexact HI
  isplitl [HJ]; · iexact HJ
  iexact HR

/-! ## What the calls read and leave -/

section
variable (m : (ℓ : Loc nD τ sig) → Buf (Elt F) ℓ)

/-- What every device's first call reads. -/
def X0 : Inp F where
  p c := (win0_0.blk (0 : Fin 1)).view.read (Elt F) (V3 m c main_v52)
  b c := (win0_1.blk (0 : Fin 1)).view.read (Elt F) (V3 m c main_v53)
  g c := (win0_2.blk (0 : Fin 1)).view.read (Elt F) (V3 m c main_v4)
/-- What the first call leaves. -/
def outs0 : Outs (F := F) := fun _ r c => (Function.update (V0 m c) main_v54 (outAt (X0 m)) : Valuation τ sig (Elt F)) r
/-- What every device's second call reads. -/
def X1 : Inp F where
  p c := (win1_0.blk (0 : Fin 1)).view.read (Elt F) (V7 m (outs0 m) c main_v85)
  b c := (win1_1.blk (0 : Fin 1)).view.read (Elt F) (V7 m (outs0 m) c main_v54)
  g c := (win1_2.blk (0 : Fin 1)).view.read (Elt F) (V7 m (outs0 m) c main_v7)
/-- What the two calls leave. -/
def outs : Outs (F := F) := fun J r c => match J with
  | 4 => outs0 m 4 r c
  | _ => (Function.update (V0 m c) main_v86 (outAt (X1 m)) : Valuation τ sig (Elt F)) r

theorem outs_54 (c : Dev nD) : V4 m (outs m) c main_v54 = outAt (X0 m) := by
  unfold V4; rw [Function.update_self]
  exact Function.update_self (β := fun b : DevRef τ sig => b.ty.Contents (Elt F)) (Proc.devRef .tc main_v54) (outAt (X0 m)) (V0 m c)
theorem outs_86 (c : Dev nD) : V8 m (outs m) c main_v86 = outAt (X1 m) := by
  unfold V8; rw [Function.update_self]
  exact Function.update_self (β := fun b : DevRef τ sig => b.ty.Contents (Elt F)) (Proc.devRef .tc main_v86) (outAt (X1 m)) (V0 m c)

/-- What the first call's pipeline is proved with on a device. -/
def datOf0 (X : Inp F) (V : Dev nD → Valuation τ sig (Elt F)) (c : Dev nD) : Dat τ (Elt F) Unit ℕ UU ℕ cfg0 c where
  A w := (fun ℓ : Loc nD τ sig => V c ℓ.2 : (ℓ : Loc nD τ sig) → Buf (Elt F) ℓ) ((cfg0.win w).arr.view.loc (c : Thread nD τ))
  after w _ := match w with
    | ⟨0, _⟩ => X.p c
    | ⟨1, _⟩ => X.b c
    | ⟨2, _⟩ => X.g c
    | ⟨3, _⟩ => outAt X
  Φ t := match t with
    | ⟨0, _⟩ => iprop(Pipeline.scopedRest spec0 c ∗ (∃ r, prngReg c r) ∗ Xk (C := call0) X c)
    | ⟨_ + 1, _⟩ => iprop(Pipeline.scopedRest spec0 c ∗ (∃ r, prngReg c r) ∗ zeros (C := call0) c)
  q _ := fullShare
  owed t := match t with
    | ⟨0, _⟩ => owed₀ (C := call0) c
    | ⟨_ + 1, _⟩ => later (C := call0) c
abbrev dat0 (c : Dev nD) : Dat τ (Elt F) Unit ℕ UU ℕ cfg0 c := datOf0 (X0 m) (V3 m) c

theorem begins0 (X : Inp F) (V : Dev nD → Valuation τ sig (Elt F)) (c : Dev nD) (w : Fin cfg0.W) :
    (datOf0 X V c).arrAt w 0 = V c (Proc.devRef .tc (Pipeline.arrRef spec0 w)) := by
  fin_cases w <;> rfl
theorem ends0 (X : Inp F) (V : Dev nD → Valuation τ sig (Elt F)) (c : Dev nD) (V' : Valuation τ sig (Elt F))
    (h0 : V' main_v52 = V c main_v52) (h1 : V' main_v53 = V c main_v53) (h2 : V' main_v4 = V c main_v4)
    (h3 : (datOf0 X V c).arrAt (3 : Fin 4) cfg0.N = V' main_v54) (w : Fin cfg0.W) :
    (datOf0 X V c).arrAt w cfg0.N = V' (Proc.devRef .tc (Pipeline.arrRef spec0 w)) := by
  fin_cases w
  · exact ((datOf0 X V c).arrAt_in (0 : Fin 4) rfl _).trans h0.symm
  · exact ((datOf0 X V c).arrAt_in (1 : Fin 4) rfl _).trans h1.symm
  · exact ((datOf0 X V c).arrAt_in (2 : Fin 4) rfl _).trans h2.symm
  · exact h3

/-- What the second call's pipeline is proved with on a device. -/
def datOf1 (X : Inp F) (V : Dev nD → Valuation τ sig (Elt F)) (c : Dev nD) : Dat τ (Elt F) Unit ℕ UU ℕ cfg1 c where
  A w := (fun ℓ : Loc nD τ sig => V c ℓ.2 : (ℓ : Loc nD τ sig) → Buf (Elt F) ℓ) ((cfg1.win w).arr.view.loc (c : Thread nD τ))
  after w _ := match w with
    | ⟨0, _⟩ => X.p c
    | ⟨1, _⟩ => X.b c
    | ⟨2, _⟩ => X.g c
    | ⟨3, _⟩ => outAt X
  Φ t := match t with
    | ⟨0, _⟩ => iprop(Pipeline.scopedRest spec1 c ∗ (∃ r, prngReg c r) ∗ Xk (C := call1) X c)
    | ⟨_ + 1, _⟩ => iprop(Pipeline.scopedRest spec1 c ∗ (∃ r, prngReg c r) ∗ zeros (C := call1) c)
  q _ := fullShare
  owed t := match t with
    | ⟨0, _⟩ => owed₀ (C := call1) c
    | ⟨_ + 1, _⟩ => later (C := call1) c
abbrev dat1 (c : Dev nD) : Dat τ (Elt F) Unit ℕ UU ℕ cfg1 c := datOf1 (X1 m) (V7 m (outs m)) c

theorem begins1 (X : Inp F) (V : Dev nD → Valuation τ sig (Elt F)) (c : Dev nD) (w : Fin cfg1.W) :
    (datOf1 X V c).arrAt w 0 = V c (Proc.devRef .tc (Pipeline.arrRef spec1 w)) := by
  fin_cases w <;> rfl
theorem ends1 (X : Inp F) (V : Dev nD → Valuation τ sig (Elt F)) (c : Dev nD) (V' : Valuation τ sig (Elt F))
    (h0 : V' main_v85 = V c main_v85) (h1 : V' main_v54 = V c main_v54) (h2 : V' main_v7 = V c main_v7)
    (h3 : (datOf1 X V c).arrAt (3 : Fin 4) cfg1.N = V' main_v86) (w : Fin cfg1.W) :
    (datOf1 X V c).arrAt w cfg1.N = V' (Proc.devRef .tc (Pipeline.arrRef spec1 w)) := by
  fin_cases w
  · exact ((datOf1 X V c).arrAt_in (0 : Fin 4) rfl _).trans h0.symm
  · exact ((datOf1 X V c).arrAt_in (1 : Fin 4) rfl _).trans h1.symm
  · exact ((datOf1 X V c).arrAt_in (2 : Fin 4) rfl _).trans h2.symm
  · exact h3

def pdats (p : Fin 2) (c : Dev nD) : Dat τ (Elt F) Unit ℕ UU ℕ (cfgs p) c := match p with
  | 0 => dat0 m c
  | 1 => dat1 m c

theorem before0 (c : Dev nD) : (∀ d, (dat0 m c).before (0 : Fin 4) t0_0 d = (X0 m).p c)
    ∧ (∀ d, (dat0 m c).before (1 : Fin 4) t0_0 d = (X0 m).b c) ∧ ∀ d, (dat0 m c).before (2 : Fin 4) t0_0 d = (X0 m).g c := by
  unfold Dat.before; exact ⟨fun _ => (if_pos (fetch0_0 t0_0)).trans rfl, fun _ => (if_pos (fetch0_1 t0_0)).trans rfl, fun _ => (if_pos (fetch0_2 t0_0)).trans rfl⟩
theorem before1 (c : Dev nD) : (∀ d, (dat1 m c).before (0 : Fin 4) t1_0 d = (X1 m).p c)
    ∧ (∀ d, (dat1 m c).before (1 : Fin 4) t1_0 d = (X1 m).b c) ∧ ∀ d, (dat1 m c).before (2 : Fin 4) t1_0 d = (X1 m).g c := by
  unfold Dat.before; exact ⟨fun _ => (if_pos (fetch1_0 t1_0)).trans rfl, fun _ => (if_pos (fetch1_1 t1_0)).trans rfl, fun _ => (if_pos (fetch1_2 t1_0)).trans rfl⟩

/-- A call's body, with the buffers its windows stage and those they do not. -/
theorem body_step [C : Call] (X : Inp F) (c : Dev nD) (z : Reg F) (R Po Pp : sProp 𝕄) (hR : R ⊢ iprop(six c ∗ (six c -∗ R)))
    (xp xb xo : Vec F S1024x768 .f32) (xg : Vec F S2x768 .f32) (hp : xp = X.p c) (hb : xb = X.b c) (hg : xg = X.g c)
    (hi : Po ⊢ iprop(∃ W, owes (c : Thread nD τ) (owed₀ c) W)) (ho : iprop(∃ W, owes (c : Thread nD τ) (later c) W) ⊢ Pp) :
    iprop((R ∗ (∃ r, prngReg c r) ∗ Xk X c) ∗ Po ∗ own c pM xp ∗ own c bM xb ∗ own c gM xg ∗ own c oM xo)
      ⊢ wpd c (whole z) (fun _ => iprop((R ∗ (∃ r, prngReg c r) ∗ zeros c) ∗ Pp ∗ own c pM (X.p c) ∗ own c bM (X.b c) ∗ own c gM (X.g c) ∗ own c oM (outAt X))) := by
  subst hp hb hg
  have h := fun Q => body_holds (Q := Q) X c z
  iintro ⟨⟨HR, Hr, HX⟩, Ho, Hp, Hb, Hg, Hx⟩
  ihave HR := hR $$ HR
  icases HR with ⟨Hsix, HR⟩
  iapply (h _) $$ [HX Hsix Ho Hp Hb Hg Hx]
  · unfold bodyPre Xk
    isplitl [HX]; · iexact HX
    isplitl [Hsix]; · iexact Hsix
    isplitl [Ho]; · iapply hi; iexact Ho
    isplitl [Hp]; · iexact Hp
    isplitl [Hb]; · iexact Hb
    isplitl [Hg]; · iexact Hg
    iexists xo; iexact Hx
  unfold bodyPost
  iintro ⟨Hz, Hsix, Ho, Hp, Hb, Hg, Hx⟩
  isplitl [HR Hr Hz Hsix]
  · isplitl [HR Hsix]; · (iapply HR; iexact Hsix)
    isplitl [Hr] <;> iassumption
  isplitl [Ho]; · iapply ho; iexact Ho
  isplitl [Hp]; · iexact Hp
  isplitl [Hb]; · iexact Hb
  isplitl [Hg] <;> iassumption

/-- A register's contents, for a run whose contents do not matter. -/
def z0 [C : Call] (X : Inp F) : Reg F := val X 0 (.p 0 0 0)

theorem obligation0 (c : Dev nD) : BodyObligation (dat0 m c) (defs₀ (F := F)) 𝒱₀ () Set.univ := fun t => by
  rw [show t = t0_0 from fin_N0 t]
  rw [bigSep_W0, bigSep_W0]
  have hi := owes_in (dat0 m c) (t0_0 : Fin cfg0.N).castSucc
  rw [show (dat0 m c).owed (t0_0 : Fin cfg0.N).castSucc = owed₀ (C := call0) c from rfl] at hi
  have ho := owes_out (dat0 m c) (t0_0 : Fin cfg0.N).succ rfl
  rw [show (dat0 m c).owed (t0_0 : Fin cfg0.N).succ = later (C := call0) c from rfl] at ho
  have h := fun d0 d1 d2 (xo : Vec F S1024x768 .f32) => body_step (C := call0) (X0 m) c (z0 (C := call0) (X0 m)) (Pipeline.scopedRest spec0 c) ((dat0 m c).owesAt () (t0_0 : Fin cfg0.N).castSucc)
    ((dat0 m c).owesAt () (t0_0 : Fin cfg0.N).succ) (six_0 c) _ _ xo _ ((before0 m c).1 d0) ((before0 m c).2.1 d1) ((before0 m c).2.2 d2) hi ho
  change iprop((Pipeline.scopedRest spec0 c ∗ (∃ r, prngReg c r) ∗ Xk (C := call0) (X0 m) c) ∗ _ ∗ (∃ d, own c (pM (C := call0)) _) ∗ (∃ d, own c (bM (C := call0)) _) ∗ (∃ d, own c (gM (C := call0)) _) ∗ (∃ d, own c (oM (C := call0)) _)) ⊢ wpd c (bodyAt0 (F := F) t0_0)
    (fun _ => iprop((Pipeline.scopedRest spec0 c ∗ (∃ r, prngReg c r) ∗ zeros (C := call0) c) ∗ _ ∗ own c (pM (C := call0)) ((X0 m).p c) ∗ own c (bM (C := call0)) ((X0 m).b c)
      ∗ own c (gM (C := call0)) ((X0 m).g c) ∗ own c (oM (C := call0)) (outAt (X0 m))))
  rw [body_eq0 (C := call0) (z0 (C := call0) (X0 m))]
  iintro ⟨HF, HO, ⟨%d0, H0⟩, ⟨%d1, H1⟩, ⟨%d2, H2⟩, ⟨%d3, H3⟩⟩
  iapply (h d0 d1 d2 _)
  isplitl [HF]; · iexact HF
  isplitl [HO]; · iexact HO
  isplitl [H0]; · iexact H0
  isplitl [H1]; · iexact H1
  isplitl [H2] <;> iassumption

set_option maxRecDepth 131072 in
theorem obligation1 (c : Dev nD) : BodyObligation (dat1 m c) (defs₀ (F := F)) 𝒱₀ () Set.univ := fun t => by
  rw [show t = t1_0 from fin_N1 t]
  rw [bigSep_W1, bigSep_W1]
  have hi := owes_in (dat1 m c) (t1_0 : Fin cfg1.N).castSucc
  rw [show (dat1 m c).owed (t1_0 : Fin cfg1.N).castSucc = owed₀ (C := call1) c from rfl] at hi
  have ho := owes_out (dat1 m c) (t1_0 : Fin cfg1.N).succ rfl
  rw [show (dat1 m c).owed (t1_0 : Fin cfg1.N).succ = later (C := call1) c from rfl] at ho
  have h := fun d0 d1 d2 (xo : Vec F S1024x768 .f32) => body_step (C := call1) (X1 m) c (z0 (C := call1) (X1 m)) (Pipeline.scopedRest spec1 c) ((dat1 m c).owesAt () (t1_0 : Fin cfg1.N).castSucc)
    ((dat1 m c).owesAt () (t1_0 : Fin cfg1.N).succ) (six_1 c) _ _ xo _ ((before1 m c).1 d0) ((before1 m c).2.1 d1) ((before1 m c).2.2 d2) hi ho
  change iprop((Pipeline.scopedRest spec1 c ∗ (∃ r, prngReg c r) ∗ Xk (C := call1) (X1 m) c) ∗ _ ∗ (∃ d, own c (pM (C := call1)) _) ∗ (∃ d, own c (bM (C := call1)) _) ∗ (∃ d, own c (gM (C := call1)) _) ∗ (∃ d, own c (oM (C := call1)) _)) ⊢ wpd c (bodyAt1 (F := F) t1_0)
    (fun _ => iprop((Pipeline.scopedRest spec1 c ∗ (∃ r, prngReg c r) ∗ zeros (C := call1) c) ∗ _ ∗ own c (pM (C := call1)) ((X1 m).p c) ∗ own c (bM (C := call1)) ((X1 m).b c)
      ∗ own c (gM (C := call1)) ((X1 m).g c) ∗ own c (oM (C := call1)) (outAt (X1 m))))
  rw [body_eq1 (C := call1) (z0 (C := call1) (X1 m))]
  iintro ⟨HF, HO, ⟨%d0, H0⟩, ⟨%d1, H1⟩, ⟨%d2, H2⟩, ⟨%d3, H3⟩⟩
  iapply (h d0 d1 d2 _)
  isplitl [HF]; · iexact HF
  isplitl [HO]; · iexact HO
  isplitl [H0]; · iexact H0
  isplitl [H1]; · iexact H1
  isplitl [H2] <;> iassumption

/-! ## The two calls in the program -/

theorem ownSemFacts0 : Pipeline.OwnSemFacts spec0 (osem (C := call0)) := by decide +kernel
theorem ownSemFacts1 : Pipeline.OwnSemFacts spec1 (osem (C := call1)) := by decide +kernel

def kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
def kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- The staging semaphores' levels are zero. -/
theorem lv_stage0 (c : Dev nD) (w : Fin cfg0.W) (s : Fin (cfg0.win w).nbuf) : lv ((c : Thread nD τ), .dma ((cfg0.win w).sem s)) () = 0 := by
  fin_cases w <;> fin_cases s <;> rfl
theorem lv_stage1 (c : Dev nD) (w : Fin cfg1.W) (s : Fin (cfg1.win w).nbuf) : lv ((c : Thread nD τ), .dma ((cfg1.win w).sem s)) () = 0 := by
  fin_cases w <;> fin_cases s <;> rfl

theorem cut0 : Pipeline.LevelCutOwed (pcfgs (F := F)) adm (pdats m) () L lv 0 (fun _ => 0) where
  hι c w s := by rw [L_tc (C := call0)]; exact Finset.mem_singleton_self _
  hιb c w s := (lv_stage0 c w s).le
  hD c t g i h := by
    rcases t with ⟨_ | _, ht⟩
    · exact above (C := call0) (d := c) (Or.inl h)
    · exact above (C := call0) (d := c) (Or.inr h)
theorem cut1 : Pipeline.LevelCutOwed (pcfgs (F := F)) adm (pdats m) () L lv 1 (fun _ => 0) where
  hι c w s := by rw [L_tc (C := call0)]; exact Finset.mem_singleton_self _
  hιb c w s := (lv_stage1 c w s).le
  hD c t g i h := by
    rcases t with ⟨_ | _, ht⟩
    · exact above (C := call1) (d := c) (Or.inl h)
    · exact above (C := call1) (d := c) (Or.inr h)

/-- The first call's result buffer holds what the call leaves. -/
theorem final0 (c : Dev nD) : (dat0 m c).arrAt (3 : Fin 4) cfg0.N = outAt (X0 m) := by
  have hr := fun f => Memref.read_access_unit_zero (Elt F) main_v54 (off := fun a => (win0_3.index (0 : Fin 1)) a * main_v54.ty.shape.size a)
    (funext fun a => by fin_cases a <;> decide) (fun a => by fin_cases a <;> decide) f
  have ho : (win0_3.blk (0 : Fin 1)).view.read (Elt F) ((dat0 m c).arrAt (3 : Fin 4) cfg0.N) = outAt (X0 m) := by
    rw [show cfg0.N = ((0 : Fin 1) : Fin cfg0.N).val + 1 from rfl, (dat0 m c).arrAt_succ (3 : Fin 4) (0 : Fin 1)]
    rw [show (cfg0.win (3 : Fin 4)).flush (0 : Fin 1) = true from by decide, if_pos rfl]
    exact View.read_write_univ _ _
  exact (hr _).symm.trans ho
theorem final1 (c : Dev nD) : (dat1 m c).arrAt (3 : Fin 4) cfg1.N = outAt (X1 m) := by
  have hr := fun f => Memref.read_access_unit_zero (Elt F) main_v86 (off := fun a => (win1_3.index (0 : Fin 1)) a * main_v86.ty.shape.size a)
    (funext fun a => by fin_cases a <;> decide) (fun a => by fin_cases a <;> decide) f
  have ho : (win1_3.blk (0 : Fin 1)).view.read (Elt F) ((dat1 m c).arrAt (3 : Fin 4) cfg1.N) = outAt (X1 m) := by
    rw [show cfg1.N = ((0 : Fin 1) : Fin cfg1.N).val + 1 from rfl, (dat1 m c).arrAt_succ (3 : Fin 4) (0 : Fin 1)]
    rw [show (cfg1.win (3 : Fin 4)).flush (0 : Fin 1) = true from by decide, if_pos rfl]
    exact View.read_write_univ _ _
  exact (hr _).symm.trans ho

/-- The buffers outside every call's own that no window of the first call stages, and of the second. -/
abbrev others0 : Finset (DevRef τ sig) := Pipeline.ucRefs τ sig \ Pipeline.arrRefs spec0
abbrev others1 : Finset (DevRef τ sig) := Pipeline.ucRefs τ sig \ Pipeline.arrRefs spec1

/-- What a device keeps for the second call, before and during the first. -/
def forNext (c : Dev nD) : sProp 𝕄 := iprop(kept (C := call1) (X1 m) c ∗ dues (C := call1) c)

theorem held_none (c : Dev nD) (V : Valuation τ sig (Elt F)) :
    (StableHlo.held (Ix := Unit) (Name := ℕ) (U := UU) (Lvl := ℕ) (c.tc : Thread nD τ) ∅ V : sProp 𝕄) = iprop(emp) := bigSep_empty

/-- What enters a call's one point. -/
theorem enter [C : Call] (X : Inp F) (c : Dev nD) (R : sProp 𝕄) (V : Valuation τ sig (Elt F)) :
    iprop(R ∗ (∃ r, prngReg c r) ∗ StableHlo.held (c.tc : Thread nD τ) ∅ V ∗ Xk X c) ⊢ iprop(R ∗ (∃ r, prngReg c r) ∗ Xk X c) := by
  iintro ⟨HR, Hr, -, HX⟩
  isplitl [HR]; · iexact HR
  isplitl [Hr]; · iexact Hr
  iexact HX

/-- What leaves it. -/
theorem leave [C : Call] (c : Dev nD) (R : sProp 𝕄) (V : Valuation τ sig (Elt F)) : iprop(R ∗ (∃ r, prngReg c r) ∗ zeros c)
    ⊢ iprop(R ∗ (∃ r, prngReg c r) ∗ StableHlo.held (c.tc : Thread nD τ) ∅ V
      ∗ Pipeline.ownSems0 (Ix := Unit) (Name := ℕ) (U := UU) (Lvl := ℕ) (Val := Elt F) (τ := τ) osem c ∗ semVal (barCell c) 0) := by
  rw [held_none]
  iintro ⟨HR, Hr, HX⟩
  ihave HX := (zeros_elim c) $$ HX
  isplitl [HR]; · iexact HR
  isplitl [Hr]; · iexact Hr
  isplitr; · iempintro
  iexact HX

/-- The first call among the program's items. -/
def R0 : RegionSeg (pcfgs (F := F)) adm (pdats m) () defs₀ 𝒱₀ L lv 0 :=
  RegionSeg.ofTalk (pcfgs (F := F)) adm (pdats m) () defs₀ 𝒱₀ L lv 0 (osem (C := call0)) ownSemFacts0 ∅ others0 (Finset.empty_subset _) kit0 rfl
    (hbody := fun c => (obligation0 m c).loose)
    (D := later (C := call0)) (due := due (C := call0) 0) (howed0 := fun c => owed₀_eq (C := call0) c) (howedN := fun c => rfl)
    (hrec := fun c => rfl) (hshare := fun c w => by unfold Dat.share; split <;> rfl)
    (W := V3 m) (W' := V4 m (outs m)) (hrest := fun c b hb => by
      unfold V4
      refine Function.update_of_ne (fun h => ?_) _ _
      subst h
      revert hb
      decide +kernel)
    (Tk := fun c => iprop(kept (C := call0) (X0 m) c ∗ dues (C := call0) c)) (Tk' := fun c => semVal (barCell (C := call0) c) 0)
    (Xk := fun c => Xk (C := call0) (X0 m) c) (Yk := fun c => semVal (barCell (C := call0) c) 0)
    (hopen := fun c => hopen (C := call0) (X0 m) c)
    (hin := fun c => enter (C := call0) (X0 m) c _ _) (hout := fun c => leave (C := call0) c _ _)
    (hclose := fun c => fupd_intro) (b := fun _ => 0) (hcut := cut0 m)
    (Er := forNext m)
    (hW := fun c w => begins0 (X0 m) (V3 m) c w)
    (hW' := fun c => ends0 (X0 m) (V3 m) c _ (V4_of m (outs m) c main_v52 (by decide)) (V4_of m (outs m) c main_v53 (by decide))
      (V4_of m (outs m) c main_v4 (by decide)) ((final0 m c).trans (outs_54 m c).symm))

/-- The second. -/
def R1 : RegionSeg (pcfgs (F := F)) adm (pdats m) () defs₀ 𝒱₀ L lv 1 :=
  RegionSeg.ofTalk (pcfgs (F := F)) adm (pdats m) () defs₀ 𝒱₀ L lv 1 (osem (C := call1)) ownSemFacts1 ∅ others1 (Finset.empty_subset _) kit1 rfl
    (hbody := fun c => (obligation1 m c).loose)
    (D := later (C := call1)) (due := due (C := call1) 0) (howed0 := fun c => owed₀_eq (C := call1) c) (howedN := fun c => rfl)
    (hrec := fun c => rfl) (hshare := fun c w => by unfold Dat.share; split <;> rfl)
    (W := V7 m (outs m)) (W' := V8 m (outs m)) (hrest := fun c b hb => by
      unfold V8
      refine Function.update_of_ne (fun h => ?_) _ _
      subst h
      revert hb
      decide +kernel)
    (Tk := fun c => iprop(kept (C := call1) (X1 m) c ∗ dues (C := call1) c)) (Tk' := fun c => semVal (barCell (C := call1) c) 0)
    (Xk := fun c => Xk (C := call1) (X1 m) c) (Yk := fun c => semVal (barCell (C := call1) c) 0)
    (hopen := fun c => hopen (C := call1) (X1 m) c)
    (hin := fun c => enter (C := call1) (X1 m) c _ _) (hout := fun c => leave (C := call1) c _ _)
    (hclose := fun c => fupd_intro) (b := fun _ => 0) (hcut := cut1 m)
    (Er := fun c => semVal (barCell (C := call0) c) 0)
    (hW := fun c w => begins1 (X1 m) (V7 m (outs m)) c w)
    (hW' := fun c => ends1 (X1 m) (V7 m (outs m)) c _ (V8_of m (outs m) c main_v85 (by decide)) (V8_of m (outs m) c main_v54 (by decide))
      (V8_of m (outs m) c main_v7 (by decide)) ((final1 m c).trans (outs_86 m c).symm))

/-- What a device holds besides its buffers before the first call, between the two, and after the second. -/
def E (k : Fin 3) (c : Dev nD) : sProp 𝕄 := match k with
  | 0 => iprop((∃ r, prngReg c r) ∗ (kept (C := call0) (X0 m) c ∗ dues (C := call0) c) ∗ forNext m c
      ∗ ∃ W, owes (c : Thread nD τ) (owed₀ (C := call0) c) W)
  | 1 => iprop((∃ r, prngReg c r) ∗ semVal (barCell (C := call0) c) 0 ∗ forNext m c ∗ ∃ W, owes (c : Thread nD τ) (later (C := call0) c) W)
  | 2 => iprop((semVal (barCell (C := call0) c) 0 ∗ semVal (barCell (C := call1) c) 0) ∗ ∃ W, owes (c : Thread nD τ) (later (C := call1) c) W)

theorem arr_sub0 : Pipeline.arrRefs spec0 ⊆ Pipeline.ucRefs τ sig := Pipeline.arrRefs_sub_ucRefs spec0 (by decide)
theorem arr_sub1 : Pipeline.arrRefs spec1 ⊆ Pipeline.ucRefs τ sig := Pipeline.arrRefs_sub_ucRefs spec1 (by decide)

theorem hpre0 (c : Dev nD) : iprop(StableHlo.held (c : Thread nD τ) (Pipeline.ucRefs τ sig) (V3 m c) ∗ E m 0 c) ⊢ (R0 m).pre c := by
  rw [StableHlo.held_sub_split (c : Thread nD τ) arr_sub0]
  change _ ⊢ iprop(StableHlo.held (c.tc : Thread nD τ) (Pipeline.arrRefs spec0) (V3 m c) ∗ (∃ r, prngReg c r)
    ∗ (StableHlo.held (c.tc : Thread nD τ) others0 (V3 m c) ∗ forNext m c) ∗ (kept (C := call0) (X0 m) c ∗ dues (C := call0) c)
    ∗ ∃ Wd, owes (c : Thread nD τ) (later (C := call0) c + due (C := call0) 0 c) Wd)
  rw [← owed₀_eq (C := call0) c]
  unfold E
  iintro ⟨⟨Ha, Ho⟩, Hr, Hk, Hn, HW⟩
  isplitl [Ha]; · iexact Ha
  isplitl [Hr]; · iexact Hr
  isplitl [Ho Hn]
  · isplitl [Ho]; · iexact Ho
    iexact Hn
  isplitl [Hk]; · iexact Hk
  iexact HW

theorem hpost0 (c : Dev nD) : (R0 m).post c ⊢ iprop(StableHlo.held (c : Thread nD τ) (Pipeline.ucRefs τ sig) (V4 m (outs m) c) ∗ E m 1 c) := by
  rw [StableHlo.held_sub_split (c : Thread nD τ) arr_sub0]
  change iprop(StableHlo.held (c.tc : Thread nD τ) (Pipeline.arrRefs spec0) (V4 m (outs m) c) ∗ (∃ r, prngReg c r)
    ∗ (StableHlo.held (c.tc : Thread nD τ) others0 (V4 m (outs m) c) ∗ forNext m c) ∗ semVal (barCell (C := call0) c) 0
    ∗ ∃ Wd, owes (c : Thread nD τ) (later (C := call0) c) Wd) ⊢ _
  unfold E
  iintro ⟨Ha, Hr, ⟨Ho, Hn⟩, Hk, HW⟩
  isplitl [Ha Ho]
  · isplitl [Ha]; · iexact Ha
    iexact Ho
  isplitl [Hr]; · iexact Hr
  isplitl [Hk]; · iexact Hk
  isplitl [Hn]; · iexact Hn
  iexact HW

theorem hpre1 (c : Dev nD) : iprop(StableHlo.held (c : Thread nD τ) (Pipeline.ucRefs τ sig) (V7 m (outs m) c) ∗ E m 1 c) ⊢ (R1 m).pre c := by
  rw [StableHlo.held_sub_split (c : Thread nD τ) arr_sub1]
  change _ ⊢ iprop(StableHlo.held (c.tc : Thread nD τ) (Pipeline.arrRefs spec1) (V7 m (outs m) c) ∗ (∃ r, prngReg c r)
    ∗ (StableHlo.held (c.tc : Thread nD τ) others1 (V7 m (outs m) c) ∗ semVal (barCell (C := call0) c) 0) ∗ (kept (C := call1) (X1 m) c ∗ dues (C := call1) c)
    ∗ ∃ Wd, owes (c : Thread nD τ) (later (C := call1) c + due (C := call1) 0 c) Wd)
  rw [show later (C := call1) c + due (C := call1) 0 c = later (C := call0) c from zero_add _]
  unfold E forNext
  iintro ⟨⟨Ha, Ho⟩, Hr, Hb, Hk, HW⟩
  isplitl [Ha]; · iexact Ha
  isplitl [Hr]; · iexact Hr
  isplitl [Ho Hb]
  · isplitl [Ho]; · iexact Ho
    iexact Hb
  isplitl [Hk]; · iexact Hk
  iexact HW

theorem hpost1 (c : Dev nD) : (R1 m).post c ⊢ iprop(StableHlo.held (c : Thread nD τ) (Pipeline.ucRefs τ sig) (V8 m (outs m) c) ∗ E m 2 c) := by
  rw [StableHlo.held_sub_split (c : Thread nD τ) arr_sub1]
  change iprop(StableHlo.held (c.tc : Thread nD τ) (Pipeline.arrRefs spec1) (V8 m (outs m) c) ∗ (∃ r, prngReg c r)
    ∗ (StableHlo.held (c.tc : Thread nD τ) others1 (V8 m (outs m) c) ∗ semVal (barCell (C := call0) c) 0) ∗ semVal (barCell (C := call1) c) 0
    ∗ ∃ Wd, owes (c : Thread nD τ) (later (C := call1) c) Wd) ⊢ _
  unfold E
  iintro ⟨Ha, -, ⟨Ho, Hb⟩, Hb1, HW⟩
  isplitl [Ha Ho]
  · isplitl [Ha]; · iexact Ha
    iexact Ho
  isplitl [Hb Hb1]
  · isplitl [Hb]; · iexact Hb
    iexact Hb1
  iexact HW

/-! ## The launch -/

/-- What the launch makes of the ghost state: the pipelines' and the two calls'. -/
def u₀ : UU := (initOf (Pipeline.cells (Pipeline.pin (pcfgs (F := F)) adm) cellOf_inj) (Pipeline.launchToks (Pipeline.pin (pcfgs (F := F)) adm) cellOf_inj),
  (launchEl (C := call0), launchEl (C := call1)))

/-- The two calls' ghost state. -/
def launched : sProp 𝕄 := iprop(BI.own (ER (C := call0) (launchEl (C := call0))) ∗ BI.own (ER (C := call1) (launchEl (C := call1))))

/-- The launch hands it to device 0. -/
def G (c : Dev nD) : sProp 𝕄 := if c = 0 then launched else iprop(emp)

theorem rest_none : (bigSep (Finset.univ.erase (0 : Dev nD)) (G (F := F))) = iprop(emp) :=
  (bigSep_congr fun c hc => show G c = iprop(emp) from if_neg (Finset.ne_of_mem_erase hc)).trans (BI.bigSep_emp_const _)
theorem all_eq : bigSep Finset.univ (G (F := F)) = iprop(launched ∗ emp) := by
  rw [← Finset.insert_erase (Finset.mem_univ (0 : Dev nD)), bigSep_insert (Finset.notMem_erase _ _), rest_none, show (G 0 : sProp 𝕄) = launched from if_pos rfl]
  rfl
theorem start_all : (launched (F := F)) ⊢ bigSep Finset.univ G := by
  rw [all_eq]
  iintro H
  isplitl [H]; · iexact H
  iempintro
theorem all_start : bigSep Finset.univ G ⊢ (launched (F := F)) := by
  rw [all_eq]
  iintro ⟨H, -⟩
  iexact H

theorem hu₀ : (ownU (u₀ (F := F)) : sProp 𝕄) ⊢ |={Set.univ}=> iprop(BI.own (EP (initOf (Pipeline.cells (Pipeline.pin (pcfgs (F := F)) adm) cellOf_inj)
    (Pipeline.launchToks (Pipeline.pin (pcfgs (F := F)) adm) cellOf_inj))) ∗ bigSep Finset.univ G) := by
  have h : BI.own ((EX : Emb (UB × UB) 𝕄) (launchEl (C := call0), launchEl (C := call1))) ⊢ (launched (F := F)) := own_pair_emb EX _ _
  unfold u₀
  iintro Hu
  ihave H := (ownU_pair _ _) $$ Hu
  icases H with ⟨HP, HX⟩
  ihave HX := h $$ HX
  ihave HX := start_all $$ HX
  imodintro
  isplitl [HP] <;> iassumption

theorem unscopedSems0_eq (c : Dev nD) : (unscopedSems0 c : sProp 𝕄) = iprop(semVal (barCell (C := call0) c) 0 ∗ semVal (barCell (C := call1) c) 0) := by
  unfold unscopedSems0; rw [bigSep_eq_bigSepL_of_eq [SemLoc.reg (barS (C := call0)), SemLoc.reg (barS (C := call1))] (by decide +kernel) (by decide)]; rfl

variable (ρ : Dev nD → PrngReg)

theorem hE0 : iprop((bigSep Finset.univ fun c : Dev nD => iprop(unscopedSems0 c ∗ owes (c : Thread nD τ) (owedAll c) ∅ ∗ Pipeline.launchCred owedAll c ∗ prngReg c (ρ c) ∗ G c)) ∗ levAts L lv)
      ⊢ (|={Set.univ}=> bigSep Finset.univ (E m 0) : sProp 𝕄) := by
  have hs : (bigSep Finset.univ fun c : Dev nD => (unscopedSems0 c : sProp 𝕄))
      ⊢ iprop((bigSep Finset.univ fun c : Dev nD => semVal (barCell (C := call0) c) 0) ∗ bigSep Finset.univ fun c : Dev nD => semVal (barCell (C := call1) c) 0) := by
    rw [← bigSep_sep']
    exact bigSep_mono fun c _ => by rw [unscopedSems0_eq]; exact BI.Entails.refl _
  have hj : iprop((bigSep Finset.univ fun c : Dev nD => kept (C := call0) (X0 m) c) ∗ (bigSep Finset.univ fun c : Dev nD => kept (C := call1) (X1 m) c)
      ∗ (bigSep Finset.univ fun c : Dev nD => owes (c : Thread nD τ) (owedAll c) ∅) ∗ (bigSep Finset.univ fun c : Dev nD => Pipeline.launchCred owedAll c)
      ∗ bigSep Finset.univ fun c : Dev nD => prngReg c (ρ c)) ⊢ bigSep Finset.univ (E m 0) := by
    rw [← bigSep_sep', ← bigSep_sep', ← bigSep_sep', ← bigSep_sep']
    have hc (c : Dev nD) : iprop(kept (C := call0) (X0 m) c ∗ kept (C := call1) (X1 m) c ∗ owes (c : Thread nD τ) (owedAll c) ∅
        ∗ Pipeline.launchCred owedAll c ∗ prngReg c (ρ c)) ⊢ E m 0 c := ?_
    · exact bigSep_mono fun c _ => hc c
    unfold E forNext
    iintro ⟨H0, H1, HO, Hc, Hr⟩
    ihave Hc := (dues_intro (F := F) c) $$ Hc
    icases Hc with ⟨Hc0, Hc1⟩
    isplitl [Hr]; · (iexists _; iexact Hr)
    isplitl [H0 Hc0]
    · isplitl [H0] <;> iassumption
    isplitl [H1 Hc1]
    · isplitl [H1] <;> iassumption
    iexists _
    iexact HO
  have hg := all_start (F := F)
  unfold launched at hg
  have hd0 := deal (C := call0) (X0 m)
  have hd1 := deal (C := call1) (X1 m)
  rw [bigSep_sep', bigSep_sep', bigSep_sep', bigSep_sep']
  iintro ⟨⟨Hs, HO, Hc, Hr, HG⟩, -⟩
  ihave Hs := hs $$ Hs
  icases Hs with ⟨Hs0, Hs1⟩
  ihave HG := hg $$ HG
  icases HG with ⟨HG0, HG1⟩
  imod hd0 $$ [Hs0 HG0] with H0
  · isplitl [Hs0] <;> iassumption
  imod hd1 $$ [Hs1 HG1] with H1
  · isplitl [Hs1] <;> iassumption
  imodintro
  iapply hj
  isplitl [H0]; · iexact H0
  isplitl [H1]; · iexact H1
  isplitl [HO]; · iexact HO
  isplitl [Hc] <;> iassumption

/-! ## The run -/

/-- What a device's memory ends with. -/
def Ends (c : Dev nD) (s : MemSt nD τ sig (Elt F)) : Prop :=
  (∀ r : Ref sig .tc, r.isScoped = false → s.mem ((c : Thread nD τ).loc r) = V9 m (outs m) c r)
    ∧ s.sem (barCell (C := call0) c) = 0 ∧ s.sem (barCell (C := call1) c) = 0

theorem hfin (c : Dev nD) (s' : Phys nD τ sig (Elt F)) :
    iprop((StableHlo.held (c : Thread nD τ) (Pipeline.ucRefs τ sig) (V9 m (outs m) c) ∗ (semVal (barCell (C := call0) c) 0 ∗ semVal (barCell (C := call1) c) 0)) ∗ SI s')
      ⊢ (|={Set.univ}=> iprop(⌜Ends m c s'.mem⌝ ∗ SI s') : sProp 𝕄) := by
  unfold StableHlo.held
  iintro ⟨⟨Hh, Hb0, Hb1⟩, HSI⟩
  ihave Hr := (pointsTo_read_all (Pipeline.ucRefs τ sig) (fun b => ((c : Thread nD τ).1, b)) (V9 m (outs m) c) s') $$ [Hh HSI]
  · isplitl [Hh] <;> iassumption
  icases Hr with ⟨%h, HSI⟩
  icombine HSI Hb0 gives %hb0
  icombine HSI Hb1 gives %hb1
  imodintro
  isplitr
  · ipureintro
    exact ⟨fun r hr => h (Proc.devRef .tc r) (Finset.mem_filter.mpr ⟨StableHlo.devRef_mem_tcRefs r, by simpa using hr⟩), by simpa using hb0, by simpa using hb1⟩
  · iexact HSI

theorem last (c : Dev nD) : iprop(StableHlo.held (c : Thread nD τ) (Pipeline.ucRefs τ sig) (V9 m (outs m) c) ∗ E m 2 c)
    ⊢ iprop((StableHlo.held (c : Thread nD τ) (Pipeline.ucRefs τ sig) (V9 m (outs m) c)
      ∗ (semVal (barCell (C := call0) c) 0 ∗ semVal (barCell (C := call1) c) 0)) ∗ ∃ W, owes (c : Thread nD τ) (0 : CellTallies nD τ sig Unit) W) := by
  unfold E
  iintro ⟨Hh, Hb, HW⟩
  isplitl [Hh Hb]
  · isplitl [Hh] <;> iassumption
  iexact HW

theorem unscoped_eq : ∀ sm : SemLoc sig, sm.isScoped .tc = false → sm = .reg (barS (C := call0)) ∨ sm = .reg (barS (C := call1)) := by decide +kernel

set_option backward.isDefEq.respectTransparency.types false in
set_option maxHeartbeats 1600000 in
/-- On sixteen devices, for any float values, from any memory with zero counters: every weakly fair execution of the
    program terminates, and every final state has each device's buffers at the computed contents and every counter at zero. -/
theorem run_main : θ_run defs (onTc (τ := τ) (main (F := F))) ⟨m, fun _ => 0, ρ⟩ (fun r =>
    (∀ (c : Dev nD) (b : Ref sig .tc), b.isScoped = false → r.2.mem ((c : Thread nD τ).loc b) = V9 m (outs m) c b) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (R0 m) (R1 m))
    (fun c Q => by
      rewrite [main_chain c, Seg.run_eq_chain,
        show (segs m (outs m) 𝒱₀ L lv (E m) () (pdats m) (R0 m) (R1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) owedAll (fun g => L_of_ne (C := call0) g) G u₀ hu₀
    (T₀ := fun c => iprop(StableHlo.held (c : Thread nD τ) (Pipeline.ucRefs τ sig) (V0 m c) ∗ E m 0 c))
    (Tₙ := fun c => iprop(StableHlo.held (c : Thread nD τ) (Pipeline.ucRefs τ sig) (V9 m (outs m) c)
      ∗ (semVal (barCell (C := call0) c) 0 ∗ semVal (barCell (C := call1) c) 0)))
    (hch := fun c => ⟨.rfl, .rfl, .rfl, hpre0 m c, hpost0 m c, .rfl, .rfl, hpre1 m c, hpost1 m c, last m c⟩)
    (hinit := ?_) (QY := fun c s => Ends m c s) (hfin := fun c s' => hfin m c s') (hQ := fun s h hs => ?_)
  · have hsplit : (bigSep Finset.univ fun c : Dev nD => iprop(unscopedBufs c (fun b => m ((c.tc : Thread nD τ).loc b)) ∗ unscopedSems0 c
          ∗ owes (c.tc : Thread nD τ) (owedAll c) ∅ ∗ Pipeline.launchCred owedAll c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owedAll c) ∅ ∗ Pipeline.launchCred owedAll c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    have he := hE0 m ρ
    iintro ⟨H, Hla⟩
    ihave H' := hsplit $$ H
    icases H' with ⟨Hh, Hr⟩
    imod he $$ [Hr Hla] with HE
    · isplitl [Hr]; · iexact Hr
      iexact Hla
    imodintro
    rw [bigSep_sep']
    isplitl [Hh]; · iexact Hh
    iexact HE
  · exact ⟨fun c b hb => (h c).1 b hb, sem_eq_zero hs fun c sm hsm => by
      rcases unscoped_eq sm hsm with rfl | rfl
      · exact (h c).2.1
      · exact (h c).2.2⟩

end

end Cert.ResidualProof

end
-- ==== Proof.Value.lean ====
/- The value of the result at the extended reals: each element is the base array's plus the gate's times the sum of the
   sixteen devices' partial sums. -/
module

public import proofs.«01_k».proof.Proof.Main
public import Idealize.ShloMosaic.PureOps.Ideal.Laws
public import Idealize.ShloMosaic.Lib.Pipeline.Value

@[expose] public section

set_option maxRecDepth 16384

noncomputable section

namespace Cert.ResidualProof

open Cert.KernelIdeal Cert.KernelIdeal.Gen
open Idealize.ShloMosaic
open Idealize.ShloMosaic.TcCoe
open Idealize.SL Idealize.SL.Sem

variable (X : Inp Ideal)

/-- A block's number as a number below 32, and element `i` of block `k` as an index of the whole array. -/
def bF (d : Dev nD) (h : Fin 2) (g j : Fin 4) : Fin 32 := ⟨blk d h g j, blk_lt d h g j⟩
def cellOf32 (k : Fin 32) (i : S32x768.Idx) : S1024x768.Idx := (rRow (rowOff k.val) (row_inb k.val k.isLt)).emb i

/-- Elements of the inputs and of a register, as extended reals. -/
def pE (d : Dev nD) (x : S1024x768.Idx) : EReal := X.p d x
def bE (d : Dev nD) (x : S1024x768.Idx) : EReal := X.b d x
def gE (d : Dev nD) (x : S2x768.Idx) : EReal := X.g d x
def outE (x : S1024x768.Idx) : EReal := outAt X x
def rE (v : Reg Ideal) (i : S32x768.Idx) : EReal := v i

/-- The sum of the named devices' elements, each from the named block. -/
def sm (i : S32x768.Idx) (l : List (Dev nD × Fin 32)) : EReal := (l.map fun x => pE X x.1 (cellOf32 x.2 i)).sum

theorem sm_pv (i : S32x768.Idx) (d : Dev nD) (h : Fin 2) (g j : Fin 4) :
    rE (pv X d h g j) i = sm X i [(d, bF d h g j)] := by
  unfold sm
  rw [List.map_singleton, List.sum_singleton]
  rfl

theorem sm_add {i : S32x768.Idx} {u v : Reg Ideal} {l l' : List (Dev nD × Fin 32)} (hu : rE u i = sm X i l)
    (hv : rE v i = sm X i l') : rE (addf (F := Ideal) (φ := .f32) u v) i = sm X i (l ++ l') := by
  unfold sm at *
  rw [List.map_append, List.sum_append, ← hu, ← hv]
  rfl

/-! ## Which devices' chunks each sum adds up -/

def la1 (d : Dev nD) (c : Nat) : List (Dev nD × Fin 32) := [(nb 1 d, bF (nb 1 d) 0 3 (ng c))]
def la2 (d : Dev nD) (c : Nat) : List (Dev nD × Fin 32) := [(nb 0 d, bF (nb 0 d) 0 0 (ng c))]
def la5 (d : Dev nD) (c : Nat) : List (Dev nD × Fin 32) := [(d, bF d 0 2 (ng c))] ++ la1 d c
def la4 (d : Dev nD) (c : Nat) : List (Dev nD × Fin 32) := ([(d, bF d 0 1 (ng c))] ++ la2 d c) ++ la5 (nb 1 d) c
def lb1 (d : Dev nD) (c : Nat) : List (Dev nD × Fin 32) := [(nb 0 d, bF (nb 0 d) 1 1 (ng c))]
def lb2 (d : Dev nD) (c : Nat) : List (Dev nD × Fin 32) := [(nb 1 d, bF (nb 1 d) 1 0 (ng c))]
def lb5 (d : Dev nD) (c : Nat) : List (Dev nD × Fin 32) := [(d, bF d 1 2 (ng c))] ++ lb1 d c
def lb4 (d : Dev nD) (c : Nat) : List (Dev nD × Fin 32) := ([(d, bF d 1 3 (ng c))] ++ lb2 d c) ++ lb5 (nb 0 d) c
def lta (d : Dev nD) : List (Dev nD × Fin 32) := (la4 d 3 ++ la4 (nb 2 d) 0) ++ (la4 (nb 3 d) 2 ++ la4 (nb 3 (nb 3 d)) 1)
def ltb (d : Dev nD) : List (Dev nD × Fin 32) := (lb4 d 3 ++ lb4 (nb 3 d) 2) ++ (lb4 (nb 2 d) 0 ++ lb4 (nb 2 (nb 2 d)) 1)

theorem a5_sm (i : S32x768.Idx) (d : Dev nD) (c : Nat) : rE (a5 X d c) i = sm X i (la5 d c) :=
  sm_add X (sm_pv X i ..) (sm_pv X i ..)

theorem at4_sm (i : S32x768.Idx) (d : Dev nD) (c : Nat) : rE (at4 X d c) i = sm X i (la4 d c) :=
  sm_add X (sm_add X (sm_pv X i ..) (sm_pv X i ..)) (a5_sm X i ..)

theorem b5_sm (i : S32x768.Idx) (d : Dev nD) (c : Nat) : rE (b5 X d c) i = sm X i (lb5 d c) :=
  sm_add X (sm_pv X i ..) (sm_pv X i ..)

theorem bt4_sm (i : S32x768.Idx) (d : Dev nD) (c : Nat) : rE (bt4 X d c) i = sm X i (lb4 d c) :=
  sm_add X (sm_add X (sm_pv X i ..) (sm_pv X i ..)) (b5_sm X i ..)

theorem ta_sm (i : S32x768.Idx) (d : Dev nD) : rE (ta X d) i = sm X i (lta d) :=
  sm_add X (sm_add X (at4_sm X i ..) (at4_sm X i ..)) (sm_add X (at4_sm X i ..) (at4_sm X i ..))

theorem tb_sm (i : S32x768.Idx) (d : Dev nD) : rE (tb X d) i = sm X i (ltb d) :=
  sm_add X (sm_add X (bt4_sm X i ..) (bt4_sm X i ..)) (sm_add X (bt4_sm X i ..) (bt4_sm X i ..))

/-- They are all sixteen devices' chunks, each once, at the same place. -/
theorem lta_perm (d : Dev nD) : (lta d).Perm ((List.finRange nD).map fun e => (e, bF d 0 1 1)) := by
  revert d; decide +kernel

theorem ltb_perm (d : Dev nD) : (ltb d).Perm ((List.finRange nD).map fun e => (e, bF d 1 3 1)) := by
  revert d; decide +kernel

theorem sm_all {i : S32x768.Idx} {l : List (Dev nD × Fin 32)} {k : Fin 32} (h : l.Perm ((List.finRange nD).map fun e => (e, k))) :
    sm X i l = ∑ e : Dev nD, pE X e (cellOf32 k i) := by
  unfold sm
  rw [(h.map _).sum_eq, List.map_map, ← List.sum_ofFn, List.ofFn_eq_map]
  rfl

theorem ta_sum (i : S32x768.Idx) (d : Dev nD) : rE (ta X d) i = ∑ e : Dev nD, pE X e (cellOf32 (bF d 0 1 1) i) :=
  (ta_sm X i d).trans (sm_all X (lta_perm d))

theorem tb_sum (i : S32x768.Idx) (d : Dev nD) : rE (tb X d) i = ∑ e : Dev nD, pE X e (cellOf32 (bF d 1 3 1) i) :=
  (tb_sm X i d).trans (sm_all X (ltb_perm d))

/-! ## The owner of a block, and its gate's row -/

theorem own_bA : ∀ k : Fin 32, k.val / 4 % 2 = 0 → bF (ownA k.val) 0 1 1 = k := by decide +kernel
theorem own_bB : ∀ k : Fin 32, k.val / 4 % 2 ≠ 0 → bF (ownB k.val) 1 3 1 = k := by decide +kernel
theorem goffA : ∀ k : Fin 32, k.val / 4 % 2 = 0 → goff (ownA k.val) 0 0 = k.val / 16 ∧ goff (ownA k.val) 0 1 = 0 := by decide +kernel
theorem goffB : ∀ k : Fin 32, k.val / 4 % 2 ≠ 0 → goff (ownB k.val) 1 0 = k.val / 16 ∧ goff (ownB k.val) 1 1 = 0 := by decide +kernel

/-- The gate's element that multiplies the element at `x`. -/
def gIx (x : S1024x768.Idx) : S2x768.Idx
  | ⟨0, _⟩ => ⟨(x 0).val / 512, by have h : (x 0).val < 1024 := (x 0).isLt; change _ < 2; omega⟩
  | ⟨1, _⟩ => x 1

def kOf (x : S1024x768.Idx) : Fin 32 := ⟨(x 0).val / 32, by have h : (x 0).val < 1024 := (x 0).isLt; omega⟩

theorem cell_kOf (x : S1024x768.Idx) : cellOf32 (kOf x) (inBlk x) = x := by
  refine funext fun a => Fin.ext ?_
  fin_cases a
  · change 32 * ((x 0).val / 32) + 1 * ((x 0).val % 32) = (x 0).val
    omega
  · change 0 + 1 * (x 1).val = (x 1).val
    omega

theorem gv_apply (d : Dev nD) (h : Fin 2) (x : S1024x768.Idx) (h0 : goff d h 0 = (kOf x).val / 16) (h1 : goff d h 1 = 0) :
    rE (gv X d h) (inBlk x) = gE X d (gIx x) := by
  unfold rE gE gv inG
  rw [shapeCast_self]
  change X.g d _ = X.g d _
  congr 1
  refine funext fun a => Fin.ext ?_
  fin_cases a
  · change goff d h 0 + 1 * 0 = (x 0).val / 512
    rw [h0]
    change (x 0).val / 32 / 16 + _ = _
    omega
  · change goff d h 1 + 1 * (x 1).val = (x 1).val
    rw [h1]
    omega

/-- The result, element by element. -/
theorem outAt_apply (x : S1024x768.Idx) : ∃ d : Dev nD, outE X x =
    bE X d x + gE X d (gIx x) * ∑ e : Dev nD, pE X e x := by
  change ∃ d : Dev nD, rE (outBlk X (kOf x).val) (inBlk x) = _
  unfold outBlk
  by_cases hk : (kOf x).val / 4 % 2 = 0
  · refine ⟨ownA (kOf x).val, ?_⟩
    rw [if_pos hk]
    change (rE (bv X _ 0 1 1) (inBlk x) + rE (gv X _ 0) (inBlk x) * rE (ta X _) (inBlk x)) = _
    rw [ta_sum, gv_apply X _ 0 x (goffA _ hk).1 (goffA _ hk).2]
    change ((bE X _ (cellOf32 (bF (ownA (kOf x).val) 0 1 1) (inBlk x))) + _) = _
    rw [own_bA _ hk, cell_kOf]
  · refine ⟨ownB (kOf x).val, ?_⟩
    rw [if_neg hk]
    change (rE (bv X _ 1 3 1) (inBlk x) + rE (gv X _ 1) (inBlk x) * rE (tb X _) (inBlk x)) = _
    rw [tb_sum, gv_apply X _ 1 x (goffB _ hk).1 (goffB _ hk).2]
    change ((bE X _ (cellOf32 (bF (ownB (kOf x).val) 1 3 1) (inBlk x))) + _) = _
    rw [own_bB _ hk, cell_kOf]

end Cert.ResidualProof

end
-- ==== Proof.Terms.lean ====
/- The layers of the model as terms of the host operations: the modulation vectors, the layer norm in the two ways the programs
   divide by its root, attention over four heads (a device) and over sixty-four (the reference), and the gated unit. -/
module

public import proofs.«01_k».proof.Proof.Gen.KernelIdeal
public import proofs.«01_k».proof.Proof.Gen.ReferenceIdeal
public import Idealize.ShloMosaic.Lib.StableHlo.Run

@[expose] public section

set_option maxRecDepth 16384

noncomputable section

namespace Cert.ResidualModel

open Idealize.ShloMosaic

variable {F : FTy → Type} [FloatOps F]

/-! ### What both programs compute on whole arrays -/

section Whole

open Cert.KernelIdeal Cert.KernelIdeal.Gen

/-- A number for every position. -/
abbrev Acts (F : FTy → Type) : Type := FVec F S2x512x768 .f32
/-- One of the six modulation vectors. -/
abbrev Row (F : FTy → Type) : Type := FVec F S2x768 .f32

/-- The six modulation vectors side by side. -/
def modOf (t : FVec F S2x128 .f32) (w : FVec F S128x4608 .f32) : FVec F S2x4608 .f32 :=
  Host.dotGeneral dot_S2x128_S128x4608_S2x4608_1_0_0_1_n_n none t w

def scaleA (v : FVec F S2x4608 .f32) : Row F := extractStridedSlice S2x768 ![0, 0] v slices_S2x4608_S2x768_0_0
def shiftA (v : FVec F S2x4608 .f32) : Row F := extractStridedSlice S2x768 ![0, 768] v slices_S2x4608_S2x768_0_768
def gateA (v : FVec F S2x4608 .f32) : Row F := extractStridedSlice S2x768 ![0, 1536] v slices_S2x4608_S2x768_0_1536
def scaleM (v : FVec F S2x4608 .f32) : Row F := extractStridedSlice S2x768 ![0, 2304] v slices_S2x4608_S2x768_0_2304
def shiftM (v : FVec F S2x4608 .f32) : Row F := extractStridedSlice S2x768 ![0, 3072] v slices_S2x4608_S2x768_0_3072
def gateM (v : FVec F S2x4608 .f32) : Row F := extractStridedSlice S2x768 ![0, 3840] v slices_S2x4608_S2x768_0_3840

/-- A sum per position, kept as a column. -/
def sumCol (x : Acts F) : FVec F S2x512x1 .f32 :=
  broadcastInDim S2x512x1 ![0, 1] bcast_S2x512_S2x512x1_0_1
    (Host.reduceAdd x (constant S_ .f32 0x00000000#32) reducesTo_S2x512x768_S2x512_d2 h_S_)

/-- A column repeated along the features. -/
def wide (u : FVec F S2x512x1 .f32) : Acts F := broadcastInDim S2x512x768 ![0, 1, 2] bcast_S2x512x1_S2x512x768_0_1_2 u

/-- The mean of each position's features. -/
def meanOf (x : Acts F) : FVec F S2x512x1 .f32 :=
  Host.divf (sumCol x) (broadcastInDim S2x512x1 ![] bcast_S_S2x512x1 (constant S_ .f32 0x44400000#32))

/-- The features less their mean. -/
def devOf (x : Acts F) : Acts F := subf x (wide (meanOf x))

/-- How many features the variance divides by. -/
def countOf : FVec F S_ .f32 := subf (constant S_ .f32 0x44400000#32) (sitofp .f32 (constantI S_ 32 0#32))

/-- The variance of each position's features. -/
def varOf (x : Acts F) : FVec F S2x512x1 .f32 :=
  select (broadcastInDim S2x512x1 ![] bcast_S_S2x512x1 (cmpf .ogt (countOf (F := F)) (constant S_ .f32 0x00000000#32)))
    (Host.divf (sumCol (mulf (devOf x) (devOf x))) (broadcastInDim S2x512x1 ![] bcast_S_S2x512x1 countOf))
    (broadcastInDim S2x512x1 ![] bcast_S_S2x512x1 (id (constant S_ .f32 0x7FC00000#32)))

/-- The variance and the small number under the root. -/
def underRoot (x : Acts F) : FVec F S2x512x1 .f32 :=
  addf (varOf x) (broadcastInDim S2x512x1 ![] bcast_S_S2x512x1 (constant S_ .f32 0x3727C5AC#32))

/-- A modulation vector for every position. -/
def spread (r : Row F) : Acts F :=
  broadcastInDim S2x512x768 ![0, 1, 2] bcast_S2x1x768_S2x512x768_0_1_2 (broadcastInDim S2x1x768 ![0, 2] bcast_S2x768_S2x1x768_0_2 r)

/-- Features scaled by one more than a vector and shifted by another. -/
def modulate (y : Acts F) (s h : Row F) : Acts F :=
  addf (mulf y (broadcastInDim S2x512x768 ![0, 1, 2] bcast_S2x1x768_S2x512x768_0_1_2
    (addf (broadcastInDim S2x1x768 ![] bcast_S_S2x1x768 (constant S_ .f32 0x3F800000#32))
      (broadcastInDim S2x1x768 ![0, 2] bcast_S2x768_S2x1x768_0_2 s)))) (spread h)

/-- The layer norm with the reciprocal of the root, modulated. -/
def normMul (x : Acts F) (s h : Row F) : Acts F := modulate (mulf (devOf x) (wide (Host.rsqrt (underRoot x)))) s h

/-- The layer norm with a quotient by the root, modulated. -/
def normDiv (x : Acts F) (s h : Row F) : Acts F := modulate (Host.divf (devOf x) (wide (Host.sqrt (underRoot x)))) s h

/-- The positions of the two sequences in one row of positions. -/
def flat (x : Acts F) : FVec F S1024x768 .f32 := shapeCast _ x shapeCasts_S2x512x768_S1024x768
/-- And back. -/
def unflat (x : FVec F S1024x768 .f32) : Acts F := shapeCast _ x shapeCasts_S1024x768_S2x512x768

end Whole

/-! ### One device's four heads and its share of the gated unit -/

namespace Part

open Cert.KernelIdeal Cert.KernelIdeal.Gen

def heads (x : Acts F) (w : FVec F S768x384 .f32) : FVec F S2x512x4x96 .f32 :=
  shapeCast _ (Host.dotGeneral dot_S2x512x768_S768x384_S2x512x384_2_0_01_1_n_n none x w) shapeCasts_S2x512x384_S2x512x4x96

def scores (q k : FVec F S2x512x4x96 .f32) : FVec F S2x4x512x512 .f32 :=
  mulf (Host.dotGeneral dot_S2x512x4x96_S2x512x4x96_S2x4x512x512_3_3_1_1_02_02 none q k)
    (broadcastInDim S2x4x512x512 ![] bcast_S_S2x4x512x512 (constant S_ .f32 0x3DD105EC#32))

def overKeys (u : FVec F S2x4x512 .f32) : FVec F S2x4x512x512 .f32 :=
  broadcastInDim S2x4x512x512 ![0, 1, 2, 3] bcast_S2x4x512x1_S2x4x512x512_0_1_2_3
    (broadcastInDim S2x4x512x1 ![0, 1, 2] bcast_S2x4x512_S2x4x512x1_0_1_2 u)

def rowMax (s : FVec F S2x4x512x512 .f32) : FVec F S2x4x512 .f32 :=
  Host.reduce FloatOps.maximumf s (constant S_ .f32 0xFF800000#32) reducesTo_S2x4x512x512_S2x4x512_d3 h_S_

def expOf (s : FVec F S2x4x512x512 .f32) : FVec F S2x4x512x512 .f32 :=
  Host.exp (subf s (overKeys (maximumf (broadcastInDim S2x4x512 ![] bcast_S_S2x4x512 (constant S_ .f32 0xFF800000#32)) (rowMax s))))

def rowSum (e : FVec F S2x4x512x512 .f32) : FVec F S2x4x512 .f32 :=
  Host.reduceAdd e (constant S_ .f32 0x00000000#32) reducesTo_S2x4x512x512_S2x4x512_d3 h_S_

def probs (e : FVec F S2x4x512x512 .f32) : FVec F S2x4x512x512 .f32 := Host.divf e (overKeys (rowSum e))

def mix (v : FVec F S2x512x4x96 .f32) (p : FVec F S2x4x512x512 .f32) : FVec F S2x512x384 .f32 :=
  shapeCast _ (transpose S2x512x4x96 [0, 3, 1, 2] (Host.dotGeneral dot_S2x512x4x96_S2x4x512x512_S2x4x96x512_1_3_3_2_02_01 none v p)
    transposes_S2x4x96x512_S2x512x4x96_0_3_1_2) shapeCasts_S2x512x4x96_S2x512x384

/-- The device's part of the attention. -/
def attend (x : Acts F) (wq wk wv : FVec F S768x384 .f32) : FVec F S2x512x384 .f32 :=
  mix (heads x wv) (probs (expOf (scores (heads x wq) (heads x wk))))

/-- Its part of the attention's output. -/
def attnOut (x : Acts F) (wq wk wv : FVec F S768x384 .f32) (wo : FVec F S384x768 .f32) : Acts F :=
  Host.dotGeneral dot_S2x512x384_S384x768_S2x512x768_2_0_01_1_n_n none (attend x wq wk wv) wo

def hidden (x : Acts F) (w : FVec F S768x192 .f32) : FVec F S2x512x192 .f32 :=
  Host.dotGeneral dot_S2x512x768_S768x192_S2x512x192_2_0_01_1_n_n none x w

/-- A product with one over one more than the exponential of the negative. -/
def gated (h : FVec F S2x512x192 .f32) : FVec F S2x512x192 .f32 :=
  mulf h (Host.divf (broadcastInDim S2x512x192 ![] bcast_S_S2x512x192 (constant S_ .f32 0x3F800000#32))
    (addf (broadcastInDim S2x512x192 ![] bcast_S_S2x512x192 (constant S_ .f32 0x3F800000#32)) (Host.exp (Host.negf h))))

/-- Its part of the gated unit's output. -/
def unitOut (x : Acts F) (w1 : FVec F S768x192 .f32) (w2 : FVec F S192x768 .f32) : Acts F :=
  Host.dotGeneral dot_S2x512x192_S192x768_S2x512x768_2_0_01_1_n_n none (gated (hidden x w1)) w2

end Part

/-! ### All sixty-four heads and the whole gated unit -/

namespace Full

open Cert.ReferenceIdeal Cert.ReferenceIdeal.Gen

def heads (x : Acts F) (w : FVec F S768x6144 .f32) : FVec F S2x512x64x96 .f32 :=
  shapeCast _ (Host.dotGeneral dot_S2x512x768_S768x6144_S2x512x6144_2_0_01_1_n_n none x w) shapeCasts_S2x512x6144_S2x512x64x96

def scores (q k : FVec F S2x512x64x96 .f32) : FVec F S2x64x512x512 .f32 :=
  mulf (Host.dotGeneral dot_S2x512x64x96_S2x512x64x96_S2x64x512x512_3_3_1_1_02_02 none q k)
    (broadcastInDim S2x64x512x512 ![] bcast_S_S2x64x512x512 (constant S_ .f32 0x3DD105EC#32))

def overKeys (u : FVec F S2x64x512 .f32) : FVec F S2x64x512x512 .f32 :=
  broadcastInDim S2x64x512x512 ![0, 1, 2, 3] bcast_S2x64x512x1_S2x64x512x512_0_1_2_3
    (broadcastInDim S2x64x512x1 ![0, 1, 2] bcast_S2x64x512_S2x64x512x1_0_1_2 u)

def rowMax (s : FVec F S2x64x512x512 .f32) : FVec F S2x64x512 .f32 :=
  Host.reduce FloatOps.maximumf s (constant S_ .f32 0xFF800000#32) reducesTo_S2x64x512x512_S2x64x512_d3 h_S_

def expOf (s : FVec F S2x64x512x512 .f32) : FVec F S2x64x512x512 .f32 :=
  Host.exp (subf s (overKeys (maximumf (broadcastInDim S2x64x512 ![] bcast_S_S2x64x512 (constant S_ .f32 0xFF800000#32)) (rowMax s))))

def rowSum (e : FVec F S2x64x512x512 .f32) : FVec F S2x64x512 .f32 :=
  Host.reduceAdd e (constant S_ .f32 0x00000000#32) reducesTo_S2x64x512x512_S2x64x512_d3 h_S_

def probs (e : FVec F S2x64x512x512 .f32) : FVec F S2x64x512x512 .f32 := Host.divf e (overKeys (rowSum e))

def mix (v : FVec F S2x512x64x96 .f32) (p : FVec F S2x64x512x512 .f32) : FVec F S2x512x6144 .f32 :=
  shapeCast _ (transpose S2x512x64x96 [0, 3, 1, 2] (Host.dotGeneral dot_S2x512x64x96_S2x64x512x512_S2x64x96x512_1_3_3_2_02_01 none v p)
    transposes_S2x64x96x512_S2x512x64x96_0_3_1_2) shapeCasts_S2x512x64x96_S2x512x6144

/-- The attention. -/
def attend (x : Acts F) (wq wk wv : FVec F S768x6144 .f32) : FVec F S2x512x6144 .f32 :=
  mix (heads x wv) (probs (expOf (scores (heads x wq) (heads x wk))))

/-- The attention's output. -/
def attnOut (x : Acts F) (wq wk wv : FVec F S768x6144 .f32) (wo : FVec F S6144x768 .f32) : Acts F :=
  Host.dotGeneral dot_S2x512x6144_S6144x768_S2x512x768_2_0_01_1_n_n none (attend x wq wk wv) wo

def hidden (x : Acts F) (w : FVec F S768x3072 .f32) : FVec F S2x512x3072 .f32 :=
  Host.dotGeneral dot_S2x512x768_S768x3072_S2x512x3072_2_0_01_1_n_n none x w

/-- A quotient by one more than the exponential of the negative. -/
def gated (h : FVec F S2x512x3072 .f32) : FVec F S2x512x3072 .f32 :=
  Host.divf h (addf (broadcastInDim S2x512x3072 ![] bcast_S_S2x512x3072 (constant S_ .f32 0x3F800000#32)) (Host.exp (Host.negf h)))

/-- The gated unit's output. -/
def unitOut (x : Acts F) (w1 : FVec F S768x3072 .f32) (w2 : FVec F S3072x768 .f32) : Acts F :=
  Host.dotGeneral dot_S2x512x3072_S3072x768_S2x512x768_2_0_01_1_n_n none (gated (hidden x w1)) w2

end Full

end Cert.ResidualModel

end
-- ==== Proof.Host.lean ====
/- What the host operations before, between and after the two calls leave, as the layers of the model. -/
module

public import proofs.«01_k».proof.Proof.Terms
public import proofs.«01_k».proof.Proof.Gen.KernelIdeal.Launch
public import Idealize.ShloMosaic.Lib.StableHlo.RunRead

@[expose] public section

set_option maxRecDepth 16384

noncomputable section

namespace Cert.ResidualModel

open Idealize.ShloMosaic Idealize.ShloMosaic.StableHlo
open Cert.KernelIdeal Cert.KernelIdeal.Gen

variable {F : FTy → Type} [FloatOps F]
variable (V : Valuation τ sig (Elt F))

/-! ### Before the first call -/

/-- The six modulation vectors of a device's arguments. -/
def modK : FVec F S2x4608 .f32 := modOf (V (Proc.devRef .tc main_arg5)) (V (Proc.devRef .tc main_arg6))

theorem read_v2 : after hostOps0 V (Proc.devRef .tc main_v2) = scaleA (modK V) := by after_reads_simp; rfl
theorem read_v3 : after hostOps0 V (Proc.devRef .tc main_v3) = shiftA (modK V) := by after_reads_simp; rfl
theorem read_v4 : after hostOps0 V (Proc.devRef .tc main_v4) = gateA (modK V) := by after_reads_simp; rfl
theorem read_v5 : after hostOps0 V (Proc.devRef .tc main_v5) = scaleM (modK V) := by after_reads_simp; rfl
theorem read_v6 : after hostOps0 V (Proc.devRef .tc main_v6) = shiftM (modK V) := by after_reads_simp; rfl
theorem read_v7 : after hostOps0 V (Proc.devRef .tc main_v7) = gateM (modK V) := by after_reads_simp; rfl
theorem read_v11 : after hostOps0 V (Proc.devRef .tc main_v11) = meanOf (F := F) (V (Proc.devRef .tc main_arg0)) := by
  after_reads_simp; rfl
theorem read_c : after hostOps0 V (Proc.devRef .tc main_c) = constantI S_ 32 0#32 := by after_reads_simp

/-- The first variance. -/
theorem read_v12 (h : V (Proc.devRef .tc main_c) = constantI S_ 32 0#32) :
    after hostOps0_1 V (Proc.devRef .tc main_v12) = varOf (F := F) (V (Proc.devRef .tc main_arg0)) := by
  simp only [hostOps0_1, TRef.binary, TRef.nullary, TRef.ternary, TRef.unary, TRef.toBuf, TRef.ofBuf, cast_eq]
  after_reads_simp
  rw [h]; rfl

/-- A device's part of the attention's output: the first call's first operand. -/
theorem read_v52 (h11 : V (Proc.devRef .tc main_v11) = meanOf (F := F) (V (Proc.devRef .tc main_arg0)))
    (h12 : V (Proc.devRef .tc main_v12) = varOf (F := F) (V (Proc.devRef .tc main_arg0))) :
    after hostOps0_2 V (Proc.devRef .tc main_v52)
      = flat (F := F) (Part.attnOut (normMul (V (Proc.devRef .tc main_arg0)) (V (Proc.devRef .tc main_v2)) (V (Proc.devRef .tc main_v3)))
        (V (Proc.devRef .tc main_arg1)) (V (Proc.devRef .tc main_arg2)) (V (Proc.devRef .tc main_arg3)) (V (Proc.devRef .tc main_arg4))) := by
  after_reads_simp
  rw [h11, h12]; rfl

theorem read_v53 : after hostOps0_2 V (Proc.devRef .tc main_v53) = flat (F := F) (V (Proc.devRef .tc main_arg0)) := by
  after_reads_simp; rfl

/-! ### Between the two calls -/

theorem read_v55 : after hostOps1 V (Proc.devRef .tc main_v55) = unflat (F := F) (V (Proc.devRef .tc main_v54)) := by
  after_reads_simp; rfl
theorem read_v59 : after hostOps1 V (Proc.devRef .tc main_v59) = meanOf (F := F) (unflat (V (Proc.devRef .tc main_v54))) := by
  after_reads_simp; rfl
theorem read_c9 : after hostOps1 V (Proc.devRef .tc main_c_9) = constantI S_ 32 0#32 := by after_reads_simp

/-- The second variance. -/
theorem read_v60 (h : V (Proc.devRef .tc main_c_9) = constantI S_ 32 0#32) :
    after hostOps1_1 V (Proc.devRef .tc main_v60) = varOf (F := F) (V (Proc.devRef .tc main_v55)) := by
  simp only [hostOps1_1, TRef.binary, TRef.nullary, TRef.ternary, TRef.unary, TRef.toBuf, TRef.ofBuf, cast_eq]
  after_reads_simp
  rw [h]; rfl

/-- A device's part of the gated unit's output: the second call's first operand. -/
theorem read_v85 (h59 : V (Proc.devRef .tc main_v59) = meanOf (F := F) (V (Proc.devRef .tc main_v55)))
    (h60 : V (Proc.devRef .tc main_v60) = varOf (F := F) (V (Proc.devRef .tc main_v55))) :
    after hostOps1_2 V (Proc.devRef .tc main_v85)
      = flat (F := F) (Part.unitOut (normMul (V (Proc.devRef .tc main_v55)) (V (Proc.devRef .tc main_v5)) (V (Proc.devRef .tc main_v6)))
        (V (Proc.devRef .tc main_arg7)) (V (Proc.devRef .tc main_arg8))) := by
  after_reads_simp
  rw [h59, h60]; rfl

/-! ### After the second call -/

theorem read_v87 : after hostOps2 V (Proc.devRef .tc main_v87) = unflat (F := F) (V (Proc.devRef .tc main_v86)) := by
  after_reads_simp; rfl

end Cert.ResidualModel

end
-- ==== Proof.Final.lean ====
/- What the two calls read, and the result after the run, as the layers of the model. -/
module

public import proofs.«01_k».proof.Proof.Value
public import proofs.«01_k».proof.Proof.Host

@[expose] public section

set_option maxRecDepth 16384

noncomputable section

namespace Cert.ResidualProof

open Cert.KernelIdeal Cert.KernelIdeal.Gen
open Idealize.ShloMosaic
open Idealize.ShloMosaic.TcCoe
open Idealize.SL Idealize.SL.Sem
open Cert.ResidualModel

variable {F : FTy → Type} [FloatOps F]
variable (m : (ℓ : Loc nD τ sig) → Buf (Elt F) ℓ) (c : Dev nD)

/-- A device's input. -/
def xK : Acts F := V0 m c main_arg0
/-- Its six modulation vectors. -/
def vK : FVec F S2x4608 .f32 := modK (V0 m c)

/-! ### The first call's operands -/

/-- A buffer that the operations up to the first call leave alone. -/
theorem V2_keep (r : Ref sig .tc) (h0 : r ∉ hostOps0_W) (h1 : r ∉ hostOps0_1_W) : V2 m c r = V0 m c r :=
  (V2_of m c r h1).trans (V1_of m c r h0)

theorem V2_11 : V2 m c main_v11 = meanOf (F := F) (V2 m c main_arg0) :=
  (V2_of m c main_v11 (by decide)).trans ((read_v11 (V0 m c)).trans (congrArg meanOf (V2_keep m c main_arg0 (by decide) (by decide)).symm))
theorem V2_12 : V2 m c main_v12 = varOf (F := F) (V2 m c main_arg0) :=
  (read_v12 (V1 m c) (read_c (V0 m c))).trans (congrArg varOf (V2_of m c main_arg0 (by decide)).symm)

/-- The device's part of the attention's output. -/
def attnK : Acts F :=
  Part.attnOut (normMul (xK m c) (scaleA (vK m c)) (shiftA (vK m c))) (V0 m c main_arg1) (V0 m c main_arg2) (V0 m c main_arg3) (V0 m c main_arg4)

theorem V3_52 : V3 m c main_v52 = flat (attnK m c) := by
  refine (read_v52 (V2 m c) (V2_11 m c) (V2_12 m c)).trans ?_
  have e0 := V2_keep m c main_arg0 (by decide) (by decide)
  have e1 := V2_keep m c main_arg1 (by decide) (by decide)
  have e2 := V2_keep m c main_arg2 (by decide) (by decide)
  have e3 := V2_keep m c main_arg3 (by decide) (by decide)
  have e4 := V2_keep m c main_arg4 (by decide) (by decide)
  have es := (V2_of m c main_v2 (by decide)).trans (read_v2 (V0 m c))
  have eh := (V2_of m c main_v3 (by decide)).trans (read_v3 (V0 m c))
  rw [e0, e1, e2, e3, e4, es, eh]
  rfl

theorem V3_53 : V3 m c main_v53 = flat (xK m c) :=
  (read_v53 (V2 m c)).trans (congrArg (flat (F := F)) (V2_keep m c main_arg0 (by decide) (by decide)))

theorem V3_4 : V3 m c main_v4 = gateA (vK m c) :=
  (V3_of m c main_v4 (by decide)).trans ((V2_of m c main_v4 (by decide)).trans (read_v4 (V0 m c)))

theorem X0_p : (X0 m).p c = flat (attnK m c) := by
  have hr := fun f => Memref.read_access_unit_zero (Elt F) main_v52 (off := fun a => (win0_0.index (0 : Fin 1)) a * main_v52.ty.shape.size a)
    (funext fun a => by fin_cases a <;> decide) (fun a => by fin_cases a <;> decide) f
  exact (hr _).trans (V3_52 m c)
theorem X0_b : (X0 m).b c = flat (xK m c) := by
  have hr := fun f => Memref.read_access_unit_zero (Elt F) main_v53 (off := fun a => (win0_1.index (0 : Fin 1)) a * main_v53.ty.shape.size a)
    (funext fun a => by fin_cases a <;> decide) (fun a => by fin_cases a <;> decide) f
  exact (hr _).trans (V3_53 m c)
theorem X0_g : (X0 m).g c = gateA (vK m c) := by
  have hr := fun f => Memref.read_access_unit_zero (Elt F) main_v4 (off := fun a => (win0_2.index (0 : Fin 1)) a * main_v4.ty.shape.size a)
    (funext fun a => by fin_cases a <;> decide) (fun a => by fin_cases a <;> decide) f
  exact (hr _).trans (V3_4 m c)

/-! ### The second call's operands -/

/-- The block between the two calls, the same on every device. -/
def midK : Acts F := unflat (outAt (X0 m))

theorem V4_54 : V4 m (outs0 m) c main_v54 = outAt (X0 m) := outs_54 m c

/-- A buffer that the operations between the calls, and the first call, leave alone. -/
theorem V6_keep (r : Ref sig .tc) (h4 : r ∉ ([main_v54] : List (Ref sig .tc))) (h5 : r ∉ hostOps1_W) (h6 : r ∉ hostOps1_1_W) :
    V6 m (outs0 m) c r = V3 m c r :=
  (V6_of m (outs0 m) c r h6).trans ((V5_of m (outs0 m) c r h5).trans (V4_of m (outs0 m) c r h4))

/-- A modulation vector is there until the second call. -/
theorem V3_keep (r : Ref sig .tc) (h1 : r ∉ hostOps0_1_W) (h2 : r ∉ hostOps0_2_W) : V3 m c r = V1 m c r :=
  (V3_of m c r h2).trans (V2_of m c r h1)

theorem V5_55 : V5 m (outs0 m) c main_v55 = midK m :=
  (read_v55 (V4 m (outs0 m) c)).trans (congrArg (unflat (F := F)) (V4_54 m c))
theorem V6_55 : V6 m (outs0 m) c main_v55 = midK m := (V6_of m (outs0 m) c main_v55 (by decide)).trans (V5_55 m c)
theorem V6_59 : V6 m (outs0 m) c main_v59 = meanOf (F := F) (V6 m (outs0 m) c main_v55) :=
  (V6_of m (outs0 m) c main_v59 (by decide)).trans ((read_v59 (V4 m (outs0 m) c)).trans
    (congrArg meanOf ((congrArg (unflat (F := F)) (V4_54 m c)).trans (V6_55 m c).symm)))
theorem V6_60 : V6 m (outs0 m) c main_v60 = varOf (F := F) (V6 m (outs0 m) c main_v55) :=
  (read_v60 (V5 m (outs0 m) c) (read_c9 (V4 m (outs0 m) c))).trans (congrArg varOf (V6_of m (outs0 m) c main_v55 (by decide)).symm)

/-- The device's part of the gated unit's output. -/
def unitK : Acts F :=
  Part.unitOut (normMul (midK m) (scaleM (vK m c)) (shiftM (vK m c))) (V0 m c main_arg7) (V0 m c main_arg8)

theorem V7_85 : V7 m (outs0 m) c main_v85 = flat (unitK m c) := by
  refine (read_v85 (V6 m (outs0 m) c) (V6_59 m c) (V6_60 m c)).trans ?_
  have e7 := (V6_keep m c main_arg7 (by decide) (by decide) (by decide)).trans
    ((V3_of m c main_arg7 (by decide)).trans (V2_keep m c main_arg7 (by decide) (by decide)))
  have e8 := (V6_keep m c main_arg8 (by decide) (by decide) (by decide)).trans
    ((V3_of m c main_arg8 (by decide)).trans (V2_keep m c main_arg8 (by decide) (by decide)))
  have es := (V6_keep m c main_v5 (by decide) (by decide) (by decide)).trans
    ((V3_keep m c main_v5 (by decide) (by decide)).trans (read_v5 (V0 m c)))
  have eh := (V6_keep m c main_v6 (by decide) (by decide) (by decide)).trans
    ((V3_keep m c main_v6 (by decide) (by decide)).trans (read_v6 (V0 m c)))
  rw [V6_55, e7, e8, es, eh]
  rfl

theorem V7_54 : V7 m (outs0 m) c main_v54 = outAt (X0 m) :=
  (V7_of m (outs0 m) c main_v54 (by decide)).trans ((V6_of m (outs0 m) c main_v54 (by decide)).trans
    ((V5_of m (outs0 m) c main_v54 (by decide)).trans (V4_54 m c)))

theorem V7_7 : V7 m (outs0 m) c main_v7 = gateM (vK m c) :=
  (V7_of m (outs0 m) c main_v7 (by decide)).trans ((V6_keep m c main_v7 (by decide) (by decide) (by decide)).trans
    ((V3_keep m c main_v7 (by decide) (by decide)).trans (read_v7 (V0 m c))))

theorem X1_p : (X1 m).p c = flat (unitK m c) := by
  have hr := fun f => Memref.read_access_unit_zero (Elt F) main_v85 (off := fun a => (win1_0.index (0 : Fin 1)) a * main_v85.ty.shape.size a)
    (funext fun a => by fin_cases a <;> decide) (fun a => by fin_cases a <;> decide) f
  exact (hr _).trans (V7_85 m c)
theorem X1_b : (X1 m).b c = outAt (X0 m) := by
  have hr := fun f => Memref.read_access_unit_zero (Elt F) main_v54 (off := fun a => (win1_1.index (0 : Fin 1)) a * main_v54.ty.shape.size a)
    (funext fun a => by fin_cases a <;> decide) (fun a => by fin_cases a <;> decide) f
  exact (hr _).trans (V7_54 m c)
theorem X1_g : (X1 m).g c = gateM (vK m c) := by
  have hr := fun f => Memref.read_access_unit_zero (Elt F) main_v7 (off := fun a => (win1_2.index (0 : Fin 1)) a * main_v7.ty.shape.size a)
    (funext fun a => by fin_cases a <;> decide) (fun a => by fin_cases a <;> decide) f
  exact (hr _).trans (V7_7 m c)

/-! ### The result -/

/-- What the run leaves in every device's result. -/
def endK : Acts F := unflat (outAt (X1 m))

theorem V9_87 : V9 m (outs m) c main_v87 = endK m :=
  (read_v87 (V8 m (outs m) c)).trans (congrArg (unflat (F := F)) (outs_86 m c))

/-- The run of the whole program: every device's result is the two calls' and what is around them, the arguments are as they
    were, and every counter is zero. -/
theorem run_all (ρ : Dev nD → PrngReg) : θ_run defs (onTc (τ := τ) (main (F := F))) ⟨m, fun _ => 0, ρ⟩ (fun r => (∀ c : Dev nD,
      r.2.mem ((c.tc : Thread nD τ).loc main_v87) = endK m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => ⟨(h.1 c main_v87 (by decide)).trans (V9_87 m c),
    (h.1 c main_arg0 (by decide)).trans (V9_main_arg0 m (outs m) c),
    (h.1 c main_arg1 (by decide)).trans (V9_main_arg1 m (outs m) c),
    (h.1 c main_arg2 (by decide)).trans (V9_main_arg2 m (outs m) c),
    (h.1 c main_arg3 (by decide)).trans (V9_main_arg3 m (outs m) c),
    (h.1 c main_arg4 (by decide)).trans (V9_main_arg4 m (outs m) c),
    (h.1 c main_arg5 (by decide)).trans (V9_main_arg5 m (outs m) c),
    (h.1 c main_arg6 (by decide)).trans (V9_main_arg6 m (outs m) c),
    (h.1 c main_arg7 (by decide)).trans (V9_main_arg7 m (outs m) c),
    (h.1 c main_arg8 (by decide)).trans (V9_main_arg8 m (outs m) c)⟩, h.2⟩) (run_main (F := F) m ρ)

/-- Of that, the part that does not say what is computed. -/
theorem run_frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => (h.1 c).2, h.2⟩) (run_all (F := F) m ρ)

end Cert.ResidualProof

end
-- ==== Proof.Ref.lean ====
/- The reference's result as the layers of the model. -/
module

public import proofs.«01_k».proof.Proof.Terms
public import proofs.«01_k».proof.Proof.Gen.ReferenceIdeal.Run

@[expose] public section

set_option maxRecDepth 16384

noncomputable section

namespace Cert.ResidualModel

open Idealize.ShloMosaic
open Cert.ReferenceIdeal Cert.ReferenceIdeal.Gen

variable {F : FTy → Type} [FloatOps F]

/-- The block after the attention's gated residual: `v` is the six modulation vectors. -/
def refMid (x : Acts F) (v : FVec F S2x4608 .f32) (wq wk wv : FVec F S768x6144 .f32) (wo : FVec F S6144x768 .f32) : Acts F :=
  addf x (mulf (spread (gateA v)) (Full.attnOut (normDiv x (scaleA v) (shiftA v)) wq wk wv wo))

/-- The block after the gated unit's residual. -/
def refEnd (x : Acts F) (v : FVec F S2x4608 .f32) (w1 : FVec F S768x3072 .f32) (w2 : FVec F S3072x768 .f32) : Acts F :=
  addf x (mulf (spread (gateM v)) (Full.unitOut (normDiv x (scaleM v) (shiftM v)) w1 w2))

variable (V : Valuation τ sig (Elt F))

def vArg0 : Acts F := V (Proc.devRef .tc main_arg0)
def vMod : FVec F S2x4608 .f32 := modOf (V (Proc.devRef .tc main_arg5)) (V (Proc.devRef .tc main_arg6))
/-- The reference's first residual, of its arguments. -/
def vMid : Acts F :=
  refMid (vArg0 V) (vMod V) (V (Proc.devRef .tc main_arg1)) (V (Proc.devRef .tc main_arg2)) (V (Proc.devRef .tc main_arg3)) (V (Proc.devRef .tc main_arg4))
/-- Its result, of its arguments. -/
def vEnd : Acts F := refEnd (vMid V) (vMod V) (V (Proc.devRef .tc main_arg7)) (V (Proc.devRef .tc main_arg8))

theorem mod_eq : Value.res_main_v0 V = vMod V := rfl
theorem norm0_eq : Value.res_main_v26 V = normDiv (vArg0 V) (scaleA (vMod V)) (shiftA (vMod V)) := rfl
theorem scores_eq : Value.res_main_v35 V = Full.scores (Full.heads (Value.res_main_v26 V) (V (Proc.devRef .tc main_arg1)))
    (Full.heads (Value.res_main_v26 V) (V (Proc.devRef .tc main_arg2))) := rfl
theorem exp_eq : Value.res_main_v42 V = Full.expOf (Value.res_main_v35 V) := rfl

theorem mid_eq : Value.res_main_v54 V = vMid V := by
  have h : Value.res_main_v54 V = addf (vArg0 V) (mulf (spread (gateA (Value.res_main_v0 V)))
    (Host.dotGeneral dot_S2x512x6144_S6144x768_S2x512x768_2_0_01_1_n_n none
      (Full.mix (Full.heads (Value.res_main_v26 V) (V (Proc.devRef .tc main_arg3))) (Full.probs (Value.res_main_v42 V)))
      (V (Proc.devRef .tc main_arg4)))) := rfl
  rw [h, exp_eq, scores_eq, norm0_eq, mod_eq]
  rfl

theorem hidden_eq : Value.res_main_v75 V = Full.hidden (normDiv (vMid V) (scaleM (vMod V)) (shiftM (vMod V))) (V (Proc.devRef .tc main_arg7)) := by
  have h : Value.res_main_v75 V = Full.hidden (normDiv (Value.res_main_v54 V) (scaleM (Value.res_main_v0 V)) (shiftM (Value.res_main_v0 V)))
    (V (Proc.devRef .tc main_arg7)) := rfl
  rw [h, mid_eq, mod_eq]

/-- The reference's run leaves the model's value in its result, and its arguments as they were. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = vEnd (F := F) (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨(h c).1.trans ?_, (h c).2⟩) (Value.run (F := F) m ρ)
  rw [mid_eq, hidden_eq, mod_eq]
  rfl

end Cert.ResidualModel

end
-- ==== Proof.Heads.lean ====
/- Each device's heads are its four of the sixty-four, and its hidden units its part of them all; so the devices' outputs sum to
   the reference's. -/
module

public import proofs.«01_k».proof.Proof.Terms
public import Idealize.ShloMosaic.Lib.Pointwise

@[expose] public section

set_option maxRecDepth 16384

noncomputable section

namespace Cert.ResidualModel

open Idealize.ShloMosaic
open scoped BigOperators

/-- Head `h` of device `c` among all. -/
def hd (c : Fin 16) (h : Fin 4) : Fin 64 := ⟨c.val * 4 + h.val, by omega⟩
/-- Column `k` of device `c`'s heads among all. -/
def col (c : Fin 16) (k : Fin 384) : Fin 6144 := ⟨c.val * 384 + k.val, by omega⟩
/-- Hidden unit `k` of device `c` among all. -/
def unit (c : Fin 16) (k : Fin 192) : Fin 3072 := ⟨c.val * 192 + k.val, by omega⟩

variable (c : Fin 16)

/-- A device's array per position and head is its part of the whole one. -/
def SameHeads (u : FVec Ideal Cert.KernelIdeal.S2x512x4x96 .f32) (u' : FVec Ideal Cert.ReferenceIdeal.S2x512x64x96 .f32) : Prop :=
  ∀ (b : Fin 2) (i : Fin 512) (h : Fin 4) (d : Fin 96), u (ix4 b i h d) = u' (ix4 b i (hd c h) d)

/-- The same for an array per head, query and key. -/
def SameMaps (u : FVec Ideal Cert.KernelIdeal.S2x4x512x512 .f32) (u' : FVec Ideal Cert.ReferenceIdeal.S2x64x512x512 .f32) : Prop :=
  ∀ (b : Fin 2) (h : Fin 4) (i j : Fin 512), u (ix4 b h i j) = u' (ix4 b (hd c h) i j)

/-- The device's matrix is its columns of the whole one. -/
def SameCols (w : FVec Ideal Cert.KernelIdeal.S768x384 .f32) (w' : FVec Ideal Cert.ReferenceIdeal.S768x6144 .f32) : Prop :=
  ∀ (e : Fin 768) (k : Fin 384), w (ix2 e k) = w' (ix2 e (col c k))

variable {c}

theorem heads_same (x : Acts Ideal) {w : FVec Ideal Cert.KernelIdeal.S768x384 .f32} {w' : FVec Ideal Cert.ReferenceIdeal.S768x6144 .f32}
    (hw : SameCols c w w') : SameHeads c (Part.heads x w) (Full.heads x w') := fun b i h d => by
  pointwise [Part.heads, Full.heads]
  refine Finset.sum_congr rfl fun e _ => ?_
  rw [hw]
  refine congrArg (fun k => x _ * w' (ix2 e k)) (Fin.ext ?_)
  simp only [col, hd]
  omega

theorem scores_same {q k : FVec Ideal Cert.KernelIdeal.S2x512x4x96 .f32} {q' k' : FVec Ideal Cert.ReferenceIdeal.S2x512x64x96 .f32}
    (hq : SameHeads c q q') (hk : SameHeads c k k') : SameMaps c (Part.scores q k) (Full.scores q' k') := fun b h i j => by
  pointwise [Part.scores, Full.scores]
  simp only [hq b, hk b]

/-- A maximum over the last of four axes, read at an index. -/
theorem reduce_last {n q k : Nat} {u : Shape} (x : FVec Ideal ⟨4, ![2, n, q, k]⟩ .f32) (init : FVec Ideal u .f32)
    (h' : (⟨4, ![2, n, q, k]⟩ : Shape).ReducesTo [3] ⟨3, ![2, n, q]⟩) (h : (⟨4, ![2, n, q, k]⟩ : Shape).Reduces [3] ⟨3, ![2, n, q]⟩)
    (hu : 0 < u.numel) (b : Fin 2) (e : Fin n) (i : Fin q) :
    Host.reduce FloatOps.maximumf x init h' hu (ix3 b e i)
      = Finset.fold FloatOps.maximumf (init (Shape.Idx.first hu)) (fun j : Fin k => x (ix4 b e i j)) Finset.univ := by
  rw [Host.reduce_eq_fold_single FloatOps.maximumf x init h' h hu]
  refine congrArg (fun f => Finset.fold FloatOps.maximumf (init (Shape.Idx.first hu)) f (Finset.univ : Finset (Fin k)))
    (funext fun j => congrArg x (funext fun a => Fin.ext ?_))
  fin_cases a <;> rfl

theorem rowMax_same {s : FVec Ideal Cert.KernelIdeal.S2x4x512x512 .f32} {s' : FVec Ideal Cert.ReferenceIdeal.S2x64x512x512 .f32}
    (hs : SameMaps c s s') (b : Fin 2) (h : Fin 4) (i : Fin 512) : Part.rowMax s (ix3 b h i) = Full.rowMax s' (ix3 b (hd c h) i) := by
  refine (reduce_last s _ _ (by decide) _ b h i).trans (Eq.trans ?_ (reduce_last s' _ _ (by decide) _ b (hd c h) i).symm)
  exact congrArg (fun f => Finset.fold FloatOps.maximumf _ f (Finset.univ : Finset (Fin 512))) (funext fun j => hs b h i j)

theorem over_part (u : FVec Ideal Cert.KernelIdeal.S2x4x512 .f32) (b : Fin 2) (h : Fin 4) (i j : Fin 512) :
    Part.overKeys u (ix4 b h i j) = u (ix3 b h i) := by pointwise [Part.overKeys]
theorem over_full (u : FVec Ideal Cert.ReferenceIdeal.S2x64x512 .f32) (b : Fin 2) (h : Fin 64) (i j : Fin 512) :
    Full.overKeys u (ix4 b h i j) = u (ix3 b h i) := by pointwise [Full.overKeys]

theorem expOf_part (s : FVec Ideal Cert.KernelIdeal.S2x4x512x512 .f32) (b : Fin 2) (h : Fin 4) (i j : Fin 512) :
    Part.expOf s (ix4 b h i j) = Ideal.exp (s (ix4 b h i j) - max (Ideal.ofBits .f32 0xFF800000#32) (Part.rowMax s (ix3 b h i))) := by
  unfold Part.expOf
  rw [Host.exp_apply, subf_apply, over_part, maximumf_apply]
  rfl
theorem expOf_full (s : FVec Ideal Cert.ReferenceIdeal.S2x64x512x512 .f32) (b : Fin 2) (h : Fin 64) (i j : Fin 512) :
    Full.expOf s (ix4 b h i j) = Ideal.exp (s (ix4 b h i j) - max (Ideal.ofBits .f32 0xFF800000#32) (Full.rowMax s (ix3 b h i))) := by
  unfold Full.expOf
  rw [Host.exp_apply, subf_apply, over_full, maximumf_apply]
  rfl

theorem expOf_same {s : FVec Ideal Cert.KernelIdeal.S2x4x512x512 .f32} {s' : FVec Ideal Cert.ReferenceIdeal.S2x64x512x512 .f32}
    (hs : SameMaps c s s') : SameMaps c (Part.expOf s) (Full.expOf s') := fun b h i j => by
  rw [expOf_part, expOf_full, hs b, rowMax_same hs]

theorem rowSum_same {s : FVec Ideal Cert.KernelIdeal.S2x4x512x512 .f32} {s' : FVec Ideal Cert.ReferenceIdeal.S2x64x512x512 .f32}
    (hs : SameMaps c s s') (b : Fin 2) (h : Fin 4) (i : Fin 512) : Part.rowSum s (ix3 b h i) = Full.rowSum s' (ix3 b (hd c h) i) := by
  pointwise [Part.rowSum, Full.rowSum]
  exact Finset.sum_congr rfl fun j _ => hs b h i j

theorem probs_same {s : FVec Ideal Cert.KernelIdeal.S2x4x512x512 .f32} {s' : FVec Ideal Cert.ReferenceIdeal.S2x64x512x512 .f32}
    (hs : SameMaps c s s') : SameMaps c (Part.probs s) (Full.probs s') := fun b h i j => by
  unfold Part.probs Full.probs
  rw [Host.divf_apply, Host.divf_apply, over_part, over_full, hs b, rowSum_same hs]

theorem mix_same {v : FVec Ideal Cert.KernelIdeal.S2x512x4x96 .f32} {v' : FVec Ideal Cert.ReferenceIdeal.S2x512x64x96 .f32}
    {p : FVec Ideal Cert.KernelIdeal.S2x4x512x512 .f32} {p' : FVec Ideal Cert.ReferenceIdeal.S2x64x512x512 .f32}
    (hv : SameHeads c v v') (hp : SameMaps c p p') (b : Fin 2) (i : Fin 512) (k : Fin 384) :
    Part.mix v p (ix3 b i k) = Full.mix v' p' (ix3 b i (col c k)) := by
  pointwise [Part.mix, Full.mix]
  refine Finset.sum_congr rfl fun j _ => ?_
  rw [hv, hp]
  have h1 : ∀ hh, (⟨(col c k).val / 96, hh⟩ : Fin 64) = hd c ⟨k.val / 96, by omega⟩ := fun _ => Fin.ext (by simp only [col, hd]; omega)
  have h2 : ∀ hh, (⟨(col c k).val % 96, hh⟩ : Fin 96) = ⟨k.val % 96, by omega⟩ := fun _ => Fin.ext (by simp only [col]; omega)
  rw [h1, h2]

/-- A device's attention is its part of the whole. -/
theorem attend_same (x : Acts Ideal) {wq wk wv : FVec Ideal Cert.KernelIdeal.S768x384 .f32}
    {wq' wk' wv' : FVec Ideal Cert.ReferenceIdeal.S768x6144 .f32} (hq : SameCols c wq wq') (hk : SameCols c wk wk') (hv : SameCols c wv wv')
    (b : Fin 2) (i : Fin 512) (k : Fin 384) :
    Part.attend x wq wk wv (ix3 b i k) = Full.attend x wq' wk' wv' (ix3 b i (col c k)) :=
  mix_same (heads_same x hv) (probs_same (expOf_same (scores_same (heads_same x hq) (heads_same x hk)))) b i k

/-- A sum over all columns, device by device. -/
theorem sum_cols (f : Fin 6144 → EReal) : ∑ e : Fin 16, ∑ k : Fin 384, f (col e k) = ∑ k, f k := by
  rw [← Fintype.sum_prod_type']
  exact Fintype.sum_equiv (finProdFinEquiv (m := 16) (n := 384)) _ _ fun x => congrArg f (Fin.ext (by
    simp only [col, finProdFinEquiv_apply_val]; omega))

/-- A sum over all hidden units, device by device. -/
theorem sum_units (f : Fin 3072 → EReal) : ∑ e : Fin 16, ∑ k : Fin 192, f (unit e k) = ∑ k, f k := by
  rw [← Fintype.sum_prod_type']
  exact Fintype.sum_equiv (finProdFinEquiv (m := 16) (n := 192)) _ _ fun x => congrArg f (Fin.ext (by
    simp only [unit, finProdFinEquiv_apply_val]; omega))

/-- The devices' parts of the attention's output sum to it. -/
theorem attnOut_sum (x : Acts Ideal) (wq wk wv : Fin 16 → FVec Ideal Cert.KernelIdeal.S768x384 .f32) (wo : Fin 16 → FVec Ideal Cert.KernelIdeal.S384x768 .f32)
    (wq' wk' wv' : FVec Ideal Cert.ReferenceIdeal.S768x6144 .f32) (wo' : FVec Ideal Cert.ReferenceIdeal.S6144x768 .f32)
    (hq : ∀ e, SameCols e (wq e) wq') (hk : ∀ e, SameCols e (wk e) wk') (hv : ∀ e, SameCols e (wv e) wv')
    (ho : ∀ (e : Fin 16) (k : Fin 384) (l : Fin 768), wo e (ix2 k l) = wo' (ix2 (col e k) l)) (b : Fin 2) (i : Fin 512) (l : Fin 768) :
    ∑ e : Fin 16, (Part.attnOut x (wq e) (wk e) (wv e) (wo e) (ix3 b i l) : EReal) = Full.attnOut x wq' wk' wv' wo' (ix3 b i l) := by
  pointwise [Part.attnOut, Full.attnOut]
  rw [← sum_cols]
  refine Finset.sum_congr rfl fun e _ => Finset.sum_congr rfl fun k _ => ?_
  rw [attend_same x (hq e) (hk e) (hv e), ho]

/-! ### The gated unit -/

theorem exp_nonneg (x : EReal) : 0 ≤ Ideal.exp x := by
  induction x with
  | bot => exact le_of_eq rfl
  | top => exact le_top
  | coe r => exact EReal.coe_nonneg.mpr (Real.exp_pos r).le

/-- A product with a reciprocal is a quotient where the divisor is not zero. -/
theorem mul_one_div {y : EReal} (h : y ≠ 0) (x : EReal) : x * Ideal.div 1 y = Ideal.div x y := by
  rw [Ideal.div, Ideal.div, if_neg h, if_neg h, one_mul]

theorem one_add_exp_ne (x : EReal) : (1 : EReal) + Ideal.exp x ≠ 0 :=
  ne_of_gt (lt_of_lt_of_le zero_lt_one (le_add_of_nonneg_right (exp_nonneg x)))

theorem gated_same {h : FVec Ideal Cert.KernelIdeal.S2x512x192 .f32} {h' : FVec Ideal Cert.ReferenceIdeal.S2x512x3072 .f32}
    (hh : ∀ b i k, h (ix3 b i k) = h' (ix3 b i (unit c k))) (b : Fin 2) (i : Fin 512) (k : Fin 192) :
    Part.gated h (ix3 b i k) = Full.gated h' (ix3 b i (unit c k)) := by
  pointwise [Part.gated, Full.gated]
  rw [hh]
  exact mul_one_div (one_add_exp_ne _) _

theorem hidden_same (x : Acts Ideal) {w : FVec Ideal Cert.KernelIdeal.S768x192 .f32} {w' : FVec Ideal Cert.ReferenceIdeal.S768x3072 .f32}
    (hw : ∀ (e : Fin 768) (k : Fin 192), w (ix2 e k) = w' (ix2 e (unit c k))) (b : Fin 2) (i : Fin 512) (k : Fin 192) :
    Part.hidden x w (ix3 b i k) = Full.hidden x w' (ix3 b i (unit c k)) := by
  pointwise [Part.hidden, Full.hidden]
  exact Finset.sum_congr rfl fun e _ => by rw [hw]

/-- The devices' parts of the gated unit's output sum to it. -/
theorem unitOut_sum (x : Acts Ideal) (w1 : Fin 16 → FVec Ideal Cert.KernelIdeal.S768x192 .f32) (w2 : Fin 16 → FVec Ideal Cert.KernelIdeal.S192x768 .f32)
    (w1' : FVec Ideal Cert.ReferenceIdeal.S768x3072 .f32) (w2' : FVec Ideal Cert.ReferenceIdeal.S3072x768 .f32)
    (h1 : ∀ (e : Fin 16) (j : Fin 768) (k : Fin 192), w1 e (ix2 j k) = w1' (ix2 j (unit e k)))
    (h2 : ∀ (e : Fin 16) (k : Fin 192) (l : Fin 768), w2 e (ix2 k l) = w2' (ix2 (unit e k) l)) (b : Fin 2) (i : Fin 512) (l : Fin 768) :
    ∑ e : Fin 16, (Part.unitOut x (w1 e) (w2 e) (ix3 b i l) : EReal) = Full.unitOut x w1' w2' (ix3 b i l) := by
  pointwise [Part.unitOut, Full.unitOut]
  rw [← sum_units]
  refine Finset.sum_congr rfl fun e _ => Finset.sum_congr rfl fun k _ => ?_
  rw [gated_same (fun b i k => hidden_same x (h1 e) b i k), h2]

end Cert.ResidualModel

end
-- ==== Proof.Norm.lean ====
/- A layer norm that multiplies by the reciprocal of the root is the one that divides by the root: the number under the root is
   positive. -/
module

public import proofs.«01_k».proof.Proof.Terms
public import Idealize.ShloMosaic.Lib.Pointwise

@[expose] public section

set_option maxRecDepth 16384

noncomputable section

namespace Cert.ResidualModel

open Idealize.ShloMosaic
open scoped BigOperators
open Cert.KernelIdeal Cert.KernelIdeal.Gen

/-- The number of features. -/
theorem bits_768 : Ideal.ofBits .f32 0x44400000#32 = ((768 : ℝ) : EReal) := by
  simp [Ideal.ofBits, Ideal.ieee, -EReal.coe_mul]; norm_num
/-- The small number under the root. -/
theorem bits_eps : ∃ r : ℝ, 0 < r ∧ Ideal.ofBits .f32 0x3727C5AC#32 = (r : EReal) := by
  refine ⟨10995116 * (2 : ℝ) ^ (-40 : Int), by positivity, ?_⟩
  simp [Ideal.ofBits, Ideal.ieee, -EReal.coe_mul]

theorem sq_nonneg' (x : EReal) : 0 ≤ x * x := by
  induction x with
  | bot => simp
  | top => simp
  | coe r => rw [← EReal.coe_mul]; exact EReal.coe_nonneg.mpr (mul_self_nonneg r)

/-- A product with the reciprocal of a positive number's root is a quotient by its root. -/
theorem mul_rsqrt {w : EReal} (h : 0 < w) (x : EReal) : x * Ideal.rsqrt w = Ideal.div x (Ideal.sqrt w) := by
  induction w with
  | bot => exact absurd h (by simp)
  | top => simp [Ideal.div]
  | coe r =>
    have hr : 0 < r := EReal.coe_pos.mp h
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div_coe hs, one_div]

/-- The variance divides by the number of features. -/
theorem count_eq (j : S_.Idx) : (countOf (F := Ideal) j : EReal) = ((768 : ℝ) : EReal) := by
  pointwise [countOf]
  rw [bits_768, show (FloatOps.sitofp .f32 (0#32 : BitVec 32) : Ideal .f32) = (0 : EReal) from by
    change (((0#32 : BitVec 32).toInt : ℝ) : EReal) = 0
    simp, sub_zero]

theorem sumSq_nonneg (x : Acts Ideal) (b : Fin 2) (i : Fin 512) : (0 : EReal) ≤ sumCol (mulf x x) (ix3 b i 0) := by
  pointwise [sumCol]
  exact Finset.sum_nonneg fun k _ => sq_nonneg' _

theorem var_nonneg (x : Acts Ideal) (b : Fin 2) (i : Fin 512) : (0 : EReal) ≤ varOf x (ix3 b i 0) := by
  have h : (varOf x (ix3 b i 0) : EReal) = if 0 < (countOf (F := Ideal) ix0 : EReal)
      then Ideal.div (sumCol (mulf (devOf x) (devOf x)) (ix3 b i 0)) (countOf (F := Ideal) ix0)
      else id (constant (F := Ideal) S_ .f32 0x7FC00000#32) ix0 := by pointwise [varOf]
  rw [h, count_eq, if_pos (EReal.coe_pos.mpr (by norm_num)), Ideal.div_coe (by norm_num)]
  exact mul_nonneg (sumSq_nonneg (devOf x) b i) (EReal.coe_nonneg.mpr (by norm_num))

/-- The number under the root is positive. -/
theorem underRoot_pos (x : Acts Ideal) (b : Fin 2) (i : Fin 512) : (0 : EReal) < underRoot x (ix3 b i 0) := by
  obtain ⟨r, hr, he⟩ := bits_eps
  have h : (underRoot x (ix3 b i 0) : EReal) = varOf x (ix3 b i 0) + Ideal.ofBits .f32 0x3727C5AC#32 := by pointwise [underRoot]
  rw [h, he]
  exact lt_of_lt_of_le (EReal.coe_pos.mpr hr) (le_add_of_nonneg_left (var_nonneg x b i))

/-- The two layer norms are one. -/
theorem norm_same (x : Acts Ideal) (s h : Row Ideal) : normMul x s h = normDiv x s h := by
  refine congrArg (fun y => modulate y s h) (funext fun j => ?_)
  obtain ⟨b, i, l, rfl⟩ : ∃ (b : Fin 2) (i : Fin 512) (l : Fin 768), j = ix3 b i l := ⟨j 0, j 1, j 2, eq_ix3 j⟩
  pointwise [wide]
  exact mul_rsqrt (underRoot_pos x b i) _

end Cert.ResidualModel

end
-- ==== Proof.Match.lean ====
/- The kernel's result is the reference's. -/
module

public import proofs.«01_k».proof.Proof.Final
public import proofs.«01_k».proof.Proof.Ref
public import proofs.«01_k».proof.Proof.Heads
public import proofs.«01_k».proof.Proof.Norm
public import Idealize.ShloMosaic.Lib.Layout

@[expose] public section

set_option maxRecDepth 16384

noncomputable section

namespace Cert.ResidualProof

open Cert.KernelIdeal Cert.KernelIdeal.Gen
open Idealize.ShloMosaic
open Idealize.ShloMosaic.TcCoe
open Idealize.SL Idealize.SL.Sem
open Cert.ResidualModel
open scoped BigOperators

/-! ### One call's result -/

/-- Position `i` of sequence `b` in the row of positions. -/
def cell (b : Fin 2) (i : Fin 512) (l : Fin 768) : S1024x768.Idx := ix2 ⟨b.val * 512 + i.val, by omega⟩ l

theorem unflat_apply (y : FVec Ideal S1024x768 .f32) (b : Fin 2) (i : Fin 512) (l : Fin 768) : unflat y (ix3 b i l) = y (cell b i l) := by
  pointwise [unflat, cell]
theorem unflat_flat (x : Acts Ideal) : unflat (flat x) = x := by
  funext j; pointwise [unflat, flat]
theorem flat_unflat (y : FVec Ideal S1024x768 .f32) : flat (unflat y) = y := by
  funext j; pointwise [unflat, flat]
theorem flat_apply (x : Acts Ideal) (b : Fin 2) (i : Fin 512) (l : Fin 768) : flat x (cell b i l) = x (ix3 b i l) :=
  (unflat_apply (flat x) b i l).symm.trans (congrFun (unflat_flat x) _)

theorem gIx_cell (b : Fin 2) (i : Fin 512) (l : Fin 768) : gIx (cell b i l) = ix2 b l := by
  funext a
  fin_cases a
  · refine Fin.ext ?_
    change (b.val * 512 + i.val) / 512 = b.val
    omega
  · rfl

/-- Where every device reads the same block `x` and the same gate `g`, and the devices' parts sum to `a`, a call leaves `x` and
    the gated `a`. -/
theorem residual (X : Inp Ideal) (P : Dev nD → Acts Ideal) (x a : Acts Ideal) (g : Row Ideal) (hp : ∀ c, X.p c = flat (P c))
    (hb : ∀ c, X.b c = flat x) (hg : ∀ c, X.g c = g) (hs : ∀ b i l, ∑ e : Dev nD, (P e (ix3 b i l) : EReal) = a (ix3 b i l)) :
    unflat (outAt X) = addf x (mulf (spread g) a) := by
  funext j
  obtain ⟨b, i, l, rfl⟩ : ∃ (b : Fin 2) (i : Fin 512) (l : Fin 768), j = ix3 b i l := ⟨j 0, j 1, j 2, eq_ix3 j⟩
  obtain ⟨d, hd⟩ := outAt_apply X (cell b i l)
  have eb : bE X d (cell b i l) = x (ix3 b i l) := (congrFun (hb d) _).trans (flat_apply x b i l)
  have eg : gE X d (gIx (cell b i l)) = g (ix2 b l) := (congrFun (hg d) _).trans (congrArg g (gIx_cell b i l))
  have ep : ∑ e : Dev nD, pE X e (cell b i l) = a (ix3 b i l) :=
    (Finset.sum_congr rfl fun e _ => (congrFun (hp e) _).trans (flat_apply (P e) b i l)).trans (hs b i l)
  rw [eb, eg, ep] at hd
  refine (unflat_apply (outAt X) b i l).trans ((show outAt X (cell b i l) = _ from hd).trans ?_)
  pointwise [spread]

/-! ### The devices' parts of the whole arrays -/

theorem block_cols {n k : Nat} {w : FVec Ideal ⟨2, ![768, n]⟩ .f32} {w' : FVec Ideal ⟨2, ![768, k]⟩ .f32} (h : Layout.Tiles ⟨2, ![768, n]⟩ ⟨2, ![768, k]⟩ 1 16)
    (c : Fin 16) (hw : w = Layout.block ⟨2, ![768, n]⟩ ⟨2, ![768, k]⟩ 1 16 c w' h) (e : Fin 768) (j : Fin n) (q : Fin k) (hq : q.val = c.val * n + j.val) :
    w (ix2 e j) = w' (ix2 e q) := by
  subst hw
  refine congrArg w' (funext fun a => Fin.ext ?_)
  fin_cases a
  · exact (Layout.idx_cols_val h c (ix2 e j)).1
  · exact ((Layout.idx_cols_val h c (ix2 e j)).2).trans hq.symm

theorem block_rows {n k : Nat} {w : FVec Ideal ⟨2, ![n, 768]⟩ .f32} {w' : FVec Ideal ⟨2, ![k, 768]⟩ .f32} (h : Layout.Tiles ⟨2, ![n, 768]⟩ ⟨2, ![k, 768]⟩ 0 16)
    (c : Fin 16) (hw : w = Layout.block ⟨2, ![n, 768]⟩ ⟨2, ![k, 768]⟩ 0 16 c w' h) (j : Fin n) (l : Fin 768) (q : Fin k) (hq : q.val = c.val * n + j.val) :
    w (ix2 j l) = w' (ix2 q l) := by
  subst hw
  refine congrArg w' (funext fun a => Fin.ext ?_)
  fin_cases a
  · exact ((Layout.idx_rows_val h c (ix2 j l)).1).trans hq.symm
  · exact (Layout.idx_rows_val h c (ix2 j l)).2

/-! ### The whole kernel -/

section
variable (m : (ℓ : Loc nD τ sig) → Buf (Elt Ideal) ℓ) (V : Valuation Cert.ReferenceIdeal.τ Cert.ReferenceIdeal.sig (Elt Ideal))

/-- The devices' inputs are the reference's, whole or their columns or rows. -/
structure Inputs : Prop where
  x : ∀ c, xK m c = vArg0 V
  v : ∀ c, vK m c = vMod V
  wq : ∀ c : Fin 16, SameCols c (V0 m c main_arg1) (V (Proc.devRef .tc Cert.ReferenceIdeal.main_arg1))
  wk : ∀ c : Fin 16, SameCols c (V0 m c main_arg2) (V (Proc.devRef .tc Cert.ReferenceIdeal.main_arg2))
  wv : ∀ c : Fin 16, SameCols c (V0 m c main_arg3) (V (Proc.devRef .tc Cert.ReferenceIdeal.main_arg3))
  wo : ∀ (c : Fin 16) (k : Fin 384) (l : Fin 768), (V0 m c main_arg4 : FVec Ideal S384x768 .f32) (ix2 k l)
    = (V (Proc.devRef .tc Cert.ReferenceIdeal.main_arg4) : FVec Ideal Cert.ReferenceIdeal.S6144x768 .f32) (ix2 (col c k) l)
  w1 : ∀ (c : Fin 16) (e : Fin 768) (k : Fin 192), (V0 m c main_arg7 : FVec Ideal S768x192 .f32) (ix2 e k)
    = (V (Proc.devRef .tc Cert.ReferenceIdeal.main_arg7) : FVec Ideal Cert.ReferenceIdeal.S768x3072 .f32) (ix2 e (unit c k))
  w2 : ∀ (c : Fin 16) (k : Fin 192) (l : Fin 768), (V0 m c main_arg8 : FVec Ideal S192x768 .f32) (ix2 k l)
    = (V (Proc.devRef .tc Cert.ReferenceIdeal.main_arg8) : FVec Ideal Cert.ReferenceIdeal.S3072x768 .f32) (ix2 (unit c k) l)

variable {m V}

/-- The block between the calls is the reference's first residual. -/
theorem mid_same (h : Inputs m V) : midK m = vMid V := by
  refine residual (X0 m) (attnK m) (vArg0 V) _ (gateA (vMod V)) (X0_p m) (fun c => (X0_b m c).trans (congrArg flat (h.x c)))
    (fun c => (X0_g m c).trans (congrArg gateA (h.v c))) fun b i l => ?_
  have e : ∀ c, attnK m c = Part.attnOut (normDiv (vArg0 V) (scaleA (vMod V)) (shiftA (vMod V))) (V0 m c main_arg1) (V0 m c main_arg2)
      (V0 m c main_arg3) (V0 m c main_arg4) := fun c => by
    unfold attnK
    rw [h.x, h.v, norm_same]
  rw [Finset.sum_congr rfl fun c _ => congrFun (e c) _]
  exact attnOut_sum _ _ _ _ _ _ _ _ _ h.wq h.wk h.wv h.wo b i l

/-- The kernel's result is the reference's. -/
theorem end_same (h : Inputs m V) : endK m = vEnd V := by
  refine residual (X1 m) (unitK m) (vMid V) _ (gateM (vMod V)) (X1_p m)
    (fun c => (X1_b m c).trans ((flat_unflat _).symm.trans (congrArg flat (mid_same h)))) (fun c => (X1_g m c).trans (congrArg gateM (h.v c))) fun b i l => ?_
  have e : ∀ c, unitK m c = Part.unitOut (normDiv (vMid V) (scaleM (vMod V)) (shiftM (vMod V))) (V0 m c main_arg7) (V0 m c main_arg8) := fun c => by
    unfold unitK
    rw [mid_same h, h.v, norm_same]
  rw [Finset.sum_congr rfl fun c _ => congrFun (e c) _]
  exact unitOut_sum _ _ _ _ _ h.w1 h.w2 b i l

end

end Cert.ResidualProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Match
public import Idealize.ShloMosaic.Adequacy
public import Idealize.ShloMosaic.Init

@[expose] public section

set_option maxRecDepth 65536

noncomputable section

namespace Cert.Proof

open Idealize.ShloMosaic Idealize.SL.Sem Cert.Kernel

/-- The two programs' body tables are the same, for any float values. -/
theorem bodies_same {F : FTy → Type} [FloatOps F] : (Cert.Kernel.defs₀ (F := F)) = Cert.KernelIdeal.defs₀ (F := F) := by
  unfold Cert.Kernel.defs₀ Cert.KernelIdeal.defs₀
  refine congrArg Defs.onTc (funext fun l => ?_)
  match l with
  | ⟨0, _⟩ => exact funext fun _ => rfl
  | ⟨1, _⟩ => exact funext fun _ => rfl

theorem defs_same {F : FTy → Type} [FloatOps F] : (Cert.Kernel.defs (F := F)) = Cert.KernelIdeal.defs (F := F) := by
  unfold Cert.Kernel.defs
  exact congrArg _ bodies_same

set_option maxHeartbeats 4000000 in
/-- The program on sixteen devices, on words: it ends, its arguments unchanged and every counter at zero. The two
    programs have one text, so this is `ResidualProof.run_frame`, which holds for any float values. -/
theorem frame_kernel : Cert.quiescent_Kernel := fun m ρ _ => by
  rw [defs_same]
  exact Cert.ResidualProof.run_frame (F := Bits) m ρ

/-- The same at the extended reals. -/
theorem frame_kernelIdeal : Cert.quiescent_KernelIdeal := fun m ρ _ =>
  Cert.ResidualProof.run_frame (F := Ideal) m ρ

/-- The reference ends with its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem value : Cert.algebraic_KernelIdeal_ReferenceIdeal := by
  intro m ρ m' ρ' _ hm
  have hin : Cert.ResidualProof.Inputs m (StableHlo.launchContents m' (0 : Dev Cert.ReferenceIdeal.nD)) :=
    { x := fun c => (hm c).1
      v := fun c => congrArg₂ Cert.ResidualModel.modOf (hm c).2.2.2.2.2.1 (hm c).2.2.2.2.2.2.1
      wq := fun c e k => Cert.ResidualProof.block_cols (by decide) c (hm c).2.1 e k _ rfl
      wk := fun c e k => Cert.ResidualProof.block_cols (by decide) c (hm c).2.2.1 e k _ rfl
      wv := fun c e k => Cert.ResidualProof.block_cols (by decide) c (hm c).2.2.2.1 e k _ rfl
      wo := fun c k l => Cert.ResidualProof.block_rows (by decide) c (hm c).2.2.2.2.1 k l _ rfl
      w1 := fun c e k => Cert.ResidualProof.block_cols (by decide) c (hm c).2.2.2.2.2.2.2.1 e k _ rfl
      w2 := fun c k l => Cert.ResidualProof.block_rows (by decide) c (hm c).2.2.2.2.2.2.2.2 k l _ rfl }
  refine ⟨Cert.ResidualModel.vEnd (F := Ideal) (StableHlo.launchContents m' (0 : Dev Cert.ReferenceIdeal.nD)), ?_, ?_⟩
  · exact (θ_run Cert.KernelIdeal.defs _ _).mono (fun r h c => ⟨(h.1 c).1.trans (Cert.ResidualProof.end_same hin), (h.1 c).2⟩)
      (Cert.ResidualProof.run_all (F := Ideal) m ρ)
  · exact (θ_run Cert.ReferenceIdeal.defs _ _).mono (fun r h => h 0) (Cert.ResidualModel.ref_run (F := Ideal) m' ρ')

theorem claim : Cert.Claim := ⟨Cert.Kernel.Gen.facts, Cert.KernelIdeal.Gen.facts, Cert.ReferenceIdeal.Gen.facts,
  frame_kernel, frame_kernelIdeal, frame_reference, trivial, value⟩

end Cert.Proof

end
